-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)) (v2 : (c : Dev Cert.Kernel2Ideal.nD) → Buf (Elt Ideal) ((c.tc : Thread Cert.Kernel2Ideal.nD Cert.Kernel2Ideal.τ).loc Cert.Kernel2Ideal.main_v11_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_v11_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v85) = v1 c
          ∧ r.2.mem ((c.tc : Thread Cert.Reference2Ideal.nD Cert.Reference2Ideal.τ).loc Cert.Reference2Ideal.main_v84) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v41_0)) (v1 : (c : Dev Cert.Kernel3Ideal.nD) → Buf (Elt Ideal) ((c.tc : Thread Cert.Kernel3Ideal.nD Cert.Kernel3Ideal.τ).loc Cert.Kernel3Ideal.main_v41_1)) (v2 : (c : Dev Cert.Kernel3Ideal.nD) → Buf (Elt Ideal) ((c.tc : Thread Cert.Kernel3Ideal.nD Cert.Kernel3Ideal.τ).loc Cert.Kernel3Ideal.main_v41_2)) (v3 : (c : Dev Cert.Kernel3Ideal.nD) → Buf (Elt Ideal) ((c.tc : Thread Cert.Kernel3Ideal.nD Cert.Kernel3Ideal.τ).loc Cert.Kernel3Ideal.main_v41_3)) (v4 : (c : Dev Cert.Kernel3Ideal.nD) → Buf (Elt Ideal) ((c.tc : Thread Cert.Kernel3Ideal.nD Cert.Kernel3Ideal.τ).loc Cert.Kernel3Ideal.main_v41_4)) (v5 : (c : Dev Cert.Kernel3Ideal.nD) → Buf (Elt Ideal) ((c.tc : Thread Cert.Kernel3Ideal.nD Cert.Kernel3Ideal.τ).loc Cert.Kernel3Ideal.main_v41_5)) (v6 : (c : Dev Cert.Kernel3Ideal.nD) → Buf (Elt Ideal) ((c.tc : Thread Cert.Kernel3Ideal.nD Cert.Kernel3Ideal.τ).loc Cert.Kernel3Ideal.main_v41_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v41_0) = v0 c
          ∧ r.2.mem ((c.tc : Thread Cert.Kernel3Ideal.nD Cert.Kernel3Ideal.τ).loc Cert.Kernel3Ideal.main_v41_1) = v1 c
          ∧ r.2.mem ((c.tc : Thread Cert.Kernel3Ideal.nD Cert.Kernel3Ideal.τ).loc Cert.Kernel3Ideal.main_v41_2) = v2 c
          ∧ r.2.mem ((c.tc : Thread Cert.Kernel3Ideal.nD Cert.Kernel3Ideal.τ).loc Cert.Kernel3Ideal.main_v41_3) = v3 c
          ∧ r.2.mem ((c.tc : Thread Cert.Kernel3Ideal.nD Cert.Kernel3Ideal.τ).loc Cert.Kernel3Ideal.main_v41_4) = v4 c
          ∧ r.2.mem ((c.tc : Thread Cert.Kernel3Ideal.nD Cert.Kernel3Ideal.τ).loc Cert.Kernel3Ideal.main_v41_5) = v5 c
          ∧ r.2.mem ((c.tc : Thread Cert.Kernel3Ideal.nD Cert.Kernel3Ideal.τ).loc Cert.Kernel3Ideal.main_v41_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v107) = v0 c
          ∧ r.2.mem ((c.tc : Thread Cert.Reference3Ideal.nD Cert.Reference3Ideal.τ).loc Cert.Reference3Ideal.main_v108) = v1 c
          ∧ r.2.mem ((c.tc : Thread Cert.Reference3Ideal.nD Cert.Reference3Ideal.τ).loc Cert.Reference3Ideal.main_v109) = v2 c
          ∧ r.2.mem ((c.tc : Thread Cert.Reference3Ideal.nD Cert.Reference3Ideal.τ).loc Cert.Reference3Ideal.main_v110) = v3 c
          ∧ r.2.mem ((c.tc : Thread Cert.Reference3Ideal.nD Cert.Reference3Ideal.τ).loc Cert.Reference3Ideal.main_v112) = v4 c
          ∧ r.2.mem ((c.tc : Thread Cert.Reference3Ideal.nD Cert.Reference3Ideal.τ).loc Cert.Reference3Ideal.main_v113) = v5 c
          ∧ r.2.mem ((c.tc : Thread Cert.Reference3Ideal.nD Cert.Reference3Ideal.τ).loc Cert.Reference3Ideal.main_v114) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x4096x512 : Shape := ⟨3, ![8, 4096, 512]⟩
abbrev S8x4096x1024 : Shape := ⟨3, ![8, 4096, 1024]⟩
abbrev S8x6x1024 : Shape := ⟨3, ![8, 6, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩

class Facts : Prop where
  bcast_S_S8x6x1024 : S_.BroadcastsInDim S8x6x1024 (![] : Fin 0 → Fin S8x6x1024.rank)
  bcast_S_S1024 : S_.BroadcastsInDim S1024 (![] : Fin 0 → Fin S1024.rank)
  bcast_S_S1024x4 : S_.BroadcastsInDim S1024x4 (![] : Fin 0 → Fin S1024x4.rank)
  bcast_S_S4 : S_.BroadcastsInDim S4 (![] : Fin 0 → Fin S4.rank)
  bcast_S_S1024x32 : S_.BroadcastsInDim S1024x32 (![] : Fin 0 → Fin S1024x32.rank)
  bcast_S_S32 : S_.BroadcastsInDim S32 (![] : Fin 0 → Fin S32.rank)

variable [Facts]

def fn {F : FTy → Type} [FloatOps F] (main_arg0 : FVec F S8x4096x512 .bf16) (main_arg1 : FVec F S8x4096x512 .bf16) (main_arg2 : FVec F S8x4096x1024 .f32) (main_arg3 : FVec F S8x6x1024 .f32) (main_arg4 : FVec F S1024 .f32) (main_arg5 : FVec F S1024x1024 .f32) (main_arg6 : FVec F S1024x4 .f32) (main_arg7 : FVec F S4 .f32) (main_arg8 : FVec F S1024x32 .f32) (main_arg9 : FVec F S32 .f32) : IVec S8x6x1024 1 × IVec S1024 1 × IVec S1024x4 1 × IVec S4 1 × IVec S1024x32 1 × IVec S32 1 :=
  let main_v0 : FVec F S8x6x1024 .f32 := Host.absf main_arg3
  let main_cst : FVec F S_ .f32 := constant S_ .f32 0x7F800000#32
  let main_v1 : FVec F S8x6x1024 .f32 := broadcastInDim S8x6x1024 ![] bcast_S_S8x6x1024 main_cst
  let main_v2 : IVec S8x6x1024 1 := cmpf .olt main_v0 main_v1
  let main_v3 : FVec F S1024 .f32 := Host.absf main_arg4
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4 .f32 := Host.absf main_arg6
  let main_cst_1 : FVec F S_ .f32 := constant S_ .f32 0x7F800000#32
  let main_v7 : FVec F S1024x4 .f32 := broadcastInDim S1024x4 ![] bcast_S_S1024x4 main_cst_1
  let main_v8 : IVec S1024x4 1 := cmpf .olt main_v6 main_v7
  let main_v9 : FVec F S4 .f32 := Host.absf main_arg7
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_v12 : FVec F S1024x32 .f32 := Host.absf main_arg8
  let main_cst_3 : FVec F S_ .f32 := constant S_ .f32 0x7F800000#32
  let main_v13 : FVec F S1024x32 .f32 := broadcastInDim S1024x32 ![] bcast_S_S1024x32 main_cst_3
  let main_v14 : IVec S1024x32 1 := cmpf .olt main_v12 main_v13
  let main_v15 : FVec F S32 .f32 := Host.absf main_arg9
  let main_cst_4 : FVec F S_ .f32 := constant S_ .f32 0x7F800000#32
  let main_v16 : FVec F S32 .f32 := broadcastInDim S32 ![] bcast_S_S32 main_cst_4
  let main_v17 : IVec S32 1 := cmpf .olt main_v15 main_v16
  (main_v2, main_v5, main_v8, main_v11, main_v14, main_v17)
-- ==== Kernel.lean ====
abbrev S8x4096x1024 : Shape := ⟨3, ![8, 4096, 1024]⟩
abbrev S8x4096x128 : Shape := ⟨3, ![8, 4096, 128]⟩
abbrev S8x6x1024 : Shape := ⟨3, ![8, 6, 1024]⟩
abbrev S32x1024x256 : Shape := ⟨3, ![32, 1024, 256]⟩
abbrev S32x256x1024 : Shape := ⟨3, ![32, 256, 1024]⟩
abbrev S32x1024x512 : Shape := ⟨3, ![32, 1024, 512]⟩
abbrev S1x1024x1024 : Shape := ⟨3, ![1, 1024, 1024]⟩
abbrev S1x1024x128 : Shape := ⟨3, ![1, 1024, 128]⟩
abbrev S1x6x1024 : Shape := ⟨3, ![1, 6, 1024]⟩
abbrev S1x1024x512 : Shape := ⟨3, ![1, 1024, 512]⟩
abbrev S1x256x1024 : Shape := ⟨3, ![1, 256, 1024]⟩
abbrev S1024x1024 : Shape := ⟨2, ![1024, 1024]⟩
abbrev S1024x512 : Shape := ⟨2, ![1024, 512]⟩
abbrev S1024x256 : Shape := ⟨2, ![1024, 256]⟩
abbrev S1024x128 : Shape := ⟨2, ![1024, 128]⟩
abbrev S1024 : Shape := ⟨1, ![1024]⟩
abbrev S1024x1 : Shape := ⟨2, ![1024, 1]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 11
  | .vmem => 15
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x128, .f32⟩
  | .hbm, ⟨2, _⟩ => ⟨S8x4096x1024, .f32⟩
  | .hbm, ⟨3, _⟩ => ⟨S8x6x1024, .f32⟩
  | .hbm, ⟨4, _⟩ => ⟨S32x1024x256, .f32⟩
  | .hbm, ⟨5, _⟩ => ⟨S32x1024x256, .f32⟩
  | .hbm, ⟨6, _⟩ => ⟨S32x256x1024, .f32⟩
  | .hbm, ⟨7, _⟩ => ⟨S32x1024x512, .f32⟩
  | .hbm, ⟨8, _⟩ => ⟨S32x1024x512, .bf16⟩
  | .hbm, ⟨9, _⟩ => ⟨S32x256x1024, .bf16⟩
  | .hbm, ⟨10, _⟩ => ⟨S8x4096x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x128, .f32⟩
  | .local _ .vmem, ⟨3, _⟩ => ⟨S1x1024x128, .f32⟩
  | .local _ .vmem, ⟨4, _⟩ => ⟨S1x1024x1024, .f32⟩
  | .local _ .vmem, ⟨5, _⟩ => ⟨S1x1024x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024x512, .bf16⟩
  | .local _ .vmem, ⟨9, _⟩ => ⟨S1x1024x512, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x1024x1024, .f32⟩
  | .local _ .vmem, ⟨13, _⟩ => ⟨S1x1024x1024, .f32⟩
  | .local _ .vmem, ⟨14, _⟩ => ⟨S1024x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 32], ![false, false, false]⟩

def k0_cond3 (i : grid0.Coords) : BitVec 1 :=
  let arg2 : BitVec 32 := BitVec.ofNat 32 (i 2).val
  let c31_i32 : BitVec 32 := 31#32
  let v31 : BitVec 1 := Scalar.cmpi .eq arg2 c31_i32
  let v32 : BitVec 32 := Scalar.extui v31
  let c0_i32_17 : BitVec 32 := 0#32
  let v33 : BitVec 1 := Scalar.cmpi .ne v32 c0_i32_17
  v33

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ReferenceIdeal.lean ====
abbrev S8x4096x1024 : Shape := ⟨3, ![8, 4096, 1024]⟩
abbrev S8x4096x128 : Shape := ⟨3, ![8, 4096, 128]⟩
abbrev S8x6x1024 : Shape := ⟨3, ![8, 6, 1024]⟩
abbrev S32x1024x256 : Shape := ⟨3, ![32, 1024, 256]⟩
abbrev S32x256x1024 : Shape := ⟨3, ![32, 256, 1024]⟩
abbrev S32768x1024 : Shape := ⟨2, ![32768, 1024]⟩
abbrev S8x4096x32 : Shape := ⟨3, ![8, 4096, 32]⟩
abbrev S32768x4x8 : Shape := ⟨3, ![32768, 4, 8]⟩
abbrev S4x8x1024x256 : Shape := ⟨4, ![4, 8, 1024, 256]⟩
abbrev S4x8x256x1024 : Shape := ⟨4, ![4, 8, 256, 1024]⟩
abbrev S_ : Shape := ⟨0, ![]⟩
abbrev S1x8x1024x256 : Shape := ⟨4, ![1, 8, 1024, 256]⟩
abbrev S8x1024x256 : Shape := ⟨3, ![8, 1024, 256]⟩
abbrev S32768x8x256 : Shape := ⟨3, ![32768, 8, 256]⟩
abbrev S32768x1x8 : Shape := ⟨3, ![32768, 1, 8]⟩
abbrev S32768x8 : Shape := ⟨2, ![32768, 8]⟩
abbrev S32768x8x1 : Shape := ⟨3, ![32768, 8, 1]⟩
abbrev S1x8x256x1024 : Shape := ⟨4, ![1, 8, 256, 1024]⟩
abbrev S8x256x1024 : Shape := ⟨3, ![8, 256, 1024]⟩
abbrev S8x1x1024 : Shape := ⟨3, ![8, 1, 1024]⟩

abbrev nBuf : Space → Nat
  | .hbm => 121
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x128, .f32⟩
  | .hbm, ⟨2, _⟩ => ⟨S8x4096x1024, .f32⟩
  | .hbm, ⟨3, _⟩ => ⟨S8x6x1024, .f32⟩
  | .hbm, ⟨4, _⟩ => ⟨S32x1024x256, .f32⟩
  | .hbm, ⟨5, _⟩ => ⟨S32x1024x256, .f32⟩
  | .hbm, ⟨6, _⟩ => ⟨S32x256x1024, .f32⟩
  | .hbm, ⟨7, _⟩ => ⟨S8x4096x1024, .f32⟩
  | .hbm, ⟨8, _⟩ => ⟨S32768x1024, .f32⟩
  | .hbm, ⟨9, _⟩ => ⟨S8x4096x32, .f32⟩
  | .hbm, ⟨10, _⟩ => ⟨S32768x4x8, .f32⟩
  | .hbm, ⟨11, _⟩ => ⟨S4x8x1024x256, .f32⟩
  | .hbm, ⟨12, _⟩ => ⟨S4x8x1024x256, .f32⟩
  | .hbm, ⟨13, _⟩ => ⟨S4x8x256x1024, .f32⟩
  | .hbm, ⟨14, _⟩ => ⟨S_, .f32⟩
  | .hbm, ⟨15, _⟩ => ⟨S32768x1024, .f32⟩
  | .hbm, ⟨16, _⟩ => ⟨S1x8x1024x256, .f32⟩
  | .hbm, ⟨17, _⟩ => ⟨S8x1024x256, .f32⟩
  | .hbm, ⟨18, _⟩ => ⟨S32768x8x256, .f32⟩
  | .hbm, ⟨19, _⟩ => ⟨S1x8x1024x256, .f32⟩
  | .hbm, ⟨20, _⟩ => ⟨S8x1024x256, .f32⟩
  | .hbm, ⟨21, _⟩ => ⟨S32768x8x256, .f32⟩
  | .hbm, ⟨22, _⟩ => ⟨S32768x8x256, .f32⟩
  | .hbm, ⟨23, _⟩ => ⟨S32768x8x256, .f32⟩
  | .hbm, ⟨24, _⟩ => ⟨S_, .f32⟩
  | .hbm, ⟨25, _⟩ => ⟨S32768x8x256, .f32⟩
  | .hbm, ⟨26, _⟩ => ⟨S32768x8x256, .f32⟩
  | .hbm, ⟨27, _⟩ => ⟨S_, .f32⟩
  | .hbm, ⟨28, _⟩ => ⟨S32768x8x256, .f32⟩
  | .hbm, ⟨29, _⟩ => ⟨S32768x8x256, .f32⟩
  | .hbm, ⟨30, _⟩ => ⟨S32768x8x256, .f32⟩
  | .hbm, ⟨31, _⟩ => ⟨S32768x8x256, .f32⟩
  | .hbm, ⟨32, _⟩ => ⟨S32768x1x8, .f32⟩
  | .hbm, ⟨33, _⟩ => ⟨S32768x8, .f32⟩
  | .hbm, ⟨34, _⟩ => ⟨S32768x8x1, .f32⟩
  | .hbm, ⟨35, _⟩ => ⟨S32768x8x256, .f32⟩
  | .hbm, ⟨36, _⟩ => ⟨S32768x8x256, .f32⟩
  | .hbm, ⟨37, _⟩ => ⟨S1x8x256x1024, .f32⟩
  | .hbm, ⟨38, _⟩ => ⟨S8x256x1024, .f32⟩
  | .hbm, ⟨39, _⟩ => ⟨S32768x1024, .f32⟩
  | .hbm, ⟨40, _⟩ => ⟨S32768x1024, .f32⟩
  | .hbm, ⟨41, _⟩ => ⟨S1x8x1024x256, .f32⟩
  | .hbm, ⟨42, _⟩ => ⟨S8x1024x256, .f32⟩
  | .hbm, ⟨43, _⟩ => ⟨S32768x8x256, .f32⟩
  | .hbm, ⟨44, _⟩ => ⟨S1x8x1024x256, .f32⟩
  | .hbm, ⟨45, _⟩ => ⟨S8x1024x256, .f32⟩
  | .hbm, ⟨46, _⟩ => ⟨S32768x8x256, .f32⟩
  | .hbm, ⟨47, _⟩ => ⟨S32768x8x256, .f32⟩
  | .hbm, ⟨48, _⟩ => ⟨S32768x8x256, .f32⟩
  | .hbm, ⟨49, _⟩ => ⟨S_, .f32⟩
  | .hbm, ⟨50, _⟩ => ⟨S32768x8x256, .f32⟩
  | .hbm, ⟨51, _⟩ => ⟨S32768x8x256, .f32⟩
  | .hbm, ⟨52, _⟩ => ⟨S_, .f32⟩
  | .hbm, ⟨53, _⟩ => ⟨S32768x8x256, .f32⟩
  | .hbm, ⟨54, _⟩ => ⟨S32768x8x256, .f32⟩
  | .hbm, ⟨55, _⟩ => ⟨S32768x8x256, .f32⟩
  | .hbm, ⟨56, _⟩ => ⟨S32768x8x256, .f32⟩
  | .hbm, ⟨57, _⟩ => ⟨S32768x1x8, .f32⟩
  | .hbm, ⟨58, _⟩ => ⟨S32768x8, .f32⟩
  | .hbm, ⟨59, _⟩ => ⟨S32768x8x1, .f32⟩
  | .hbm, ⟨60, _⟩ => ⟨S32768x8x256, .f32⟩
  | .hbm, ⟨61, _⟩ => ⟨S32768x8x256, .f32⟩
  | .hbm, ⟨62, _⟩ => ⟨S1x8x256x1024, .f32⟩
  | .hbm, ⟨63, _⟩ => ⟨S8x256x1024, .f32⟩
  | .hbm, ⟨64, _⟩ => ⟨S32768x1024, .f32⟩
  | .hbm, ⟨65, _⟩ => ⟨S32768x1024, .f32⟩
  | .hbm, ⟨66, _⟩ => ⟨S1x8x1024x256, .f32⟩
  | .hbm, ⟨67, _⟩ => ⟨S8x1024x256, .f32⟩
  | .hbm, ⟨68, _⟩ => ⟨S32768x8x256, .f32⟩
  | .hbm, ⟨69, _⟩ => ⟨S1x8x1024x256, .f32⟩
  | .hbm, ⟨70, _⟩ => ⟨S8x1024x256, .f32⟩
  | .hbm, ⟨71, _⟩ => ⟨S32768x8x256, .f32⟩
  | .hbm, ⟨72, _⟩ => ⟨S32768x8x256, .f32⟩
  | .hbm, ⟨73, _⟩ => ⟨S32768x8x256, .f32⟩
  | .hbm, ⟨74, _⟩ => ⟨S_, .f32⟩
  | .hbm, ⟨75, _⟩ => ⟨S32768x8x256, .f32⟩
  | .hbm, ⟨76, _⟩ => ⟨S32768x8x256, .f32⟩
  | .hbm, ⟨77, _⟩ => ⟨S_, .f32⟩
  | .hbm, ⟨78, _⟩ => ⟨S32768x8x256, .f32⟩
  | .hbm, ⟨79, _⟩ => ⟨S32768x8x256, .f32⟩
  | .hbm, ⟨80, _⟩ => ⟨S32768x8x256, .f32⟩
  | .hbm, ⟨81, _⟩ => ⟨S32768x8x256, .f32⟩
  | .hbm, ⟨82, _⟩ => ⟨S32768x1x8, .f32⟩
  | .hbm, ⟨83, _⟩ => ⟨S32768x8, .f32⟩
  | .hbm, ⟨84, _⟩ => ⟨S32768x8x1, .f32⟩
  | .hbm, ⟨85, _⟩ => ⟨S32768x8x256, .f32⟩
  | .hbm, ⟨86, _⟩ => ⟨S32768x8x256, .f32⟩
  | .hbm, ⟨87, _⟩ => ⟨S1x8x256x1024, .f32⟩
  | .hbm, ⟨88, _⟩ => ⟨S8x256x1024, .f32⟩
  | .hbm, ⟨89, _⟩ => ⟨S32768x1024, .f32⟩
  | .hbm, ⟨90, _⟩ => ⟨S32768x1024, .f32⟩
  | .hbm, ⟨91, _⟩ => ⟨S1x8x1024x256, .f32⟩
  | .hbm, ⟨92, _⟩ => ⟨S8x1024x256, .f32⟩
  | .hbm, ⟨93, _⟩ => ⟨S32768x8x256, .f32⟩
  | .hbm, ⟨94, _⟩ => ⟨S1x8x1024x256, .f32⟩
  | .hbm, ⟨95, _⟩ => ⟨S8x1024x256, .f32⟩
  | .hbm, ⟨96, _⟩ => ⟨S32768x8x256, .f32⟩
  | .hbm, ⟨97, _⟩ => ⟨S32768x8x256, .f32⟩
  | .hbm, ⟨98, _⟩ => ⟨S32768x8x256, .f32⟩
  | .hbm, ⟨99, _⟩ => ⟨S_, .f32⟩
  | .hbm, ⟨100, _⟩ => ⟨S32768x8x256, .f32⟩
  | .hbm, ⟨101, _⟩ => ⟨S32768x8x256, .f32⟩
  | .hbm, ⟨102, _⟩ => ⟨S_, .f32⟩
  | .hbm, ⟨103, _⟩ => ⟨S32768x8x256, .f32⟩
  | .hbm, ⟨104, _⟩ => ⟨S32768x8x256, .f32⟩
  | .hbm, ⟨105, _⟩ => ⟨S32768x8x256, .f32⟩
  | .hbm, ⟨106, _⟩ => ⟨S32768x8x256, .f32⟩
  | .hbm, ⟨107, _⟩ => ⟨S32768x1x8, .f32⟩
  | .hbm, ⟨108, _⟩ => ⟨S32768x8, .f32⟩
  | .hbm, ⟨109, _⟩ => ⟨S32768x8x1, .f32⟩
  | .hbm, ⟨110, _⟩ => ⟨S32768x8x256, .f32⟩
  | .hbm, ⟨111, _⟩ => ⟨S32768x8x256, .f32⟩
  | .hbm, ⟨112, _⟩ => ⟨S1x8x256x1024, .f32⟩
  | .hbm, ⟨113, _⟩ => ⟨S8x256x1024, .f32⟩
  | .hbm, ⟨114, _⟩ => ⟨S32768x1024, .f32⟩
  | .hbm, ⟨115, _⟩ => ⟨S32768x1024, .f32⟩
  | .hbm, ⟨116, _⟩ => ⟨S8x1x1024, .f32⟩
  | .hbm, ⟨117, _⟩ => ⟨S8x4096x1024, .f32⟩
  | .hbm, ⟨118, _⟩ => ⟨S8x4096x1024, .f32⟩
  | .hbm, ⟨119, _⟩ => ⟨S8x4096x1024, .f32⟩
  | .hbm, ⟨120, _⟩ => ⟨S8x4096x1024, .f32⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call2_v0 : Ref sig .tc := ⟨.hbm, 72, rfl⟩
abbrev main_call2_v1 : Ref sig .tc := ⟨.hbm, 73, rfl⟩
abbrev main_call2_cst : Ref sig .tc := ⟨.hbm, 74, rfl⟩
abbrev main_call2_v2 : Ref sig .tc := ⟨.hbm, 75, rfl⟩
abbrev main_call2_v3 : Ref sig .tc := ⟨.hbm, 76, rfl⟩
abbrev main_call2_cst_0 : Ref sig .tc := ⟨.hbm, 77, rfl⟩
abbrev main_call2_v4 : Ref sig .tc := ⟨.hbm, 78, rfl⟩
abbrev main_call2_v5 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call3_v0 : Ref sig .tc := ⟨.hbm, 97, rfl⟩
abbrev main_call3_v1 : Ref sig .tc := ⟨.hbm, 98, rfl⟩
abbrev main_call3_cst : Ref sig .tc := ⟨.hbm, 99, rfl⟩
abbrev main_call3_v2 : Ref sig .tc := ⟨.hbm, 100, rfl⟩
abbrev main_call3_v3 : Ref sig .tc := ⟨.hbm, 101, rfl⟩
abbrev main_call3_cst_0 : Ref sig .tc := ⟨.hbm, 102, rfl⟩
abbrev main_call3_v4 : Ref sig .tc := ⟨.hbm, 103, rfl⟩
abbrev main_call3_v5 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩

abbrev nD : Nat := 1
abbrev τ : Topo := Topo.v7x

variable {F : FTy → Type} [FloatOps F]
-- ==== Kernel2.lean ====
abbrev S8x4096x512 : Shape := ⟨3, ![8, 4096, 512]⟩
abbrev S8x4096x1024 : Shape := ⟨3, ![8, 4096, 1024]⟩
abbrev S8x6x1024 : Shape := ⟨3, ![8, 6, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S1x1024 : Shape := ⟨2, ![1, 1024]⟩
abbrev S512x1024 : Shape := ⟨2, ![512, 1024]⟩
abbrev S8x4096x128 : Shape := ⟨3, ![8, 4096, 128]⟩
abbrev S1x512x512 : Shape := ⟨3, ![1, 512, 512]⟩
abbrev S1x512x1024 : Shape := ⟨3, ![1, 512, 1024]⟩
abbrev S1x6x1024 : Shape := ⟨3, ![1, 6, 1024]⟩
abbrev S1x512x128 : Shape := ⟨3, ![1, 512, 128]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩
abbrev S512x128 : Shape := ⟨2, ![512, 128]⟩

abbrev nBuf : Space → Nat
  | .hbm => 26
  | .vmem => 19
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x1024, .f32⟩
  | .hbm, ⟨3, _⟩ => ⟨S8x6x1024, .f32⟩
  | .hbm, ⟨4, _⟩ => ⟨S1024, .f32⟩
  | .hbm, ⟨5, _⟩ => ⟨S1024x1024, .f32⟩
  | .hbm, ⟨6, _⟩ => ⟨S1024x4, .f32⟩
  | .hbm, ⟨7, _⟩ => ⟨S4, .f32⟩
  | .hbm, ⟨8, _⟩ => ⟨S1024x32, .f32⟩
  | .hbm, ⟨9, _⟩ => ⟨S32, .f32⟩
  | .hbm, ⟨10, _⟩ => ⟨S_, .f32⟩
  | .hbm, ⟨11, _⟩ => ⟨S1024x92, .f32⟩
  | .hbm, ⟨12, _⟩ => ⟨S1024x128, .f32⟩
  | .hbm, ⟨13, _⟩ => ⟨S1024x128, .bf16⟩
  | .hbm, ⟨14, _⟩ => ⟨S_, .f32⟩
  | .hbm, ⟨15, _⟩ => ⟨S92, .f32⟩
  | .hbm, ⟨16, _⟩ => ⟨S128, .f32⟩
  | .hbm, ⟨17, _⟩ => ⟨S1x128, .f32⟩
  | .hbm, ⟨18, _⟩ => ⟨S1x1024, .f32⟩
  | .hbm, ⟨19, _⟩ => ⟨S512x1024, .f32⟩
  | .hbm, ⟨20, _⟩ => ⟨S512x1024, .bf16⟩
  | .hbm, ⟨21, _⟩ => ⟨S512x1024, .f32⟩
  | .hbm, ⟨22, _⟩ => ⟨S512x1024, .bf16⟩
  | .hbm, ⟨23, _⟩ => ⟨S8x4096x1024, .f32⟩
  | .hbm, ⟨24, _⟩ => ⟨S8x4096x1024, .bf16⟩
  | .hbm, ⟨25, _⟩ => ⟨S8x4096x128, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S1024x128, .bf16⟩
  | .local _ .vmem, ⟨12, _⟩ => ⟨S1x128, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .bf16⟩
  | .local _ .vmem, ⟨16, _⟩ => ⟨S1x512x1024, .bf16⟩
  | .local _ .vmem, ⟨17, _⟩ => ⟨S1x512x128, .f32⟩
  | .local _ .vmem, ⟨18, _⟩ => ⟨S1x512x128, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S8x4096x512 : Shape := ⟨3, ![8, 4096, 512]⟩
abbrev S8x4096x1024 : Shape := ⟨3, ![8, 4096, 1024]⟩
abbrev S8x6x1024 : Shape := ⟨3, ![8, 6, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩
abbrev S32768x4 : Shape := ⟨2, ![32768, 4]⟩
abbrev S1x4 : Shape := ⟨2, ![1, 4]⟩
abbrev S32768 : Shape := ⟨1, ![32768]⟩
abbrev S32768x1 : Shape := ⟨2, ![32768, 1]⟩
abbrev S32768x1x1 : Shape := ⟨3, ![32768, 1, 1]⟩
abbrev S1 : Shape := ⟨1, ![1]⟩
abbrev S1x1x1 : Shape := ⟨3, ![1, 1, 1]⟩
abbrev S32768x32 : Shape := ⟨2, ![32768, 32]⟩
abbrev S1x32 : Shape := ⟨2, ![1, 32]⟩
abbrev S32768x4x8 : Shape := ⟨3, ![32768, 4, 8]⟩
abbrev S32768x1x8 : Shape := ⟨3, ![32768, 1, 8]⟩
abbrev S32768x8 : Shape := ⟨2, ![32768, 8]⟩
abbrev S32768x2 : Shape := ⟨2, ![32768, 2]⟩
abbrev S32768x2x1 : Shape := ⟨3, ![32768, 2, 1]⟩
abbrev S1x1x8 : Shape := ⟨3, ![1, 1, 8]⟩
abbrev S32768x2x8 : Shape := ⟨3, ![32768, 2, 8]⟩
abbrev S32768x4x1 : Shape := ⟨3, ![32768, 4, 1]⟩
abbrev S8x4096x32 : Shape := ⟨3, ![8, 4096, 32]⟩
abbrev S8x4096x128 : Shape := ⟨3, ![8, 4096, 128]⟩

abbrev nBuf : Space → Nat
  | .hbm => 165
  | .vmem => 0
  | .smem => 0
  | _ => 0

abbrev hbmTy0_0 (i : Nat) : BufTy := match i % 128 with
  | 0 => ⟨S8x4096x512, .bf16⟩
  | 1 => ⟨S8x4096x512, .bf16⟩
  | 2 => ⟨S8x4096x1024, .f32⟩
  | 3 => ⟨S8x6x1024, .f32⟩
  | 4 => ⟨S1024, .f32⟩
  | 5 => ⟨S1024x1024, .f32⟩
  | 6 => ⟨S1024x4, .f32⟩
  | 7 => ⟨S4, .f32⟩
  | 8 => ⟨S1024x32, .f32⟩
  | 9 => ⟨S32, .f32⟩
  | 10 => ⟨S8x1x1024, .f32⟩
  | 11 => ⟨S8x1x1024, .f32⟩
  | 12 => ⟨S8x1x1024, .f32⟩
  | 13 => ⟨S8x4096x512, .f32⟩
  | 14 => ⟨S8x4096x512, .f32⟩
  | 15 => ⟨S8x4096x1024, .f32⟩
  | 16 => ⟨S8x4096x1024, .f32⟩
  | 17 => ⟨S8x4096x1024, .f32⟩
  | 18 => ⟨S8x4096x1024, .f32⟩
  | 19 => ⟨S8x4096x1024, .f32⟩
  | 20 => ⟨S8x4096x1024, .f32⟩
  | 21 => ⟨S_, .f32⟩
  | 22 => ⟨S8x4096, .f32⟩
  | 23 => ⟨S8x4096x1, .f32⟩
  | 24 => ⟨S_, .f32⟩
  | 25 => ⟨S8x4096x1, .f32⟩
  | 26 => ⟨S8x4096x1, .f32⟩
  | 27 => ⟨S_, .f32⟩
  | 28 => ⟨S8x4096x1, .f32⟩
  | 29 => ⟨S8x4096x1, .f32⟩
  | 30 => ⟨S8x4096x1, .f32⟩
  | 31 => ⟨S8x4096x1024, .f32⟩
  | 32 => ⟨S8x4096x1024, .f32⟩
  | 33 => ⟨S1x1x1024, .f32⟩
  | 34 => ⟨S8x4096x1024, .f32⟩
  | 35 => ⟨S8x4096x1024, .f32⟩
  | 36 => ⟨S_, .f32⟩
  | 37 => ⟨S8x1x1024, .f32⟩
  | 38 => ⟨S8x1x1024, .f32⟩
  | 39 => ⟨S8x4096x1024, .f32⟩
  | 40 => ⟨S8x4096x1024, .f32⟩
  | 41 => ⟨S8x4096x1024, .f32⟩
  | 42 => ⟨S8x4096x1024, .f32⟩
  | 43 => ⟨S32768x1024, .f32⟩
  | 44 => ⟨S32768x4, .f32⟩
  | 45 => ⟨S1x4, .f32⟩
  | 46 => ⟨S32768x4, .f32⟩
  | 47 => ⟨S32768x4, .f32⟩
  | 48 => ⟨S_, .f32⟩
  | 49 => ⟨S32768, .f32⟩
  | 50 => ⟨S_, .f32⟩
  | 51 => ⟨S32768, .f32⟩
  | 52 => ⟨S32768, .f32⟩
  | 53 => ⟨S32768x1, .f32⟩
  | 54 => ⟨S32768x4, .f32⟩
  | 55 => ⟨S32768x4, .f32⟩
  | 56 => ⟨S32768x4, .f32⟩
  | 57 => ⟨S_, .f32⟩
  | 58 => ⟨S32768, .f32⟩
  | 59 => ⟨S32768x1, .f32⟩
  | 60 => ⟨S32768x4, .f32⟩
  | 61 => ⟨S32768x4, .f32⟩
  | 62 => ⟨S32768x1, .f32⟩
  | 63 => ⟨S32768x1, .i32⟩
  | 64 => ⟨S32768, .i32⟩
  | 65 => ⟨S32768x1, .i32⟩
  | 66 => ⟨S_, .i32⟩
  | 67 => ⟨S32768x1, .i32⟩
  | 68 => ⟨S32768x1, .i1⟩
  | 69 => ⟨S_, .i32⟩
  | 70 => ⟨S32768x1, .i32⟩
  | 71 => ⟨S32768x1, .i32⟩
  | 72 => ⟨S32768x1, .i32⟩
  | 73 => ⟨S32768x1x1, .i32⟩
  | 74 => ⟨S1, .i32⟩
  | 75 => ⟨S_, .i32⟩
  | 76 => ⟨S32768x1x1, .i32⟩
  | 77 => ⟨S32768x1x1, .i1⟩
  | 78 => ⟨S1x1x1, .i32⟩
  | 79 => ⟨S32768x1x1, .i32⟩
  | 80 => ⟨S32768x1x1, .i1⟩
  | 81 => ⟨S32768x1x1, .i1⟩
  | 82 => ⟨S_, .i1⟩
  | 83 => ⟨S32768x1, .i1⟩
  | 84 => ⟨S32768x1, .f32⟩
  | 85 => ⟨S_, .f32⟩
  | 86 => ⟨S32768x1, .f32⟩
  | 87 => ⟨S32768x1, .f32⟩
  | 88 => ⟨S32768, .f32⟩
  | 89 => ⟨S32768x32, .f32⟩
  | 90 => ⟨S1x32, .f32⟩
  | 91 => ⟨S32768x32, .f32⟩
  | 92 => ⟨S32768x32, .f32⟩
  | 93 => ⟨S32768x4x8, .f32⟩
  | 94 => ⟨S32768x1x1, .i32⟩
  | 95 => ⟨S_, .i32⟩
  | 96 => ⟨S32768x1x1, .i32⟩
  | 97 => ⟨S32768x1x1, .i1⟩
  | 98 => ⟨S_, .i32⟩
  | 99 => ⟨S32768x1x1, .i32⟩
  | 100 => ⟨S32768x1x1, .i32⟩
  | 101 => ⟨S32768x1x1, .i32⟩
  | 102 => ⟨S1, .i32⟩
  | 103 => ⟨S_, .i32⟩
  | 104 => ⟨S32768x1x1, .i32⟩
  | 105 => ⟨S32768x1x1, .i1⟩
  | 106 => ⟨S1x1x1, .i32⟩
  | 107 => ⟨S32768x1x1, .i32⟩
  | 108 => ⟨S32768x1x1, .i1⟩
  | 109 => ⟨S32768x1x1, .i1⟩
  | 110 => ⟨S_, .i1⟩
  | 111 => ⟨S32768x1, .i1⟩
  | 112 => ⟨S32768x1x8, .f32⟩
  | 113 => ⟨S32768x1x8, .i1⟩
  | 114 => ⟨S_, .f32⟩
  | 115 => ⟨S32768x1x8, .f32⟩
  | 116 => ⟨S32768x1x8, .f32⟩
  | 117 => ⟨S32768x8, .f32⟩
  | 118 => ⟨S_, .f32⟩
  | 119 => ⟨S32768, .f32⟩
  | 120 => ⟨S_, .f32⟩
  | 121 => ⟨S32768, .f32⟩
  | 122 => ⟨S32768, .f32⟩
  | 123 => ⟨S32768x1, .f32⟩
  | 124 => ⟨S32768x8, .f32⟩
  | 125 => ⟨S32768x8, .f32⟩
  | 126 => ⟨S32768x8, .f32⟩
  | 127 => ⟨S_, .f32⟩
  | _ => ⟨S8x4096x512, .bf16⟩

abbrev hbmTy0_1 (i : Nat) : BufTy := match i % 128 with
  | 0 => ⟨S32768, .f32⟩
  | 1 => ⟨S32768x1, .f32⟩
  | 2 => ⟨S32768x8, .f32⟩
  | 3 => ⟨S32768x8, .f32⟩
  | 4 => ⟨S32768x2, .f32⟩
  | 5 => ⟨S32768x2, .i32⟩
  | 6 => ⟨S_, .f32⟩
  | 7 => ⟨S32768, .f32⟩
  | 8 => ⟨S32768x1, .f32⟩
  | 9 => ⟨S32768x2, .f32⟩
  | 10 => ⟨S32768x2, .f32⟩
  | 11 => ⟨S32768x2x1, .i32⟩
  | 12 => ⟨S1x1x8, .i32⟩
  | 13 => ⟨S32768x2x8, .i32⟩
  | 14 => ⟨S32768x2x8, .i32⟩
  | 15 => ⟨S32768x2x8, .i1⟩
  | 16 => ⟨S32768x2x8, .f32⟩
  | 17 => ⟨S32768x8, .f32⟩
  | 18 => ⟨S32768x1, .i32⟩
  | 19 => ⟨S1x4, .i32⟩
  | 20 => ⟨S32768x4, .i32⟩
  | 21 => ⟨S32768x4, .i32⟩
  | 22 => ⟨S32768x4, .i1⟩
  | 23 => ⟨S32768x4, .f32⟩
  | 24 => ⟨S32768x4x1, .f32⟩
  | 25 => ⟨S32768x1, .f32⟩
  | 26 => ⟨S32768x8, .f32⟩
  | 27 => ⟨S32768x8, .f32⟩
  | 28 => ⟨S32768x1x8, .f32⟩
  | 29 => ⟨S32768x4x8, .f32⟩
  | 30 => ⟨S32768x4x8, .f32⟩
  | 31 => ⟨S32768x4x8, .f32⟩
  | 32 => ⟨S8x4096x32, .f32⟩
  | 33 => ⟨S_, .i32⟩
  | 34 => ⟨S_, .f32⟩
  | 35 => ⟨S8x4096x128, .f32⟩
  | 36 => ⟨S8x4096x1024, .bf16⟩
  | _ => ⟨S8x4096x512, .bf16⟩

abbrev hbmTy (i : Nat) : BufTy := match i / 128 with
  | 0 => hbmTy0_0 i
  | 1 => hbmTy0_1 i
  | _ => ⟨S8x4096x512, .bf16⟩

abbrev bufTy : (tb : Table) → Fin (tcTables nBuf tb) → BufTy
  | .hbm, ⟨i, _⟩ => hbmTy i
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_values : Ref sig .tc := ⟨.hbm, 62, rfl⟩
abbrev main_indices : Ref sig .tc := ⟨.hbm, 63, rfl⟩
abbrev main_v45 : Ref sig .tc := ⟨.hbm, 64, rfl⟩
abbrev main_v46 : Ref sig .tc := ⟨.hbm, 65, rfl⟩
abbrev main_call0_c : Ref sig .tc := ⟨.hbm, 66, rfl⟩
abbrev main_call0_v0 : Ref sig .tc := ⟨.hbm, 67, rfl⟩
abbrev main_call0_v1 : Ref sig .tc := ⟨.hbm, 68, rfl⟩
abbrev main_call0_c_0 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_c_1 : Ref sig .tc := ⟨.hbm, 74, rfl⟩
abbrev main_call0_c_2 : Ref sig .tc := ⟨.hbm, 75, rfl⟩
abbrev main_call0_v6 : Ref sig .tc := ⟨.hbm, 76, rfl⟩
abbrev main_call0_v7 : Ref sig .tc := ⟨.hbm, 77, rfl⟩
abbrev main_call0_v8 : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_call0_c_3 : Ref sig .tc := ⟨.hbm, 82, rfl⟩
abbrev main_call0_v12 : Ref sig .tc := ⟨.hbm, 83, rfl⟩
abbrev main_call0_v13 : Ref sig .tc := ⟨.hbm, 84, rfl⟩
abbrev main_call0_cst : Ref sig .tc := ⟨.hbm, 85, rfl⟩
abbrev main_call0_v14 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_call1_c : Ref sig .tc := ⟨.hbm, 95, rfl⟩
abbrev main_call1_v0 : Ref sig .tc := ⟨.hbm, 96, rfl⟩
abbrev main_call1_v1 : Ref sig .tc := ⟨.hbm, 97, rfl⟩
abbrev main_call1_c_0 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_c_1 : Ref sig .tc := ⟨.hbm, 102, rfl⟩
abbrev main_call1_c_2 : Ref sig .tc := ⟨.hbm, 103, rfl⟩
abbrev main_call1_v5 : Ref sig .tc := ⟨.hbm, 104, rfl⟩
abbrev main_call1_v6 : Ref sig .tc := ⟨.hbm, 105, rfl⟩
abbrev main_call1_v7 : Ref sig .tc := ⟨.hbm, 106, rfl⟩
abbrev main_call1_v8 : Ref sig .tc := ⟨.hbm, 107, rfl⟩
abbrev main_call1_v9 : Ref sig .tc := ⟨.hbm, 108, rfl⟩
abbrev main_call1_v10 : Ref sig .tc := ⟨.hbm, 109, rfl⟩
abbrev main_call1_c_3 : Ref sig .tc := ⟨.hbm, 110, rfl⟩
abbrev main_call1_v11 : Ref sig .tc := ⟨.hbm, 111, rfl⟩
abbrev main_call1_v12 : Ref sig .tc := ⟨.hbm, 112, rfl⟩
abbrev main_call1_v13 : Ref sig .tc := ⟨.hbm, 113, rfl⟩
abbrev main_call1_cst : Ref sig .tc := ⟨.hbm, 114, rfl⟩
abbrev main_call1_v14 : Ref sig .tc := ⟨.hbm, 115, rfl⟩
abbrev main_v55 : Ref sig .tc := ⟨.hbm, 116, rfl⟩
abbrev main_v56 : Ref sig .tc := ⟨.hbm, 117, rfl⟩
abbrev main_cst_6 : Ref sig .tc := ⟨.hbm, 118, rfl⟩
abbrev main_v57 : Ref sig .tc := ⟨.hbm, 119, rfl⟩
abbrev main_cst_7 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_cst_8 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_values_9 : Ref sig .tc := ⟨.hbm, 132, rfl⟩
abbrev main_indices_10 : Ref sig .tc := ⟨.hbm, 133, rfl⟩
abbrev main_cst_11 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_call2_v0 : Ref sig .tc := ⟨.hbm, 139, rfl⟩
abbrev main_call2_v1 : Ref sig .tc := ⟨.hbm, 140, rfl⟩
abbrev main_call2_v2 : Ref sig .tc := ⟨.hbm, 141, rfl⟩
abbrev main_call2_v3 : Ref sig .tc := ⟨.hbm, 142, rfl⟩
abbrev main_call2_v4 : Ref sig .tc := ⟨.hbm, 143, rfl⟩
abbrev main_v72 : Ref sig .tc := ⟨.hbm, 144, rfl⟩
abbrev main_v73 : Ref sig .tc := ⟨.hbm, 145, rfl⟩
abbrev main_call3_v0 : Ref sig .tc := ⟨.hbm, 146, rfl⟩
abbrev main_call3_v1 : Ref sig .tc := ⟨.hbm, 147, rfl⟩
abbrev main_call3_v2 : Ref sig .tc := ⟨.hbm, 148, rfl⟩
abbrev main_call3_v3 : Ref sig .tc := ⟨.hbm, 149, rfl⟩
abbrev main_call3_v4 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_c : Ref sig .tc := ⟨.hbm, 161, rfl⟩
abbrev main_call4_v0 : Ref sig .tc := ⟨.hbm, 162, rfl⟩
abbrev main_v84 : Ref sig .tc := ⟨.hbm, 163, rfl⟩
abbrev main_v85 : Ref sig .tc := ⟨.hbm, 164, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x6x1024 : Shape := ⟨3, ![8, 6, 1024]⟩
abbrev S1024 : Shape := ⟨1, ![1024]⟩
abbrev S1024x3656 : Shape := ⟨2, ![1024, 3656]⟩
abbrev S64 : Shape := ⟨1, ![64]⟩
abbrev S3x512 : Shape := ⟨2, ![3, 512]⟩
abbrev S8x64 : Shape := ⟨2, ![8, 64]⟩
abbrev S1024x512 : Shape := ⟨2, ![1024, 512]⟩
abbrev S1024x3072 : Shape := ⟨2, ![1024, 3072]⟩
abbrev S512x1024 : Shape := ⟨2, ![512, 1024]⟩
abbrev S1024x64 : Shape := ⟨2, ![1024, 64]⟩
abbrev S1024x128 : Shape := ⟨2, ![1024, 128]⟩
abbrev S1024x8 : Shape := ⟨2, ![1024, 8]⟩
abbrev S8x1024 : Shape := ⟨2, ![8, 1024]⟩
abbrev S1x64 : Shape := ⟨2, ![1, 64]⟩
abbrev S512 : Shape := ⟨1, ![512]⟩
abbrev S_ : Shape := ⟨0, ![]⟩
abbrev S1x512 : Shape := ⟨2, ![1, 512]⟩
abbrev S512x1 : Shape := ⟨2, ![512, 1]⟩
abbrev S512x512 : Shape := ⟨2, ![512, 512]⟩
abbrev S1x1024 : Shape := ⟨2, ![1, 1024]⟩
abbrev S8x4096x512 : Shape := ⟨3, ![8, 4096, 512]⟩
abbrev S8x16x512x256 : Shape := ⟨4, ![8, 16, 512, 256]⟩
abbrev S8x4096x128 : Shape := ⟨3, ![8, 4096, 128]⟩
abbrev S8x8x4096 : Shape := ⟨3, ![8, 8, 4096]⟩
abbrev S1x512x1024 : Shape := ⟨3, ![1, 512, 1024]⟩
abbrev S1x6x1024 : Shape := ⟨3, ![1, 6, 1024]⟩
abbrev S1x512x512 : Shape := ⟨3, ![1, 512, 512]⟩
abbrev S1x2x512x256 : Shape := ⟨4, ![1, 2, 512, 256]⟩
abbrev S1x512x128 : Shape := ⟨3, ![1, 512, 128]⟩
abbrev S1x8x512 : Shape := ⟨3, ![1, 8, 512]⟩
abbrev S8x512 : Shape := ⟨2, ![8, 512]⟩
abbrev S1x1x1024 : Shape := ⟨3, ![1, 1, 1024]⟩
abbrev S512x256 : Shape := ⟨2, ![512, 256]⟩
abbrev S1x1x512x256 : Shape := ⟨4, ![1, 1, 512, 256]⟩
abbrev S512x128 : Shape := ⟨2, ![512, 128]⟩

abbrev nBuf : Space → Nat
  | .hbm => 75
  | .vmem => 29
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024, .f32⟩
  | .hbm, ⟨3, _⟩ => ⟨S1024x3656, .f32⟩
  | .hbm, ⟨4, _⟩ => ⟨S64, .f32⟩
  | .hbm, ⟨5, _⟩ => ⟨S64, .f32⟩
  | .hbm, ⟨6, _⟩ => ⟨S3x512, .f32⟩
  | .hbm, ⟨7, _⟩ => ⟨S8x64, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x3072, .f32⟩
  | .hbm, ⟨15, _⟩ => ⟨S1024x3072, .bf16⟩
  | .hbm, ⟨16, _⟩ => ⟨S1024x512, .f32⟩
  | .hbm, ⟨17, _⟩ => ⟨S512x1024, .f32⟩
  | .hbm, ⟨18, _⟩ => ⟨S512x1024, .bf16⟩
  | .hbm, ⟨19, _⟩ => ⟨S1024x64, .f32⟩
  | .hbm, ⟨20, _⟩ => ⟨S1024x64, .f32⟩
  | .hbm, ⟨21, _⟩ => ⟨S1024x128, .f32⟩
  | .hbm, ⟨22, _⟩ => ⟨S1024x128, .bf16⟩
  | .hbm, ⟨23, _⟩ => ⟨S1024x8, .f32⟩
  | .hbm, ⟨24, _⟩ => ⟨S8x1024, .f32⟩
  | .hbm, ⟨25, _⟩ => ⟨S8x1024, .bf16⟩
  | .hbm, ⟨26, _⟩ => ⟨S1x64, .f32⟩
  | .hbm, ⟨27, _⟩ => ⟨S8x64, .f32⟩
  | .hbm, ⟨28, _⟩ => ⟨S512, .f32⟩
  | .hbm, ⟨29, _⟩ => ⟨S_, .f32⟩
  | .hbm, ⟨30, _⟩ => ⟨S512, .f32⟩
  | .hbm, ⟨31, _⟩ => ⟨S512, .f32⟩
  | .hbm, ⟨32, _⟩ => ⟨S1x512, .f32⟩
  | .hbm, ⟨33, _⟩ => ⟨S1x64, .f32⟩
  | .hbm, ⟨34, _⟩ => ⟨S8x64, .f32⟩
  | .hbm, ⟨35, _⟩ => ⟨S512, .f32⟩
  | .hbm, ⟨36, _⟩ => ⟨S1x512, .f32⟩
  | .hbm, ⟨37, _⟩ => ⟨S512, .i32⟩
  | .hbm, ⟨38, _⟩ => ⟨S_, .i32⟩
  | .hbm, ⟨39, _⟩ => ⟨S_, .i32⟩
  | .hbm, ⟨40, _⟩ => ⟨S512, .i32⟩
  | .hbm, ⟨41, _⟩ => ⟨S512, .i32⟩
  | .hbm, ⟨42, _⟩ => ⟨S512, .i32⟩
  | .hbm, ⟨43, _⟩ => ⟨S_, .i32⟩
  | .hbm, ⟨44, _⟩ => ⟨S512, .i32⟩
  | .hbm, ⟨45, _⟩ => ⟨S512, .i1⟩
  | .hbm, ⟨46, _⟩ => ⟨S512, .i32⟩
  | .hbm, ⟨47, _⟩ => ⟨S512, .i32⟩
  | .hbm, ⟨48, _⟩ => ⟨S_, .i32⟩
  | .hbm, ⟨49, _⟩ => ⟨S512, .i32⟩
  | .hbm, ⟨50, _⟩ => ⟨S512, .i1⟩
  | .hbm, ⟨51, _⟩ => ⟨S512, .i1⟩
  | .hbm, ⟨52, _⟩ => ⟨S_, .i32⟩
  | .hbm, ⟨53, _⟩ => ⟨S512, .i32⟩
  | .hbm, ⟨54, _⟩ => ⟨S512, .i32⟩
  | .hbm, ⟨55, _⟩ => ⟨S512, .i32⟩
  | .hbm, ⟨56, _⟩ => ⟨S512x1, .i32⟩
  | .hbm, ⟨57, _⟩ => ⟨S1x512, .i32⟩
  | .hbm, ⟨58, _⟩ => ⟨S512x512, .i32⟩
  | .hbm, ⟨59, _⟩ => ⟨S512x512, .i32⟩
  | .hbm, ⟨60, _⟩ => ⟨S512x512, .i1⟩
  | .hbm, ⟨61, _⟩ => ⟨S512x512, .f32⟩
  | .hbm, ⟨62, _⟩ => ⟨S_, .f32⟩
  | .hbm, ⟨63, _⟩ => ⟨S512x512, .f32⟩
  | .hbm, ⟨64, _⟩ => ⟨S512x512, .f32⟩
  | .hbm, ⟨65, _⟩ => ⟨S512x512, .bf16⟩
  | .hbm, ⟨66, _⟩ => ⟨S1x1024, .f32⟩
  | .hbm, ⟨67, _⟩ => ⟨S1x512, .f32⟩
  | .hbm, ⟨68, _⟩ => ⟨S8x4096x512, .bf16⟩
  | .hbm, ⟨69, _⟩ => ⟨S8x4096x512, .bf16⟩
  | .hbm, ⟨70, _⟩ => ⟨S8x16x512x256, .bf16⟩
  | .hbm, ⟨71, _⟩ => ⟨S8x4096x512, .bf16⟩
  | .hbm, ⟨72, _⟩ => ⟨S8x4096x128, .bf16⟩
  | .hbm, ⟨73, _⟩ => ⟨S8x8x4096, .f32⟩
  | .hbm, ⟨74, _⟩ => ⟨S8x4096x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3072, .bf16⟩
  | .local _ .vmem, ⟨6, _⟩ => ⟨S512x1024, .bf16⟩
  | .local _ .vmem, ⟨7, _⟩ => ⟨S1024x128, .bf16⟩
  | .local _ .vmem, ⟨8, _⟩ => ⟨S8x1024, .bf16⟩
  | .local _ .vmem, ⟨9, _⟩ => ⟨S1x512, .f32⟩
  | .local _ .vmem, ⟨10, _⟩ => ⟨S1x512, .f32⟩
  | .local _ .vmem, ⟨11, _⟩ => ⟨S3x512, .f32⟩
  | .local _ .vmem, ⟨12, _⟩ => ⟨S1x512, .f32⟩
  | .local _ .vmem, ⟨13, _⟩ => ⟨S512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x2x512x256, .bf16⟩
  | .local _ .vmem, ⟨19, _⟩ => ⟨S1x2x512x256, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x128, .bf16⟩
  | .local _ .vmem, ⟨23, _⟩ => ⟨S1x512x128, .bf16⟩
  | .local _ .vmem, ⟨24, _⟩ => ⟨S1x8x512, .f32⟩
  | .local _ .vmem, ⟨25, _⟩ => ⟨S1x8x512, .f32⟩
  | .local _ .vmem, ⟨26, _⟩ => ⟨S1x512x512, .bf16⟩
  | .local _ .vmem, ⟨27, _⟩ => ⟨S1x512x512, .bf16⟩
  | .local _ .vmem, ⟨28, _⟩ => ⟨S8x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_c : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_0 : Ref sig .tc := ⟨.hbm, 52, rfl⟩
abbrev main_call0_v12 : Ref sig .tc := ⟨.hbm, 53, rfl⟩
abbrev main_call0_v13 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_0 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41_0 : Ref sig .tc := ⟨.hbm, 68, rfl⟩
abbrev main_v41_1 : Ref sig .tc := ⟨.hbm, 69, rfl⟩
abbrev main_v41_2 : Ref sig .tc := ⟨.hbm, 70, rfl⟩
abbrev main_v41_3 : Ref sig .tc := ⟨.hbm, 71, rfl⟩
abbrev main_v41_4 : Ref sig .tc := ⟨.hbm, 72, rfl⟩
abbrev main_v41_5 : Ref sig .tc := ⟨.hbm, 73, rfl⟩
abbrev main_v41_6 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference3Ideal.lean ====
abbrev S8x4096x1024 : Shape := ⟨3, ![8, 4096, 1024]⟩
abbrev S8x6x1024 : Shape := ⟨3, ![8, 6, 1024]⟩
abbrev S1024 : Shape := ⟨1, ![1024]⟩
abbrev S1024x3656 : Shape := ⟨2, ![1024, 3656]⟩
abbrev S64 : Shape := ⟨1, ![64]⟩
abbrev S3x512 : Shape := ⟨2, ![3, 512]⟩
abbrev S8x64 : Shape := ⟨2, ![8, 64]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3656 : Shape := ⟨3, ![8, 4096, 3656]⟩
abbrev S8x4096x512 : Shape := ⟨3, ![8, 4096, 512]⟩
abbrev S8x4096x64 : Shape := ⟨3, ![8, 4096, 64]⟩
abbrev S8x4096x8 : Shape := ⟨3, ![8, 4096, 8]⟩
abbrev S8x4096x8x64 : Shape := ⟨4, ![8, 4096, 8, 64]⟩
abbrev S8x4096x8x1 : Shape := ⟨4, ![8, 4096, 8, 1]⟩
abbrev S1x1x1x64 : Shape := ⟨4, ![1, 1, 1, 64]⟩
abbrev S8x4098x512 : Shape := ⟨3, ![8, 4098, 512]⟩
abbrev S1x512 : Shape := ⟨2, ![1, 512]⟩
abbrev S512 : Shape := ⟨1, ![512]⟩
abbrev S1x1x512 : Shape := ⟨3, ![1, 1, 512]⟩
abbrev S1x1x8x64 : Shape := ⟨4, ![1, 1, 8, 64]⟩
abbrev S8x16x256x512 : Shape := ⟨4, ![8, 16, 256, 512]⟩
abbrev S8x16x512x256 : Shape := ⟨4, ![8, 16, 512, 256]⟩
abbrev S8x4096x128 : Shape := ⟨3, ![8, 4096, 128]⟩
abbrev S8x8x4096 : Shape := ⟨3, ![8, 8, 4096]⟩

abbrev nBuf : Space → Nat
  | .hbm => 141
  | .vmem => 0
  | .smem => 0
  | _ => 0

abbrev hbmTy0_0 (i : Nat) : BufTy := match i % 128 with
  | 0 => ⟨S8x4096x1024, .f32⟩
  | 1 => ⟨S8x6x1024, .f32⟩
  | 2 => ⟨S1024, .f32⟩
  | 3 => ⟨S1024x3656, .f32⟩
  | 4 => ⟨S64, .f32⟩
  | 5 => ⟨S64, .f32⟩
  | 6 => ⟨S3x512, .f32⟩
  | 7 => ⟨S8x64, .f32⟩
  | 8 => ⟨S8x1x1024, .f32⟩
  | 9 => ⟨S8x1x1024, .f32⟩
  | 10 => ⟨S8x4096x1024, .f32⟩
  | 11 => ⟨S_, .f32⟩
  | 12 => ⟨S8x4096, .f32⟩
  | 13 => ⟨S8x4096x1, .f32⟩
  | 14 => ⟨S_, .f32⟩
  | 15 => ⟨S8x4096x1, .f32⟩
  | 16 => ⟨S8x4096x1, .f32⟩
  | 17 => ⟨S_, .f32⟩
  | 18 => ⟨S8x4096x1, .f32⟩
  | 19 => ⟨S8x4096x1, .f32⟩
  | 20 => ⟨S8x4096x1, .f32⟩
  | 21 => ⟨S8x4096x1024, .f32⟩
  | 22 => ⟨S8x4096x1024, .f32⟩
  | 23 => ⟨S1x1x1024, .f32⟩
  | 24 => ⟨S8x4096x1024, .f32⟩
  | 25 => ⟨S8x4096x1024, .f32⟩
  | 26 => ⟨S_, .f32⟩
  | 27 => ⟨S8x1x1024, .f32⟩
  | 28 => ⟨S8x1x1024, .f32⟩
  | 29 => ⟨S8x4096x1024, .f32⟩
  | 30 => ⟨S8x4096x1024, .f32⟩
  | 31 => ⟨S8x4096x1024, .f32⟩
  | 32 => ⟨S8x4096x1024, .f32⟩
  | 33 => ⟨S8x4096x3656, .f32⟩
  | 34 => ⟨S8x4096x512, .f32⟩
  | 35 => ⟨S8x4096x512, .f32⟩
  | 36 => ⟨S8x4096x512, .f32⟩
  | 37 => ⟨S8x4096x512, .f32⟩
  | 38 => ⟨S8x4096x64, .f32⟩
  | 39 => ⟨S8x4096x8, .f32⟩
  | 40 => ⟨S8x4096x512, .f32⟩
  | 41 => ⟨S8x4096x512, .f32⟩
  | 42 => ⟨S8x4096x512, .f32⟩
  | 43 => ⟨S8x4096x8x64, .f32⟩
  | 44 => ⟨S8x4096x8x64, .f32⟩
  | 45 => ⟨S_, .f32⟩
  | 46 => ⟨S8x4096x8, .f32⟩
  | 47 => ⟨S8x4096x8x1, .f32⟩
  | 48 => ⟨S_, .f32⟩
  | 49 => ⟨S8x4096x8x1, .f32⟩
  | 50 => ⟨S8x4096x8x1, .f32⟩
  | 51 => ⟨S_, .f32⟩
  | 52 => ⟨S8x4096x8x1, .f32⟩
  | 53 => ⟨S8x4096x8x1, .f32⟩
  | 54 => ⟨S8x4096x8x1, .f32⟩
  | 55 => ⟨S8x4096x8x64, .f32⟩
  | 56 => ⟨S8x4096x8x64, .f32⟩
  | 57 => ⟨S1x1x1x64, .f32⟩
  | 58 => ⟨S8x4096x8x64, .f32⟩
  | 59 => ⟨S8x4096x8x64, .f32⟩
  | 60 => ⟨S8x4096x512, .f32⟩
  | 61 => ⟨S_, .f32⟩
  | 62 => ⟨S8x4096x512, .f32⟩
  | 63 => ⟨S8x4096x512, .f32⟩
  | 64 => ⟨S8x4096x8x64, .f32⟩
  | 65 => ⟨S8x4096x8x64, .f32⟩
  | 66 => ⟨S_, .f32⟩
  | 67 => ⟨S8x4096x8, .f32⟩
  | 68 => ⟨S8x4096x8x1, .f32⟩
  | 69 => ⟨S_, .f32⟩
  | 70 => ⟨S8x4096x8x1, .f32⟩
  | 71 => ⟨S8x4096x8x1, .f32⟩
  | 72 => ⟨S_, .f32⟩
  | 73 => ⟨S8x4096x8x1, .f32⟩
  | 74 => ⟨S8x4096x8x1, .f32⟩
  | 75 => ⟨S8x4096x8x1, .f32⟩
  | 76 => ⟨S8x4096x8x64, .f32⟩
  | 77 => ⟨S8x4096x8x64, .f32⟩
  | 78 => ⟨S1x1x1x64, .f32⟩
  | 79 => ⟨S8x4096x8x64, .f32⟩
  | 80 => ⟨S8x4096x8x64, .f32⟩
  | 81 => ⟨S8x4096x512, .f32⟩
  | 82 => ⟨S_, .f32⟩
  | 83 => ⟨S8x4096x8, .f32⟩
  | 84 => ⟨S8x4096x8, .f32⟩
  | 85 => ⟨S8x4096x512, .f32⟩
  | 86 => ⟨S_, .i32⟩
  | 87 => ⟨S_, .f32⟩
  | 88 => ⟨S8x4098x512, .f32⟩
  | 89 => ⟨S1x512, .f32⟩
  | 90 => ⟨S512, .f32⟩
  | 91 => ⟨S8x4096x512, .f32⟩
  | 92 => ⟨S1x1x512, .f32⟩
  | 93 => ⟨S8x4096x512, .f32⟩
  | 94 => ⟨S8x4096x512, .f32⟩
  | 95 => ⟨S_, .f32⟩
  | 96 => ⟨S8x4096x512, .f32⟩
  | 97 => ⟨S8x4096x512, .f32⟩
  | 98 => ⟨S1x512, .f32⟩
  | 99 => ⟨S512, .f32⟩
  | 100 => ⟨S8x4096x512, .f32⟩
  | 101 => ⟨S1x1x512, .f32⟩
  | 102 => ⟨S8x4096x512, .f32⟩
  | 103 => ⟨S8x4096x512, .f32⟩
  | 104 => ⟨S8x4096x512, .f32⟩
  | 105 => ⟨S1x512, .f32⟩
  | 106 => ⟨S512, .f32⟩
  | 107 => ⟨S8x4096x512, .f32⟩
  | 108 => ⟨S1x1x512, .f32⟩
  | 109 => ⟨S8x4096x512, .f32⟩
  | 110 => ⟨S8x4096x512, .f32⟩
  | 111 => ⟨S8x4096x512, .f32⟩
  | 112 => ⟨S8x4096x512, .f32⟩
  | 113 => ⟨S8x4096x8x64, .f32⟩
  | 114 => ⟨S8x4096x8x64, .f32⟩
  | 115 => ⟨S_, .f32⟩
  | 116 => ⟨S8x4096x8, .f32⟩
  | 117 => ⟨S8x4096x8x1, .f32⟩
  | 118 => ⟨S_, .f32⟩
  | 119 => ⟨S8x4096x8x1, .f32⟩
  | 120 => ⟨S8x4096x8x1, .f32⟩
  | 121 => ⟨S_, .f32⟩
  | 122 => ⟨S8x4096x8x1, .f32⟩
  | 123 => ⟨S8x4096x8x1, .f32⟩
  | 124 => ⟨S8x4096x8x1, .f32⟩
  | 125 => ⟨S8x4096x8x64, .f32⟩
  | 126 => ⟨S8x4096x8x64, .f32⟩
  | 127 => ⟨S1x1x8x64, .f32⟩
  | _ => ⟨S8x4096x1024, .f32⟩

abbrev hbmTy0_1 (i : Nat) : BufTy := match i % 128 with
  | 0 => ⟨S8x4096x8x64, .f32⟩
  | 1 => ⟨S8x4096x8x64, .f32⟩
  | 2 => ⟨S8x4096x512, .f32⟩
  | 3 => ⟨S8x16x256x512, .f32⟩
  | 4 => ⟨S8x16x512x256, .f32⟩
  | 5 => ⟨S8x4096x512, .bf16⟩
  | 6 => ⟨S8x4096x512, .bf16⟩
  | 7 => ⟨S8x16x512x256, .bf16⟩
  | 8 => ⟨S8x4096x512, .bf16⟩
  | 9 => ⟨S8x4096x128, .f32⟩
  | 10 => ⟨S8x4096x128, .bf16⟩
  | 11 => ⟨S8x8x4096, .f32⟩
  | 12 => ⟨S8x4096x512, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_10 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_c : Ref sig .tc := ⟨.hbm, 86, rfl⟩
abbrev main_call0_v0 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_11 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_12 : Ref sig .tc := ⟨.hbm, 115, rfl⟩
abbrev main_v92 : Ref sig .tc := ⟨.hbm, 116, rfl⟩
abbrev main_v93 : Ref sig .tc := ⟨.hbm, 117, rfl⟩
abbrev main_cst_13 : Ref sig .tc := ⟨.hbm, 118, rfl⟩
abbrev main_v94 : Ref sig .tc := ⟨.hbm, 119, rfl⟩
abbrev main_v95 : Ref sig .tc := ⟨.hbm, 120, rfl⟩
abbrev main_cst_14 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩

abbrev nD : Nat := 1
abbrev τ : Topo := Topo.v7x

variable {F : FTy → Type} [FloatOps F]
-- ==== Kernel4.lean ====
abbrev S8x1024 : Shape := ⟨2, ![8, 1024]⟩
abbrev S1024x6144 : Shape := ⟨2, ![1024, 6144]⟩
abbrev S6144 : Shape := ⟨1, ![6144]⟩
abbrev S1x6144 : Shape := ⟨2, ![1, 6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S8x6144, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.MoeBlock.lean ====
/-
  What one grid point of the expert kernel computes. A point is a batch row, a block of 1024 tokens and an expert. Its body
  computes the expert's gated feed-forward product for the block, scaled by the token's combine weight for that expert, and
  stores it in the scratch (first expert) or adds it there (later experts); at the last expert it writes the residual
  plus the gate times the scratch.
-/
module

public import proofs.«01_k».proof.Proof.Gen.KernelIdeal.Value
public import Idealize.ShloMosaic.Lib.Pointwise

@[expose] public section

set_option maxRecDepth 16384

noncomputable section

namespace Cert.KernelIdeal.Moe

open Cert.KernelIdeal Cert.KernelIdeal.Gen Idealize.ShloMosaic Idealize.ShloMosaic.TcCoe Idealize.SL.Sem
open scoped BigOperators

theorem zero2 : (![0, 0] : Fin 2 → Nat) = fun _ => 0 := funext fun a => by fin_cases a <;> rfl
theorem zero3 : (![0, 0, 0] : Fin 3 → Nat) = fun _ => 0 := funext fun a => by fin_cases a <;> rfl

/-- The first expert's point leaves the expert's product in the scratch. -/
theorem scratch_first {F : FTy → Type} [FloatOps F] (c : Dev nD) (i : grid0.Coords)
    (a3 : Memref sig .tc .vmem S1x1024x1024 .bf16) (h3 : a3.IsWhole) (a4 : Memref sig .tc .vmem S1x1024x128 .f32) (h4 : a4.IsWhole)
    (a5 : Memref sig .tc .vmem S1x1024x1024 .f32) (h5 : a5.IsWhole) (a6 : Memref sig .tc .vmem S1x6x1024 .f32) (h6 : a6.IsWhole)
    (a7 : Memref sig .tc .vmem S1x1024x512 .bf16) (h7 : a7.IsWhole) (a8 : Memref sig .tc .vmem S1x256x1024 .bf16) (h8 : a8.IsWhole)
    (a9 : Memref sig .tc .vmem S1x1024x1024 .f32) (h9 : a9.IsWhole) (a10 : Memref sig .tc .vmem S1024x1024 .f32) (h10 : a10.IsWhole)
    (hc0 : cond0_0 i) (hc1 : ¬cond0_1 i) (hc2 : ¬cond0_2 i)
    (x0 : Vec F S1x1024x1024 .bf16) (x1 : Vec F S1x1024x128 .f32) (x2 : Vec F S1x1024x1024 .f32) (x3 : Vec F S1x6x1024 .f32)
    (x4 : Vec F S1x1024x512 .bf16) (x5 : Vec F S1x256x1024 .bf16) :
    sout0_A_0 c i a3 h3 a4 h4 a5 h5 a6 h6 a7 h7 a8 h8 a9 h9 a10 h10 hc0 hc1 hc2 x0 x1 x2 x3 x4 x5 = k0_pay2 i x0 x4 x1 x5 := by
  unfold sout0_A_0
  rw [View.read_writes_eq_canon _ _ _ (scover0_A_0 c i a3 h3 a4 h4 a5 h5 a6 h6 a7 h7 a8 h8 a9 h9 a10 h10 hc0 hc1 hc2 x0 x1 x2 x3 x4 x5)]
  unfold kernelRun0_A
  dsimp only
  sl_unfold_words
  rw [View.canon_unit_zero zero2]
  unfold k0_pay3
  simp only [View.readAt_eq_ld, h3.read_unread, h4.read_unread, h7.read_unread, h8.read_unread,
    View.ld_unit_zero (S := S1x1024x1024) zero3, View.ld_unit_zero (S := S1x1024x512) zero3,
    View.ld_unit_zero (S := S1x1024x128) zero3, View.ld_unit_zero (S := S1x256x1024) zero3, shapeCast_self]

/-- A middle expert's point adds the expert's product to what the scratch held. -/
theorem scratch_next {F : FTy → Type} [FloatOps F] (c : Dev nD) (i : grid0.Coords)
    (a3 : Memref sig .tc .vmem S1x1024x1024 .bf16) (h3 : a3.IsWhole) (a4 : Memref sig .tc .vmem S1x1024x128 .f32) (h4 : a4.IsWhole)
    (a5 : Memref sig .tc .vmem S1x1024x1024 .f32) (h5 : a5.IsWhole) (a6 : Memref sig .tc .vmem S1x6x1024 .f32) (h6 : a6.IsWhole)
    (a7 : Memref sig .tc .vmem S1x1024x512 .bf16) (h7 : a7.IsWhole) (a8 : Memref sig .tc .vmem S1x256x1024 .bf16) (h8 : a8.IsWhole)
    (a9 : Memref sig .tc .vmem S1x1024x1024 .f32) (h9 : a9.IsWhole) (a10 : Memref sig .tc .vmem S1024x1024 .f32) (h10 : a10.IsWhole)
    (hc0 : ¬cond0_0 i) (hc1 : cond0_1 i) (hc2 : ¬cond0_2 i)
    (x0 : Vec F S1x1024x1024 .bf16) (x1 : Vec F S1x1024x128 .f32) (x2 : Vec F S1x1024x1024 .f32) (x3 : Vec F S1x6x1024 .f32)
    (x4 : Vec F S1x1024x512 .bf16) (x5 : Vec F S1x256x1024 .bf16) (xs : Vec F S1024x1024 .f32) :
    sout0_B_0 c i a3 h3 a4 h4 a5 h5 a6 h6 a7 h7 a8 h8 a9 h9 a10 h10 hc0 hc1 hc2 x0 x1 x2 x3 x4 x5 xs
      = addf xs (k0_pay2 i x0 x4 x1 x5) := by
  unfold sout0_B_0
  rw [View.read_writes_eq_canon _ _ _ (scover0_B_0 c i a3 h3 a4 h4 a5 h5 a6 h6 a7 h7 a8 h8 a9 h9 a10 h10 hc0 hc1 hc2 x0 x1 x2 x3 x4 x5 xs)]
  unfold kernelRun0_B
  dsimp only
  sl_unfold_words
  rw [View.canon_unit_zero zero2]
  unfold k0_pay4
  simp only [View.readAt_eq_ld, h3.read_unread, h4.read_unread, h7.read_unread, h8.read_unread, h10.read_unread,
    View.ld_unit_zero (S := S1x1024x1024) zero3, View.ld_unit_zero (S := S1x1024x512) zero3,
    View.ld_unit_zero (S := S1x1024x128) zero3, View.ld_unit_zero (S := S1x256x1024) zero3,
    View.ld_unit_zero (S := S1024x1024) zero2, shapeCast_self]

/-- Row 5 of the six modulation rows: the gate of the second residual. -/
def gateRow {F : FTy → Type} (x3 : Vec F S1x6x1024 .f32) : Vec F S1x1x1024 .f32 := fun j => x3 (ix3 0 5 (j 2))

/-- The last expert's point writes the residual plus the gate times the scratch with that expert's product added. -/
theorem result_last {F : FTy → Type} [FloatOps F] (c : Dev nD) (i : grid0.Coords)
    (a3 : Memref sig .tc .vmem S1x1024x1024 .bf16) (h3 : a3.IsWhole) (a4 : Memref sig .tc .vmem S1x1024x128 .f32) (h4 : a4.IsWhole)
    (a5 : Memref sig .tc .vmem S1x1024x1024 .f32) (h5 : a5.IsWhole) (a6 : Memref sig .tc .vmem S1x6x1024 .f32) (h6 : a6.IsWhole)
    (a7 : Memref sig .tc .vmem S1x1024x512 .bf16) (h7 : a7.IsWhole) (a8 : Memref sig .tc .vmem S1x256x1024 .bf16) (h8 : a8.IsWhole)
    (a9 : Memref sig .tc .vmem S1x1024x1024 .f32) (h9 : a9.IsWhole) (a10 : Memref sig .tc .vmem S1024x1024 .f32) (h10 : a10.IsWhole)
    (hc0 : ¬cond0_0 i) (hc1 : cond0_1 i) (hc2 : cond0_2 i)
    (x0 : Vec F S1x1024x1024 .bf16) (x1 : Vec F S1x1024x128 .f32) (x2 : Vec F S1x1024x1024 .f32) (x3 : Vec F S1x6x1024 .f32)
    (x4 : Vec F S1x1024x512 .bf16) (x5 : Vec F S1x256x1024 .bf16) (xs : Vec F S1024x1024 .f32) :
    out0_C_6 c i a3 h3 a4 h4 a5 h5 a6 h6 a7 h7 a8 h8 a9 h9 a10 h10 hc0 hc1 hc2 x0 x1 x2 x3 x4 x5 xs
      = k0_pay1 x2 (gateRow x3) (addf xs (k0_pay2 i x0 x4 x1 x5)) := by
  have hg : View.ld x3 (Rect.unit (s := S1x6x1024) ![0, 5, 0] S1x1x1024.size inb_S1x6x1024_S1x1x1024_0_5_0) = gateRow x3 := by
    funext j
    unfold gateRow
    pointwise
  unfold out0_C_6
  rw [View.read_writes_eq_canon _ _ _ (cover0_C_6 c i a3 h3 a4 h4 a5 h5 a6 h6 a7 h7 a8 h8 a9 h9 a10 h10 hc0 hc1 hc2 x0 x1 x2 x3 x4 x5 xs)]
  unfold kernelRun0_C
  dsimp only
  sl_unfold_words
  rw [View.canon_unit_zero zero3, View.readCov_unit_zero (S := S1024x1024) _ zero2]
  unfold k0_pay4
  simp only [View.readAt_eq_ld, h3.read_unread, h4.read_unread, h5.read_unread, h6.read_unread, h7.read_unread, h8.read_unread, h10.read_unread,
    View.ld_unit_zero (S := S1x1024x1024) zero3, View.ld_unit_zero (S := S1x1024x512) zero3,
    View.ld_unit_zero (S := S1x1024x128) zero3, View.ld_unit_zero (S := S1x256x1024) zero3,
    View.ld_unit_zero (S := S1024x1024) zero2, shapeCast_self, hg]

/-- The lane of a grid point's expert: 128 lanes of combine weights, the first 32 of them the experts'. -/
def lane (e : Fin 32) : Fin 128 := ⟨e.val, by omega⟩

/-- The masked sum over the 128 lanes keeps the expert's own lane. -/
theorem lane_sum (e : Fin 32) (w : Fin 128 → EReal) :
    (∑ x : Fin 128, Scalar.select (IntOp.cmpi CmpIPredicate.eq (BitVec.ofNat 32 x.val) (BitVec.ofNat 32 e.val)) (w x) 0)
      = w (lane e) := by
  rw [Finset.sum_eq_single (lane e)]
  · have : IntOp.cmpi CmpIPredicate.eq (BitVec.ofNat 32 (lane e).val) (BitVec.ofNat 32 e.val) = 1#1 := by
      simp [IntOp.cmpi, lane]
    rw [this]; rfl
  · intro x _ hx
    have hne : BitVec.ofNat 32 x.val ≠ BitVec.ofNat 32 e.val := by
      intro h
      have := congrArg BitVec.toNat h
      simp only [BitVec.toNat_ofNat] at this
      apply hx
      apply Fin.ext
      show x.val = e.val
      have := x.isLt
      have := e.isLt
      omega
    have : IntOp.cmpi CmpIPredicate.eq (BitVec.ofNat 32 x.val) (BitVec.ofNat 32 e.val) = 0#1 := by
      show BitVec.ofBool (BitVec.ofNat 32 x.val == BitVec.ofNat 32 e.val) = 0#1
      rw [beq_eq_false_iff_ne.mpr hne]; rfl
    rw [this]; rfl
  · intro h; exact absurd (Finset.mem_univ _) h

/-- One expert's product at a token and a feature: the sum over the expert's hidden units. -/
theorem expert_apply (i : grid0.Coords) (v0 : Vec Ideal S1x1024x1024 .bf16) (v2 : Vec Ideal S1x1024x512 .bf16)
    (v7 : Vec Ideal S1x1024x128 .f32) (v22 : Vec Ideal S1x256x1024 .bf16) (r d : Fin 1024) :
    k0_pay2 (F := Ideal) i v0 v2 v7 v22 (ix2 r d) = ∑ f : Fin 256,
      (((∑ k : Fin 1024, v0 (ix3 0 r k) * v2 (ix3 0 k ⟨f.val, by omega⟩))
          * Ideal.logistic (∑ k : Fin 1024, v0 (ix3 0 r k) * v2 (ix3 0 k ⟨f.val, by omega⟩))
        * ∑ k : Fin 1024, v0 (ix3 0 r k) * v2 (ix3 0 k ⟨256 + f.val, by omega⟩))
        * v7 (ix3 0 r (lane (i 2)))) * v22 (ix3 0 f d) := by
  have h := lane_sum (i 2) (fun x => v7 (ix3 0 r x))
  pointwise [k0_pay2]
  simp only [h]

/-- The result's block at a token and a feature: the residual plus the gate times the scratch. -/
theorem result_apply (v34 : Vec Ideal S1x1024x1024 .f32) (v36 : Vec Ideal S1x6x1024 .f32) (v38 : Vec Ideal S1024x1024 .f32)
    (r d : Fin 1024) :
    k0_pay1 (F := Ideal) v34 (gateRow v36) v38 (ix3 0 r d) = v34 (ix3 0 r d) + v36 (ix3 0 5 d) * v38 (ix2 r d) := by
  pointwise [k0_pay1, gateRow]

end Cert.KernelIdeal.Moe

end
-- ==== Proof.MoeFold.lean ====
/-
  The expert kernel's result array, read at a token and a feature: the residual plus the gate times the sum over the 32
  experts of their products, with every block read back from the argument it was cut from.
-/
module

public import proofs.«01_k».proof.Proof.MoeBlock
public import Idealize.ShloMosaic.Lib.StableHlo.Run

@[expose] public section

set_option maxRecDepth 16384

noncomputable section

namespace Cert.KernelIdeal.Moe

open Cert.KernelIdeal Cert.KernelIdeal.Gen Cert.KernelIdeal.Value Idealize.ShloMosaic Idealize.ShloMosaic.TcCoe Idealize.SL.Sem
open scoped BigOperators

variable (m : (ℓ : Loc nD τ sig) → Buf (Elt Ideal) ℓ)

/-- What grid point `t` computes from its blocks: its expert's product. -/
def product (c : Dev nD) (t : Fin cfg0.N) : FVec Ideal S1024x1024 .f32 :=
  k0_pay2 (F := Ideal) (grid0.coords t) (iblk m c 0 t) (iblk m c 4 t) (iblk m c 1 t) (iblk m c 5 t)

/-- The product of the run's `e`-th point, read at an index (zero past the grid). -/
def part (c : Dev nD) (q : ℕ) (j : S1024x1024.Idx) (e : ℕ) : EReal :=
  if h : 32 * q + e < cfg0.N then product m c ⟨32 * q + e, h⟩ j else 0

/-- After the run's `e`-th expert the scratch holds the sum of the products so far. -/
theorem scratch_eq (c : Dev nD) (q : ℕ) (j : S1024x1024.Idx) : ∀ (e : ℕ) (he : e < 31) (h : 32 * q + e < cfg0.N),
    (outsAt0 m c (32 * q + e) h).2 j = ∑ e' ∈ Finset.range (e + 1), part m c q j e'
  | 0, _, h => by
    rw [outsAt0_A m c ⟨32 * q + 0, h⟩ (by dsimp only; omega) (by dsimp only; omega) (by dsimp only; omega)]
    dsimp only
    rw [scratch_first, Finset.sum_range_one]
    unfold part
    rw [dif_pos h]
    rfl
  | e + 1, he, h => by
    have h' : 32 * q + e < cfg0.N := by omega
    have ih := scratch_eq c q j e (by omega) h'
    have e1 : (32 * q + (e + 1)) - 1 = 32 * q + e := by omega
    rw [outsAt0_B m c ⟨32 * q + (e + 1), h⟩ (by dsimp only; omega) (by dsimp only; omega) (by dsimp only; omega)]
    dsimp only
    rw [scratch_next, Finset.sum_range_succ, ← ih]
    have hp : part m c q j (e + 1) = product m c ⟨32 * q + (e + 1), h⟩ j := by unfold part; rw [dif_pos h]
    rw [hp]
    rfl

/-- A place of a grid point's block of the residual. -/
def residual (c : Dev nD) (t : Fin cfg0.N) (r d : Fin 1024) : EReal := (iblk m c 2 t : Vec Ideal S1x1024x1024 .f32) (ix3 0 r d)
/-- A feature of a grid point's gate. -/
def gate (c : Dev nD) (t : Fin cfg0.N) (d : Fin 1024) : EReal := (iblk m c 3 t : Vec Ideal S1x6x1024 .f32) (ix3 0 5 d)

/-- At the run's last point the result's block is written from the sum of all 32 products. -/
theorem block_eq (c : Dev nD) (q : ℕ) (h : 32 * q + 31 < cfg0.N) (r d : Fin 1024) :
    (outsAt0 m c (32 * q + 31) h).1 (ix3 0 r d)
      = residual m c ⟨32 * q + 31, h⟩ r d + gate m c ⟨32 * q + 31, h⟩ d * ∑ e : Fin 32, part m c q (ix2 r d) e.val := by
  have h' : 32 * q + 30 < cfg0.N := by omega
  have ih := scratch_eq m c q (ix2 r d) 30 (by omega) h'
  rw [outsAt0_C m c ⟨32 * q + 31, h⟩ (by dsimp only; omega) (by dsimp only; omega) (by dsimp only; omega)]
  dsimp only
  rw [result_last, result_apply]
  unfold residual gate
  refine congrArg _ (congrArg _ ?_)
  rw [← Finset.sum_range (fun e => part m c q (ix2 r d) e), Finset.sum_range_succ, ← ih]
  have hp : part m c q (ix2 r d) 31 = product m c ⟨32 * q + 31, h⟩ (ix2 r d) := by unfold part; rw [dif_pos h]
  rw [hp]
  rfl

/-! ## The blocks, read from the arguments -/

theorem index0 : ∀ t : Fin cfg0.N, win0_0.index t (0 : Fin 3) = t.val / 128 ∧ win0_0.index t (1 : Fin 3) = t.val / 32 % 4 ∧ win0_0.index t (2 : Fin 3) = 0 :=
  (by decide +kernel : ∀ t : Fin grid0.N, _)
theorem index1 : ∀ t : Fin cfg0.N, win0_1.index t (0 : Fin 3) = t.val / 128 ∧ win0_1.index t (1 : Fin 3) = t.val / 32 % 4 ∧ win0_1.index t (2 : Fin 3) = 0 :=
  (by decide +kernel : ∀ t : Fin grid0.N, _)
theorem index2 : ∀ t : Fin cfg0.N, win0_2.index t (0 : Fin 3) = t.val / 128 ∧ win0_2.index t (1 : Fin 3) = t.val / 32 % 4 ∧ win0_2.index t (2 : Fin 3) = 0 :=
  (by decide +kernel : ∀ t : Fin grid0.N, _)
theorem index3 : ∀ t : Fin cfg0.N, win0_3.index t (0 : Fin 3) = t.val / 128 ∧ win0_3.index t (1 : Fin 3) = 0 ∧ win0_3.index t (2 : Fin 3) = 0 :=
  (by decide +kernel : ∀ t : Fin grid0.N, _)
theorem index4 : ∀ t : Fin cfg0.N, win0_4.index t (0 : Fin 3) = t.val % 32 ∧ win0_4.index t (1 : Fin 3) = 0 ∧ win0_4.index t (2 : Fin 3) = 0 :=
  (by decide +kernel : ∀ t : Fin grid0.N, _)
theorem index5 : ∀ t : Fin cfg0.N, win0_5.index t (0 : Fin 3) = t.val % 32 ∧ win0_5.index t (1 : Fin 3) = 0 ∧ win0_5.index t (2 : Fin 3) = 0 :=
  (by decide +kernel : ∀ t : Fin grid0.N, _)
theorem expert_coord : ∀ t : Fin cfg0.N, ((grid0.coords t) 2).val = t.val % 32 :=
  (by decide +kernel : ∀ t : Fin grid0.N, _)

theorem point_lt (t : Fin cfg0.N) : t.val < 1024 := lt_of_lt_of_eq t.isLt N_0

/-- The batch row of a grid point. -/
def rowOf (t : Fin cfg0.N) : Fin 8 := ⟨t.val / 128, by have := point_lt t; omega⟩
/-- The expert of a grid point. -/
def expertOf (t : Fin cfg0.N) : Fin 32 := ⟨t.val % 32, Nat.mod_lt _ (by decide)⟩
/-- The token, in its batch row, of a place in a grid point's block. -/
def tokenOf (t : Fin cfg0.N) (r : Fin 1024) : Fin 4096 := ⟨1024 * (t.val / 32 % 4) + r.val, by omega⟩

theorem V_gate_up (c : Dev nD) (e : Fin 32) (k : Fin 1024) (f : Fin 512) : (V m c main_v1 : Vec Ideal S32x1024x512 .bf16) (ix3 e k f)
    = if h : f.val < 256 then (m ((c : Thread nD τ).loc main_arg4) : Vec Ideal S32x1024x256 .f32) (ix3 e k ⟨f.val, h⟩)
      else (m ((c : Thread nD τ).loc main_arg5) : Vec Ideal S32x1024x256 .f32) (ix3 e k ⟨f.val - 256, by omega⟩) := by
  have h : V m c main_v1 = truncf (F := Ideal) .bf16 (concatenate S32x1024x512 2 [⟨S32x1024x256, (m ((c : Thread nD τ).loc main_arg4) : Vec Ideal S32x1024x256 .f32)⟩, ⟨S32x1024x256, (m ((c : Thread nD τ).loc main_arg5) : Vec Ideal S32x1024x256 .f32)⟩] concatenates_S32x1024x256_S32x1024x256_S32x1024x512_d2) bitsLt_bf16_f32 := by
    unfold V
    after_results
  rw [h]
  pointwise

theorem V_down (c : Dev nD) : V m c main_v2 = truncf (F := Ideal) .bf16 (m ((c : Thread nD τ).loc main_arg6) : Vec Ideal S32x256x1024 .f32) bitsLt_bf16_f32 := by
  unfold V
  after_results

theorem blk0 (c : Dev nD) (t : Fin cfg0.N) (r k : Fin 1024) : (iblk m c 0 t : Vec Ideal S1x1024x1024 .bf16) (ix3 0 r k)
    = (m ((c : Thread nD τ).loc main_arg0) : Vec Ideal S8x4096x1024 .bf16) (ix3 (rowOf t) (tokenOf t r) k) := by
  obtain ⟨e0, e1, e2⟩ := index0 t
  unfold iblk
  rw [View.read_apply]
  show V m c main_arg0 _ = _
  rw [V_main_arg0]
  congr 1
  funext a
  apply Fin.ext
  match a with
  | ⟨0, _⟩ => show win0_0.index t 0 * 1 + 1 * 0 = t.val / 128; rw [e0]; omega
  | ⟨1, _⟩ => show win0_0.index t 1 * 1024 + 1 * r.val = 1024 * (t.val / 32 % 4) + r.val; rw [e1]; omega
  | ⟨2, _⟩ => show win0_0.index t 2 * 1024 + 1 * k.val = k.val; rw [e2]; omega

theorem blk1 (c : Dev nD) (t : Fin cfg0.N) (r : Fin 1024) (k : Fin 128) : (iblk m c 1 t : Vec Ideal S1x1024x128 .f32) (ix3 0 r k)
    = (m ((c : Thread nD τ).loc main_arg1) : Vec Ideal S8x4096x128 .f32) (ix3 (rowOf t) (tokenOf t r) k) := by
  obtain ⟨e0, e1, e2⟩ := index1 t
  unfold iblk
  rw [View.read_apply]
  show V m c main_arg1 _ = _
  rw [V_main_arg1]
  congr 1
  funext a
  apply Fin.ext
  match a with
  | ⟨0, _⟩ => show win0_1.index t 0 * 1 + 1 * 0 = t.val / 128; rw [e0]; omega
  | ⟨1, _⟩ => show win0_1.index t 1 * 1024 + 1 * r.val = 1024 * (t.val / 32 % 4) + r.val; rw [e1]; omega
  | ⟨2, _⟩ => show win0_1.index t 2 * 128 + 1 * k.val = k.val; rw [e2]; omega

theorem blk2 (c : Dev nD) (t : Fin cfg0.N) (r k : Fin 1024) : (iblk m c 2 t : Vec Ideal S1x1024x1024 .f32) (ix3 0 r k)
    = (m ((c : Thread nD τ).loc main_arg2) : Vec Ideal S8x4096x1024 .f32) (ix3 (rowOf t) (tokenOf t r) k) := by
  obtain ⟨e0, e1, e2⟩ := index2 t
  unfold iblk
  rw [View.read_apply]
  show V m c main_arg2 _ = _
  rw [V_main_arg2]
  congr 1
  funext a
  apply Fin.ext
  match a with
  | ⟨0, _⟩ => show win0_2.index t 0 * 1 + 1 * 0 = t.val / 128; rw [e0]; omega
  | ⟨1, _⟩ => show win0_2.index t 1 * 1024 + 1 * r.val = 1024 * (t.val / 32 % 4) + r.val; rw [e1]; omega
  | ⟨2, _⟩ => show win0_2.index t 2 * 1024 + 1 * k.val = k.val; rw [e2]; omega

theorem blk3 (c : Dev nD) (t : Fin cfg0.N) (g : Fin 6) (k : Fin 1024) : (iblk m c 3 t : Vec Ideal S1x6x1024 .f32) (ix3 0 g k)
    = (m ((c : Thread nD τ).loc main_arg3) : Vec Ideal S8x6x1024 .f32) (ix3 (rowOf t) g k) := by
  obtain ⟨e0, e1, e2⟩ := index3 t
  unfold iblk
  rw [View.read_apply]
  show V m c main_arg3 _ = _
  rw [V_main_arg3]
  congr 1
  funext a
  apply Fin.ext
  match a with
  | ⟨0, _⟩ => show win0_3.index t 0 * 1 + 1 * 0 = t.val / 128; rw [e0]; omega
  | ⟨1, _⟩ => show win0_3.index t 1 * 6 + 1 * g.val = g.val; rw [e1]; omega
  | ⟨2, _⟩ => show win0_3.index t 2 * 1024 + 1 * k.val = k.val; rw [e2]; omega

theorem blk4 (c : Dev nD) (t : Fin cfg0.N) (k : Fin 1024) (f : Fin 512) : (iblk m c 4 t : Vec Ideal S1x1024x512 .bf16) (ix3 0 k f)
    = (V m c main_v1 : Vec Ideal S32x1024x512 .bf16) (ix3 (expertOf t) k f) := by
  obtain ⟨e0, e1, e2⟩ := index4 t
  unfold iblk
  rw [View.read_apply]
  show V m c main_v1 _ = _
  congr 1
  funext a
  apply Fin.ext
  match a with
  | ⟨0, _⟩ => show win0_4.index t 0 * 1 + 1 * 0 = t.val % 32; rw [e0]; omega
  | ⟨1, _⟩ => show win0_4.index t 1 * 1024 + 1 * k.val = k.val; rw [e1]; omega
  | ⟨2, _⟩ => show win0_4.index t 2 * 512 + 1 * f.val = f.val; rw [e2]; omega

theorem blk5 (c : Dev nD) (t : Fin cfg0.N) (f : Fin 256) (d : Fin 1024) : (iblk m c 5 t : Vec Ideal S1x256x1024 .bf16) (ix3 0 f d)
    = (m ((c : Thread nD τ).loc main_arg6) : Vec Ideal S32x256x1024 .f32) (ix3 (expertOf t) f d) := by
  obtain ⟨e0, e1, e2⟩ := index5 t
  unfold iblk
  rw [View.read_apply]
  show V m c main_v2 _ = _
  rw [V_down]
  show (m ((c : Thread nD τ).loc main_arg6) : Vec Ideal S32x256x1024 .f32) _ = _
  congr 1
  funext a
  apply Fin.ext
  match a with
  | ⟨0, _⟩ => show win0_5.index t 0 * 1 + 1 * 0 = t.val % 32; rw [e0]; omega
  | ⟨1, _⟩ => show win0_5.index t 1 * 256 + 1 * f.val = f.val; rw [e1]; omega
  | ⟨2, _⟩ => show win0_5.index t 2 * 1024 + 1 * d.val = d.val; rw [e2]; omega

end Cert.KernelIdeal.Moe

end
-- ==== Proof.MoeReference.lean ====
/-
  The reference read at an index: its four groups of eight experts, each a sum over the experts and their hidden units.
-/
module

public import proofs.«01_k».proof.Proof.Gen.ReferenceIdeal.Read
public import Idealize.ShloMosaic.Lib.Pointwise

@[expose] public section

set_option maxRecDepth 16384

noncomputable section

namespace Cert.ReferenceIdeal.Moe

open Cert.ReferenceIdeal Cert.ReferenceIdeal.Read Idealize.ShloMosaic Idealize.ShloMosaic.TcCoe Idealize.SL.Sem
open scoped BigOperators

/-- A token's activation by one of an expert's two input matrices, at a hidden unit. -/
def hidden (x0 : Vec Ideal S8x4096x1024 .bf16) (w : Vec Ideal S32x1024x256 .f32) (b : Fin 8) (l : Fin 4096) (e : Fin 32) (f : Fin 256) : EReal :=
  ∑ k : Fin 1024, x0 (ix3 b l k) * w (ix3 e k f)

/-- One expert's contribution to a token's feature: its gated hidden units, weighted by the token's combine weight. -/
def expertTerm (x0 : Vec Ideal S8x4096x1024 .bf16) (x1 : Vec Ideal S8x4096x128 .f32) (x4 x5 : Vec Ideal S32x1024x256 .f32)
    (x6 : Vec Ideal S32x256x1024 .f32) (b : Fin 8) (l : Fin 4096) (d : Fin 1024) (e : Fin 32) : EReal :=
  ∑ f : Fin 256, (((hidden x0 x4 b l e f * Ideal.logistic (hidden x0 x4 b l e f)) * hidden x0 x5 b l e f)
    * x1 (ix3 b l ⟨e.val, by omega⟩)) * x6 (ix3 e f d)

/-- Group 0: experts 0 to 7. -/
theorem group0 (x0 : Vec Ideal S8x4096x1024 .bf16) (x1 : Vec Ideal S8x4096x128 .f32) (x4 x5 : Vec Ideal S32x1024x256 .f32)
    (x6 : Vec Ideal S32x256x1024 .f32) (n : Fin 32768) (d : Fin 1024) :
    val_main_v23 (F := Ideal) x0 x1 x4 x5 x6 (ix2 n d)
      = ∑ e : Fin 8, expertTerm x0 x1 x4 x5 x6 ⟨n.val / 4096, by omega⟩ ⟨n.val % 4096, by omega⟩ d ⟨e.val, by omega⟩ := by
  unfold expertTerm hidden
  pointwise [val_main_v23, val_main_v22, val_main_v21, val_main_v20, val_main_v19, val_main_v18, val_main_v17, val_main_v16, val_main_v15, val_main_v14, val_main_v13, val_main_v12, val_main_v11, val_main_v10, val_main_v9, val_main_v8, val_main_v6, val_main_v5, val_main_v4, val_main_v3, val_main_v2, val_main_v1, val_main_v0, val_main_call0_v5, val_main_call0_v4, val_main_call0_v3, val_main_call0_v2, val_main_call0_v1, val_main_call0_v0, val_main_call0_cst, val_main_call0_cst_0]
  rfl

/-- Group 1: experts 8 to 15. -/
theorem group1 (x0 : Vec Ideal S8x4096x1024 .bf16) (x1 : Vec Ideal S8x4096x128 .f32) (x4 x5 : Vec Ideal S32x1024x256 .f32)
    (x6 : Vec Ideal S32x256x1024 .f32) (n : Fin 32768) (d : Fin 1024) :
    val_main_v40 (F := Ideal) x0 x1 x4 x5 x6 (ix2 n d)
      = ∑ e : Fin 8, expertTerm x0 x1 x4 x5 x6 ⟨n.val / 4096, by omega⟩ ⟨n.val % 4096, by omega⟩ d ⟨8 + e.val, by omega⟩ := by
  unfold expertTerm hidden
  pointwise [val_main_v40, val_main_v39, val_main_v38, val_main_v37, val_main_v36, val_main_v35, val_main_v34, val_main_v33, val_main_v32, val_main_v31, val_main_v30, val_main_v29, val_main_v28, val_main_v27, val_main_v26, val_main_v25, val_main_v6, val_main_v5, val_main_v4, val_main_v3, val_main_v2, val_main_v1, val_main_v0, val_main_call1_v5, val_main_call1_v4, val_main_call1_v3, val_main_call1_v2, val_main_call1_v1, val_main_call1_v0, val_main_call1_cst, val_main_call1_cst_0]
  rfl

/-- Group 2: experts 16 to 23. -/
theorem group2 (x0 : Vec Ideal S8x4096x1024 .bf16) (x1 : Vec Ideal S8x4096x128 .f32) (x4 x5 : Vec Ideal S32x1024x256 .f32)
    (x6 : Vec Ideal S32x256x1024 .f32) (n : Fin 32768) (d : Fin 1024) :
    val_main_v57 (F := Ideal) x0 x1 x4 x5 x6 (ix2 n d)
      = ∑ e : Fin 8, expertTerm x0 x1 x4 x5 x6 ⟨n.val / 4096, by omega⟩ ⟨n.val % 4096, by omega⟩ d ⟨16 + e.val, by omega⟩ := by
  unfold expertTerm hidden
  pointwise [val_main_v57, val_main_v56, val_main_v55, val_main_v54, val_main_v53, val_main_v52, val_main_v51, val_main_v50, val_main_v49, val_main_v48, val_main_v47, val_main_v46, val_main_v45, val_main_v44, val_main_v43, val_main_v42, val_main_v6, val_main_v5, val_main_v4, val_main_v3, val_main_v2, val_main_v1, val_main_v0, val_main_call2_v5, val_main_call2_v4, val_main_call2_v3, val_main_call2_v2, val_main_call2_v1, val_main_call2_v0, val_main_call2_cst, val_main_call2_cst_0]
  rfl

/-- Group 3: experts 24 to 31. -/
theorem group3 (x0 : Vec Ideal S8x4096x1024 .bf16) (x1 : Vec Ideal S8x4096x128 .f32) (x4 x5 : Vec Ideal S32x1024x256 .f32)
    (x6 : Vec Ideal S32x256x1024 .f32) (n : Fin 32768) (d : Fin 1024) :
    val_main_v74 (F := Ideal) x0 x1 x4 x5 x6 (ix2 n d)
      = ∑ e : Fin 8, expertTerm x0 x1 x4 x5 x6 ⟨n.val / 4096, by omega⟩ ⟨n.val % 4096, by omega⟩ d ⟨24 + e.val, by omega⟩ := by
  unfold expertTerm hidden
  pointwise [val_main_v74, val_main_v73, val_main_v72, val_main_v71, val_main_v70, val_main_v69, val_main_v68, val_main_v67, val_main_v66, val_main_v65, val_main_v64, val_main_v63, val_main_v62, val_main_v61, val_main_v60, val_main_v59, val_main_v6, val_main_v5, val_main_v4, val_main_v3, val_main_v2, val_main_v1, val_main_v0, val_main_call3_v5, val_main_call3_v4, val_main_call3_v3, val_main_call3_v2, val_main_call3_v1, val_main_call3_v0, val_main_call3_cst, val_main_call3_cst_0]
  rfl

/-- A sum over 32 experts is the sum over the four groups of eight, in the reference's order. -/
theorem sum_groups (w : Fin 32 → EReal) :
    (((∑ e : Fin 8, w ⟨e.val, by omega⟩) + ∑ e : Fin 8, w ⟨8 + e.val, by omega⟩) + ∑ e : Fin 8, w ⟨16 + e.val, by omega⟩)
      + ∑ e : Fin 8, w ⟨24 + e.val, by omega⟩ = ∑ e : Fin 32, w e := by
  rw [Fin.sum_univ_add (a := 24) (b := 8) w, Fin.sum_univ_add (a := 16) (b := 8), Fin.sum_univ_add (a := 8) (b := 8)]
  rfl

/-- The reference's result at a token and a feature. -/
theorem result_apply (x0 : Vec Ideal S8x4096x1024 .bf16) (x1 : Vec Ideal S8x4096x128 .f32) (x2 : Vec Ideal S8x4096x1024 .f32)
    (x3 : Vec Ideal S8x6x1024 .f32) (x4 x5 : Vec Ideal S32x1024x256 .f32) (x6 : Vec Ideal S32x256x1024 .f32)
    (b : Fin 8) (l : Fin 4096) (d : Fin 1024) :
    val_main_v80 (F := Ideal) x0 x1 x2 x3 x4 x5 x6 (ix3 b l d)
      = x2 (ix3 b l d) + x3 (ix3 b 5 d) * ∑ e : Fin 32, expertTerm x0 x1 x4 x5 x6 b l d e := by
  have hb : (⟨(b.val * 4096 + l.val) / 4096, by omega⟩ : Fin 8) = b := Fin.ext (by show (b.val * 4096 + l.val) / 4096 = b.val; omega)
  have hl : (⟨(b.val * 4096 + l.val) % 4096, by omega⟩ : Fin 4096) = l := Fin.ext (by show (b.val * 4096 + l.val) % 4096 = l.val; omega)
  have g0 := group0 x0 x1 x4 x5 x6 ⟨b.val * 4096 + l.val, by omega⟩ d
  have g1 := group1 x0 x1 x4 x5 x6 ⟨b.val * 4096 + l.val, by omega⟩ d
  have g2 := group2 x0 x1 x4 x5 x6 ⟨b.val * 4096 + l.val, by omega⟩ d
  have g3 := group3 x0 x1 x4 x5 x6 ⟨b.val * 4096 + l.val, by omega⟩ d
  simp only [hb, hl] at g0 g1 g2 g3
  rw [← sum_groups]
  pointwise [val_main_v80, val_main_v79, val_main_v78, val_main_v77, val_main_v76, val_main_v75, val_main_v58, val_main_v41, val_main_v24, val_main_v7, val_main_cst, g0, g1, g2, g3]

end Cert.ReferenceIdeal.Moe

end
-- ==== Proof.MoeEq.lean ====
/-
  The expert kernel's result array is the reference's result, on the same arguments: both are, at a token and a feature, the
  residual plus the gate times the sum of the 32 experts' contributions.
-/
module

public import proofs.«01_k».proof.Proof.MoeFold
public import proofs.«01_k».proof.Proof.MoeReference

@[expose] public section

set_option maxRecDepth 16384

noncomputable section

namespace Cert.KernelIdeal.Moe

open Cert.KernelIdeal Cert.KernelIdeal.Gen Cert.KernelIdeal.Value Idealize.ShloMosaic Idealize.ShloMosaic.TcCoe Idealize.SL.Sem
open Cert.ReferenceIdeal.Moe (expertTerm)
open scoped BigOperators

variable (m : (ℓ : Loc nD τ sig) → Buf (Elt Ideal) ℓ)

/-- A grid point's product at a place of its block is its expert's contribution to the block's token. -/
theorem product_apply (c : Dev nD) (t : Fin cfg0.N) (r d : Fin 1024) : product m c t (ix2 r d)
    = expertTerm (m ((c : Thread nD τ).loc main_arg0)) (m ((c : Thread nD τ).loc main_arg1)) (m ((c : Thread nD τ).loc main_arg4))
        (m ((c : Thread nD τ).loc main_arg5)) (m ((c : Thread nD τ).loc main_arg6)) (rowOf t) (tokenOf t r) d (expertOf t) := by
  have hl : lane ((grid0.coords t) 2) = ⟨(expertOf t).val, by omega⟩ := Fin.ext (expert_coord t)
  have hg : ∀ (k : Fin 1024) (f : Fin 256), (iblk m c 4 t : Vec Ideal S1x1024x512 .bf16) (ix3 0 k ⟨f.val, by omega⟩)
      = (m ((c : Thread nD τ).loc main_arg4) : Vec Ideal S32x1024x256 .f32) (ix3 (expertOf t) k f) := by
    intro k f
    rw [blk4, V_gate_up, dif_pos f.isLt]
  have hu : ∀ (k : Fin 1024) (f : Fin 256), (iblk m c 4 t : Vec Ideal S1x1024x512 .bf16) (ix3 0 k ⟨256 + f.val, by omega⟩)
      = (m ((c : Thread nD τ).loc main_arg5) : Vec Ideal S32x1024x256 .f32) (ix3 (expertOf t) k f) := by
    intro k f
    rw [blk4, V_gate_up, dif_neg (by show ¬ 256 + f.val < 256; omega)]
    congr 2
    exact Fin.ext (by show 256 + f.val - 256 = f.val; omega)
  unfold product expertTerm Cert.ReferenceIdeal.Moe.hidden
  rw [expert_apply]
  refine Finset.sum_congr rfl fun f _ => ?_
  simp only [blk0, blk1, blk5, hg, hu, hl]

/-- The kernel's result array is the reference's result on the same arguments. -/
theorem result_eq (c : Dev nD) : G6 m c = Cert.ReferenceIdeal.Read.val_main_v80 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) := by
  funext i
  have h0 : (i 0).val < 8 := (i 0).isLt
  have h1 : (i 1).val < 4096 := (i 1).isLt
  have h2 : (i 2).val < 1024 := (i 2).isLt
  have hq : run6Of i = 4 * (i 0).val + (i 1).val / 1024 := by show 4 * ((i 0).val / 1 - 0) + 1 * ((i 1).val / 1024 - 0) + 1 * ((i 2).val / 1024 - 0) = _; omega
  have hN : cfg0.N = 1024 := N_0
  have hp : pt6Of i < cfg0.N := by rw [hN]; show 32 * run6Of i + 31 < 1024; rw [hq]; omega
  have hlt : ∀ e : Fin 32, 32 * run6Of i + e.val < cfg0.N := fun e => by have := e.isLt; have : 32 * run6Of i + 31 < cfg0.N := hp; omega
  obtain ⟨b, l, d, rfl⟩ : ∃ (b : Fin 8) (l : Fin 4096) (d : Fin 1024), i = ix3 b l d := ⟨i 0, i 1, i 2, by funext a; match a with | ⟨0, _⟩ => rfl | ⟨1, _⟩ => rfl | ⟨2, _⟩ => rfl⟩
  change b.val < 8 at h0
  change l.val < 4096 at h1
  change d.val < 1024 at h2
  change run6Of (ix3 b l d) = 4 * b.val + l.val / 1024 at hq
  have hloc : loc6Of (ix3 b l d) = ix3 0 (⟨l.val % 1024, Nat.mod_lt _ (by decide)⟩ : Fin 1024) d := by
    funext a
    apply Fin.ext
    match a with
    | ⟨0, _⟩ => show b.val % 1 = 0; omega
    | ⟨1, _⟩ => rfl
    | ⟨2, _⟩ => show d.val % 1024 = d.val; omega
  have hrow : ∀ e : Fin 32, rowOf ⟨32 * run6Of (ix3 b l d) + e.val, hlt e⟩ = b := fun e => Fin.ext (by
    show (32 * run6Of (ix3 b l d) + e.val) / 128 = b.val; rw [hq]; omega)
  have htok : ∀ e : Fin 32, tokenOf ⟨32 * run6Of (ix3 b l d) + e.val, hlt e⟩ (⟨l.val % 1024, Nat.mod_lt _ (by decide)⟩ : Fin 1024) = l := fun e => Fin.ext (by
    show 1024 * ((32 * run6Of (ix3 b l d) + e.val) / 32 % 4) + l.val % 1024 = l.val; rw [hq]; omega)
  have hexp : ∀ e : Fin 32, expertOf ⟨32 * run6Of (ix3 b l d) + e.val, hlt e⟩ = e := fun e => Fin.ext (by
    show (32 * run6Of (ix3 b l d) + e.val) % 32 = e.val; omega)
  rw [Cert.ReferenceIdeal.Moe.result_apply]
  unfold G6
  rw [dif_pos hp, ← outsAt0_sweep m c (pt6Of (ix3 b l d)) hp, hloc]
  show (outsAt0 m c (32 * run6Of (ix3 b l d) + 31) hp).1 (ix3 0 (⟨l.val % 1024, Nat.mod_lt _ (by decide)⟩ : Fin 1024) d) = _
  rw [block_eq]
  have e2 : residual m c ⟨32 * run6Of (ix3 b l d) + 31, hp⟩ (⟨l.val % 1024, Nat.mod_lt _ (by decide)⟩ : Fin 1024) d
      = (m ((c : Thread nD τ).loc main_arg2) : Vec Ideal S8x4096x1024 .f32) (ix3 b l d) := by
    unfold residual
    rw [blk2]
    have a1 := hrow 31
    have a2 := htok 31
    exact congrArg₂ (fun (x : Fin 8) (y : Fin 4096) => (m ((c : Thread nD τ).loc main_arg2) : Vec Ideal S8x4096x1024 .f32) (ix3 x y d)) a1 a2
  have e3 : gate m c ⟨32 * run6Of (ix3 b l d) + 31, hp⟩ d
      = (m ((c : Thread nD τ).loc main_arg3) : Vec Ideal S8x6x1024 .f32) (ix3 b 5 d) := by
    unfold gate
    rw [blk3]
    exact congrArg (fun (x : Fin 8) => (m ((c : Thread nD τ).loc main_arg3) : Vec Ideal S8x6x1024 .f32) (ix3 x 5 d)) (hrow 31)
  rw [e2, e3]
  refine congrArg _ (congrArg _ (Finset.sum_congr rfl fun e _ => ?_))
  unfold part
  rw [dif_pos (hlt e), product_apply, hrow, htok, hexp]

end Cert.KernelIdeal.Moe

end
-- ==== Proof.PostBlock.lean ====
/-
  The projection-and-routing kernel's blocks: what each window's block holds of its array, the arrays the host prepares, and
  where each result array's entries come from.
-/
module

public import proofs.«01_k».proof.Proof.Gen.Kernel2Ideal.Value
public import Idealize.ShloMosaic.Lib.Pointwise
public import Idealize.ShloMosaic.Lib.StableHlo.Run

@[expose] public section

set_option maxRecDepth 16384

noncomputable section

namespace Cert.Kernel2Ideal.Post

open Cert.Kernel2Ideal Cert.Kernel2Ideal.Gen Cert.Kernel2Ideal.Value Idealize.ShloMosaic Idealize.ShloMosaic.TcCoe Idealize.SL.Sem
open scoped BigOperators

theorem zero2 : (![0, 0] : Fin 2 → Nat) = fun _ => 0 := by decide
theorem zero3 : (![0, 0, 0] : Fin 3 → Nat) = fun _ => 0 := by decide

theorem index0 : ∀ t : Fin grid0.N, win0_0.index t 0 = t.val / 8 ∧ win0_0.index t 1 = t.val % 8 ∧ win0_0.index t 2 = 0 := by decide +kernel
theorem index1 : ∀ t : Fin grid0.N, win0_1.index t 0 = t.val / 8 ∧ win0_1.index t 1 = t.val % 8 ∧ win0_1.index t 2 = 0 := by decide +kernel
theorem index2 : ∀ t : Fin grid0.N, win0_2.index t 0 = t.val / 8 ∧ win0_2.index t 1 = t.val % 8 ∧ win0_2.index t 2 = 0 := by decide +kernel
theorem index3 : ∀ t : Fin grid0.N, win0_3.index t 0 = t.val / 8 ∧ win0_3.index t 1 = 0 ∧ win0_3.index t 2 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel
theorem index7 : ∀ t : Fin grid0.N, win0_7.index t 0 = 0 ∧ win0_7.index t 1 = 0 := by decide +kernel
theorem index8 : ∀ t : Fin grid0.N, win0_8.index t 0 = 0 ∧ win0_8.index t 1 = 0 := by decide +kernel
theorem index9 : ∀ t : Fin grid0.N, win0_9.index t 0 = t.val / 8 ∧ win0_9.index t 1 = t.val % 8 ∧ win0_9.index t 2 = 0 := by decide +kernel
theorem index10 : ∀ t : Fin grid0.N, win0_10.index t 0 = t.val / 8 ∧ win0_10.index t 1 = t.val % 8 ∧ win0_10.index t 2 = 0 := by decide +kernel
theorem index11 : ∀ t : Fin grid0.N, win0_11.index t 0 = t.val / 8 ∧ win0_11.index t 1 = t.val % 8 ∧ win0_11.index t 2 = 0 := by decide +kernel
theorem flush9 : ∀ t : Fin grid0.N, (cfg0.win 9).flush t = true := by decide +kernel
theorem flush10 : ∀ t : Fin grid0.N, (cfg0.win 10).flush t = true := by decide +kernel
theorem flush11 : ∀ t : Fin grid0.N, (cfg0.win 11).flush t = true := by decide +kernel

/-! ## One grid point's block, from its input blocks -/

theorem row2 (x : Vec Ideal S1x6x1024 .f32) (d : Fin 1024) : View.ld x r0_3 (ix3 0 0 d) = x (ix3 0 2 d) := by
  show x _ = _
  congr 1
  funext a
  apply Fin.ext
  match a with
  | ⟨0, _⟩ => rfl
  | ⟨1, _⟩ => rfl
  | ⟨2, _⟩ => show 0 + 1 * d.val = d.val; omega

theorem row4 (x : Vec Ideal S1x6x1024 .f32) (d : Fin 1024) : View.ld x r0_5 (ix3 0 0 d) = x (ix3 0 4 d) := by
  show x _ = _
  congr 1
  funext a
  apply Fin.ext
  match a with
  | ⟨0, _⟩ => rfl
  | ⟨1, _⟩ => rfl
  | ⟨2, _⟩ => show 0 + 1 * d.val = d.val; omega

theorem row3 (x : Vec Ideal S1x6x1024 .f32) (d : Fin 1024) : View.ld x r0_6 (ix3 0 0 d) = x (ix3 0 3 d) := by
  show x _ = _
  congr 1
  funext a
  apply Fin.ext
  match a with
  | ⟨0, _⟩ => rfl
  | ⟨1, _⟩ => rfl
  | ⟨2, _⟩ => show 0 + 1 * d.val = d.val; omega

/-- The residual row a grid point computes: the token plus the gated output projection. -/
def resid (x0 : Vec Ideal S1x512x512 .bf16) (x1 : Vec Ideal S1x512x512 .bf16) (x2 : Vec Ideal S1x512x1024 .f32) (x3 : Vec Ideal S1x6x1024 .f32)
    (x5 : Vec Ideal S512x1024 .bf16) (x6 : Vec Ideal S512x1024 .bf16) (r : Fin 512) (d : Fin 1024) : EReal :=
  x2 (ix3 0 r d) + x3 (ix3 0 2 d) * ((∑ k : Fin 512, x0 (ix3 0 r k) * x5 (ix2 k d)) + ∑ k : Fin 512, x1 (ix3 0 r k) * x6 (ix2 k d))

/-- The modulated norm of a residual row. -/
def normed (y : Fin 1024 → EReal) (w s h : Fin 1024 → EReal) (d : Fin 1024) : EReal :=
  y d * Ideal.rsqrt (Ideal.div (∑ k, y k * y k) (Ideal.ofBits .f32 1149239296#32) + Ideal.ofBits .f32 897988541#32) * w d * (1 + s d) + h d

variable (x0 : Vec Ideal S1x512x512 .bf16) (x1 : Vec Ideal S1x512x512 .bf16) (x2 : Vec Ideal S1x512x1024 .f32) (x3 : Vec Ideal S1x6x1024 .f32)
  (x4 : Vec Ideal S1x1024 .f32) (x5 : Vec Ideal S512x1024 .bf16) (x6 : Vec Ideal S512x1024 .bf16) (x7 : Vec Ideal S1024x128 .bf16) (x8 : Vec Ideal S1x128 .f32)

theorem pay2_apply (r : Fin 512) (d : Fin 1024) :
    k0_pay2 (F := Ideal) (View.ld x0 r0_0) (View.ld x5 r0_1) (View.ld x1 r0_0) (View.ld x6 r0_1) (View.ld x2 r0_2) (View.ld x3 r0_3) (ix2 r d)
      = resid x0 x1 x2 x3 x5 x6 r d := by
  simp only [View.ld_unit_zero (S := S1x512x512) zero3, View.ld_unit_zero (S := S1x512x1024) zero3, View.ld_unit_zero (S := S512x1024) zero2]
  have h := row2 x3 d
  generalize View.ld x3 r0_3 = z at h ⊢
  pointwise [k0_pay2]
  rw [h]
  rfl

theorem pay4_apply (v0 : FVec Ideal S1x512x512 .bf16) (v2 : FVec Ideal S512x1024 .bf16) (v5 : FVec Ideal S1x512x512 .bf16) (v7 : FVec Ideal S512x1024 .bf16) (v11 : FVec Ideal S1x512x1024 .f32) (v13 : FVec Ideal S1x1x1024 .f32)
    (r : Fin 512) (d : Fin 1024) (y : Fin 1024 → EReal) (hy : ∀ d, k0_pay2 (F := Ideal) v0 v2 v5 v7 v11 v13 (ix2 r d) = y d) :
    k0_pay4 (F := Ideal) v0 v2 v5 v7 v11 v13 (ix2 r d)
      = y d * Ideal.rsqrt (Ideal.div (∑ k, y k * y k) (Ideal.ofBits .f32 1149239296#32) + Ideal.ofBits .f32 897988541#32) := by
  unfold k0_pay4
  generalize k0_pay2 (F := Ideal) v0 v2 v5 v7 v11 v13 = z at hy ⊢
  pointwise
  simp only [hy]

theorem pay5_apply (r : Fin 512) (d : Fin 1024) :
    k0_pay5 (F := Ideal) (k0_pay18 x0 x1 x2 x3 x4 x5 x6 x7 x8) (View.ld x4 r0_4) (View.ld x3 r0_5) (View.ld x3 r0_6) (ix2 r d)
      = normed (resid x0 x1 x2 x3 x5 x6 r) (fun d => x4 (ix2 0 d)) (fun d => x3 (ix3 0 4 d)) (fun d => x3 (ix3 0 3 d)) d := by
  have h := pay4_apply (View.ld x0 r0_0) (View.ld x5 r0_1) (View.ld x1 r0_0) (View.ld x6 r0_1) (View.ld x2 r0_2) (View.ld x3 r0_3) r d _ (pay2_apply x0 x1 x2 x3 x5 x6 r)
  unfold k0_pay18
  generalize k0_pay4 (F := Ideal) (View.ld x0 r0_0) (View.ld x5 r0_1) (View.ld x1 r0_0) (View.ld x6 r0_1) (View.ld x2 r0_2) (View.ld x3 r0_3) = z at h ⊢
  simp only [View.ld_unit_zero (S := S1x1024) zero2]
  have h4 := row4 x3 d
  have h3 := row3 x3 d
  generalize View.ld x3 r0_5 = z5 at h4 ⊢
  generalize View.ld x3 r0_6 = z6 at h3 ⊢
  pointwise [k0_pay5]
  rw [h, h4, h3]
  simp only [normed, Ideal.ofBits_one_f32]

theorem pay7_apply (r : Fin 512) (d : Fin 128) :
    k0_pay7 (F := Ideal) (k0_pay18 x0 x1 x2 x3 x4 x5 x6 x7 x8) (View.ld x4 r0_4) (View.ld x3 r0_5) (View.ld x3 r0_6) (View.ld x7 r0_7) (View.ld x8 r0_8) (ix2 r d)
      = (∑ k, normed (resid x0 x1 x2 x3 x5 x6 r) (fun d => x4 (ix2 0 d)) (fun d => x3 (ix3 0 4 d)) (fun d => x3 (ix3 0 3 d)) k * x7 (ix2 k d)) + x8 (ix2 0 d) := by
  have h := pay5_apply x0 x1 x2 x3 x4 x5 x6 x7 x8 r
  unfold k0_pay7
  generalize k0_pay5 (F := Ideal) (k0_pay18 x0 x1 x2 x3 x4 x5 x6 x7 x8) (View.ld x4 r0_4) (View.ld x3 r0_5) (View.ld x3 r0_6) = z at h ⊢
  simp only [View.ld_unit_zero (S := S1024x128) zero2, View.ld_unit_zero (S := S1x128) zero2]
  pointwise
  simp only [h]

theorem block9_apply (r : Fin 512) (d : Fin 1024) :
    (out0_9 (F := Ideal) x0 x1 x2 x3 x4 x5 x6 x7 x8) (ix3 0 r d) = resid x0 x1 x2 x3 x5 x6 r d := by
  have h := pay2_apply x0 x1 x2 x3 x5 x6 r d
  unfold out0_9
  rw [View.canon_unit_zero zero3]
  unfold k0_pay3
  generalize k0_pay2 (F := Ideal) (View.ld x0 r0_0) (View.ld x5 r0_1) (View.ld x1 r0_0) (View.ld x6 r0_1) (View.ld x2 r0_2) (View.ld x3 r0_3) = z at h ⊢
  pointwise
  rw [← h]

theorem block10_apply (r : Fin 512) (d : Fin 1024) :
    (out0_10 (F := Ideal) x0 x1 x2 x3 x4 x5 x6 x7 x8) (ix3 0 r d)
      = normed (resid x0 x1 x2 x3 x5 x6 r) (fun d => x4 (ix2 0 d)) (fun d => x3 (ix3 0 4 d)) (fun d => x3 (ix3 0 3 d)) d := by
  have h := pay5_apply x0 x1 x2 x3 x4 x5 x6 x7 x8 r d
  unfold out0_10
  rw [View.canon_unit_zero zero3]
  unfold k0_pay6
  generalize k0_pay5 (F := Ideal) (k0_pay18 x0 x1 x2 x3 x4 x5 x6 x7 x8) (View.ld x4 r0_4) (View.ld x3 r0_5) (View.ld x3 r0_6) = z at h ⊢
  pointwise
  rw [← h]

/-! ## The arrays' blocks -/

variable (m : (ℓ : Loc nD τ sig) → Buf (Elt Ideal) ℓ)

theorem array9 (c : Dev nD) (t : Fin cfg0.N) (r : Fin 512) (d : Fin 1024) (b : Fin 8) (s : Fin 4096) (hb : b.val = t.val / 8) (hs : s.val = t.val % 8 * 512 + r.val) :
    ((dats m 0 c).arrAt 9 cfg0.N : Vec Ideal S8x4096x1024 .f32) (ix3 b s d)
      = (out0_9 (iblk m c 0 t) (iblk m c 1 t) (iblk m c 2 t) (iblk m c 3 t) (iblk m c 4 t) (iblk m c 5 t) (iblk m c 6 t) (iblk m c 7 t) (iblk m c 8 t) : Vec Ideal S1x512x1024 .f32) (ix3 0 r d) := by
  have h := (blocks9 m c t (flush9 t)).trans (flushed9 m c t)
  have h2 := congrFun h (ix3 0 r d)
  rw [View.read_apply] at h2
  refine Eq.trans ?_ (h2.trans rfl)
  obtain ⟨e0, e1, e2⟩ := index9 t
  congr 1
  funext a
  apply Fin.ext
  match a with
  | ⟨0, _⟩ => show b.val = win0_9.index t 0 * 1 + 1 * 0; rw [e0]; omega
  | ⟨1, _⟩ => show s.val = win0_9.index t 1 * 512 + 1 * r.val; rw [e1]; omega
  | ⟨2, _⟩ => show d.val = win0_9.index t 2 * 1024 + 1 * d.val; rw [e2]; omega

theorem array10 (c : Dev nD) (t : Fin cfg0.N) (r : Fin 512) (d : Fin 1024) (b : Fin 8) (s : Fin 4096) (hb : b.val = t.val / 8) (hs : s.val = t.val % 8 * 512 + r.val) :
    ((dats m 0 c).arrAt 10 cfg0.N : Vec Ideal S8x4096x1024 .bf16) (ix3 b s d)
      = (out0_10 (iblk m c 0 t) (iblk m c 1 t) (iblk m c 2 t) (iblk m c 3 t) (iblk m c 4 t) (iblk m c 5 t) (iblk m c 6 t) (iblk m c 7 t) (iblk m c 8 t) : Vec Ideal S1x512x1024 .bf16) (ix3 0 r d) := by
  have h := (blocks10 m c t (flush10 t)).trans (flushed10 m c t)
  have h2 := congrFun h (ix3 0 r d)
  rw [View.read_apply] at h2
  refine Eq.trans ?_ (h2.trans rfl)
  obtain ⟨e0, e1, e2⟩ := index10 t
  congr 1
  funext a
  apply Fin.ext
  match a with
  | ⟨0, _⟩ => show b.val = win0_10.index t 0 * 1 + 1 * 0; rw [e0]; omega
  | ⟨1, _⟩ => show s.val = win0_10.index t 1 * 512 + 1 * r.val; rw [e1]; omega
  | ⟨2, _⟩ => show d.val = win0_10.index t 2 * 1024 + 1 * d.val; rw [e2]; omega

theorem array11 (c : Dev nD) (t : Fin cfg0.N) (r : Fin 512) (d : Fin 128) (b : Fin 8) (s : Fin 4096) (hb : b.val = t.val / 8) (hs : s.val = t.val % 8 * 512 + r.val) :
    ((dats m 0 c).arrAt 11 cfg0.N : Vec Ideal S8x4096x128 .f32) (ix3 b s d)
      = (out0_11 (iblk m c 0 t) (iblk m c 1 t) (iblk m c 2 t) (iblk m c 3 t) (iblk m c 4 t) (iblk m c 5 t) (iblk m c 6 t) (iblk m c 7 t) (iblk m c 8 t) : Vec Ideal S1x512x128 .f32) (ix3 0 r d) := by
  have h := (blocks11 m c t (flush11 t)).trans (flushed11 m c t)
  have h2 := congrFun h (ix3 0 r d)
  rw [View.read_apply] at h2
  refine Eq.trans ?_ (h2.trans rfl)
  obtain ⟨e0, e1, e2⟩ := index11 t
  congr 1
  funext a
  apply Fin.ext
  match a with
  | ⟨0, _⟩ => show b.val = win0_11.index t 0 * 1 + 1 * 0; rw [e0]; omega
  | ⟨1, _⟩ => show s.val = win0_11.index t 1 * 512 + 1 * r.val; rw [e1]; omega
  | ⟨2, _⟩ => show d.val = win0_11.index t 2 * 128 + 1 * d.val; rw [e2]; omega

theorem blk0 (c : Dev nD) (t : Fin cfg0.N) (r : Fin 512) (k : Fin 512) (b : Fin 8) (s : Fin 4096) (hb : b.val = t.val / 8) (hs : s.val = t.val % 8 * 512 + r.val) :
    (iblk m c 0 t : Vec Ideal S1x512x512 .bf16) (ix3 0 r k) = (m ((c : Thread nD τ).loc main_arg0) : Vec Ideal S8x4096x512 .bf16) (ix3 b s k) := by
  obtain ⟨e0, e1, e2⟩ := index0 t
  unfold iblk
  rw [View.read_apply]
  show V m c main_arg0 _ = _
  rw [V_main_arg0]
  congr 1
  funext a
  apply Fin.ext
  match a with
  | ⟨0, _⟩ => show win0_0.index t 0 * 1 + 1 * 0 = b.val; rw [e0]; omega
  | ⟨1, _⟩ => show win0_0.index t 1 * 512 + 1 * r.val = s.val; rw [e1]; omega
  | ⟨2, _⟩ => show win0_0.index t 2 * 512 + 1 * k.val = k.val; rw [e2]; omega

theorem blk1 (c : Dev nD) (t : Fin cfg0.N) (r : Fin 512) (k : Fin 512) (b : Fin 8) (s : Fin 4096) (hb : b.val = t.val / 8) (hs : s.val = t.val % 8 * 512 + r.val) :
    (iblk m c 1 t : Vec Ideal S1x512x512 .bf16) (ix3 0 r k) = (m ((c : Thread nD τ).loc main_arg1) : Vec Ideal S8x4096x512 .bf16) (ix3 b s k) := by
  obtain ⟨e0, e1, e2⟩ := index1 t
  unfold iblk
  rw [View.read_apply]
  show V m c main_arg1 _ = _
  rw [V_main_arg1]
  congr 1
  funext a
  apply Fin.ext
  match a with
  | ⟨0, _⟩ => show win0_1.index t 0 * 1 + 1 * 0 = b.val; rw [e0]; omega
  | ⟨1, _⟩ => show win0_1.index t 1 * 512 + 1 * r.val = s.val; rw [e1]; omega
  | ⟨2, _⟩ => show win0_1.index t 2 * 512 + 1 * k.val = k.val; rw [e2]; omega

theorem blk2 (c : Dev nD) (t : Fin cfg0.N) (r : Fin 512) (k : Fin 1024) (b : Fin 8) (s : Fin 4096) (hb : b.val = t.val / 8) (hs : s.val = t.val % 8 * 512 + r.val) :
    (iblk m c 2 t : Vec Ideal S1x512x1024 .f32) (ix3 0 r k) = (m ((c : Thread nD τ).loc main_arg2) : Vec Ideal S8x4096x1024 .f32) (ix3 b s k) := by
  obtain ⟨e0, e1, e2⟩ := index2 t
  unfold iblk
  rw [View.read_apply]
  show V m c main_arg2 _ = _
  rw [V_main_arg2]
  congr 1
  funext a
  apply Fin.ext
  match a with
  | ⟨0, _⟩ => show win0_2.index t 0 * 1 + 1 * 0 = b.val; rw [e0]; omega
  | ⟨1, _⟩ => show win0_2.index t 1 * 512 + 1 * r.val = s.val; rw [e1]; omega
  | ⟨2, _⟩ => show win0_2.index t 2 * 1024 + 1 * k.val = k.val; rw [e2]; omega

theorem blk3 (c : Dev nD) (t : Fin cfg0.N) (j : Fin 6) (k : Fin 1024) (b : Fin 8) (hb : b.val = t.val / 8) :
    (iblk m c 3 t : Vec Ideal S1x6x1024 .f32) (ix3 0 j k) = (m ((c : Thread nD τ).loc main_arg3) : Vec Ideal S8x6x1024 .f32) (ix3 b j k) := by
  obtain ⟨e0, e1, e2⟩ := index3 t
  unfold iblk
  rw [View.read_apply]
  show V m c main_arg3 _ = _
  rw [V_main_arg3]
  congr 1
  funext a
  apply Fin.ext
  match a with
  | ⟨0, _⟩ => show win0_3.index t 0 * 1 + 1 * 0 = b.val; rw [e0]; omega
  | ⟨1, _⟩ => show win0_3.index t 1 * 6 + 1 * j.val = j.val; rw [e1]; omega
  | ⟨2, _⟩ => show win0_3.index t 2 * 1024 + 1 * k.val = k.val; rw [e2]; omega

/-! ## The arrays the host prepares -/

theorem blk4 (c : Dev nD) (t : Fin cfg0.N) (k : Fin 1024) :
    (iblk m c 4 t : Vec Ideal S1x1024 .f32) (ix2 0 k) = (m ((c : Thread nD τ).loc main_arg4) : Vec Ideal S1024 .f32) (ix1 k) := by
  obtain ⟨e0, e1⟩ := index4 t
  have hv : (V m c main_v6 : Vec Ideal S1x1024 .f32) (ix2 0 k) = (m ((c : Thread nD τ).loc main_arg4) : Vec Ideal S1024 .f32) (ix1 k) := by
    have h : V m c main_v6 = broadcastInDim S1x1024 ![1] bcast_S1024_S1x1024_1 (m ((c : Thread nD τ).loc main_arg4) : Vec Ideal S1024 .f32) := by
      unfold V
      after_results
    rw [h]
    pointwise
  rw [← hv]
  unfold iblk
  rw [View.read_apply]
  show V m c main_v6 _ = _
  congr 1
  funext a
  apply Fin.ext
  match a with
  | ⟨0, _⟩ => show win0_4.index t 0 * 1 + 1 * 0 = 0; rw [e0]
  | ⟨1, _⟩ => show win0_4.index t 1 * 1024 + 1 * k.val = k.val; rw [e1]; omega

theorem blk5 (c : Dev nD) (t : Fin cfg0.N) (k : Fin 512) (d : Fin 1024) (k' : Fin 1024) (hk : k'.val = k.val) :
    (iblk m c 5 t : Vec Ideal S512x1024 .bf16) (ix2 k d) = (m ((c : Thread nD τ).loc main_arg5) : Vec Ideal S1024x1024 .f32) (ix2 k' d) := by
  obtain ⟨e0, e1⟩ := index5 t
  have hv : (V m c main_v8 : Vec Ideal S512x1024 .bf16) (ix2 k d) = (m ((c : Thread nD τ).loc main_arg5) : Vec Ideal S1024x1024 .f32) (ix2 k' d) := by
    have h : V m c main_v8 = (truncf .bf16 (extractStridedSlice S512x1024 ![0, 0] (m ((c : Thread nD τ).loc main_arg5) : Vec Ideal S1024x1024 .f32) slices_S1024x1024_S512x1024_0_0 : FVec Ideal S512x1024 .f32) bitsLt_bf16_f32 : FVec Ideal S512x1024 .bf16) := by
      unfold V
      after_results
    rw [h]
    pointwise
    congr 1
    funext a
    apply Fin.ext
    match a with
    | ⟨0, _⟩ => simp [hk]
    | ⟨1, _⟩ => rfl
  rw [← hv]
  unfold iblk
  rw [View.read_apply]
  show V m c main_v8 _ = _
  congr 1
  funext a
  apply Fin.ext
  match a with
  | ⟨0, _⟩ => show win0_5.index t 0 * 512 + 1 * k.val = k.val; rw [e0]; omega
  | ⟨1, _⟩ => show win0_5.index t 1 * 1024 + 1 * d.val = d.val; rw [e1]; omega

theorem blk6 (c : Dev nD) (t : Fin cfg0.N) (k : Fin 512) (d : Fin 1024) (k' : Fin 1024) (hk : k'.val = 512 + k.val) :
    (iblk m c 6 t : Vec Ideal S512x1024 .bf16) (ix2 k d) = (m ((c : Thread nD τ).loc main_arg5) : Vec Ideal S1024x1024 .f32) (ix2 k' d) := by
  obtain ⟨e0, e1⟩ := index6 t
  have hv : (V m c main_v10 : Vec Ideal S512x1024 .bf16) (ix2 k d) = (m ((c : Thread nD τ).loc main_arg5) : Vec Ideal S1024x1024 .f32) (ix2 k' d) := by
    have h : V m c main_v10 = (truncf .bf16 (extractStridedSlice S512x1024 ![512, 0] (m ((c : Thread nD τ).loc main_arg5) : Vec Ideal S1024x1024 .f32) slices_S1024x1024_S512x1024_512_0 : FVec Ideal S512x1024 .f32) bitsLt_bf16_f32 : FVec Ideal S512x1024 .bf16) := by
      unfold V
      after_results
    rw [h]
    pointwise
    congr 1
    funext a
    apply Fin.ext
    match a with
    | ⟨0, _⟩ => simp [hk]
    | ⟨1, _⟩ => rfl
  rw [← hv]
  unfold iblk
  rw [View.read_apply]
  show V m c main_v10 _ = _
  congr 1
  funext a
  apply Fin.ext
  match a with
  | ⟨0, _⟩ => show win0_6.index t 0 * 512 + 1 * k.val = k.val; rw [e0]; omega
  | ⟨1, _⟩ => show win0_6.index t 1 * 1024 + 1 * d.val = d.val; rw [e1]; omega

theorem blk7 (c : Dev nD) (t : Fin cfg0.N) (k : Fin 1024) (d : Fin 128) :
    (iblk m c 7 t : Vec Ideal S1024x128 .bf16) (ix2 k d)
      = if h : d.val < 32 then ((m ((c : Thread nD τ).loc main_arg8) : Vec Ideal S1024x32 .f32) (ix2 k ⟨d.val, h⟩) : EReal)
        else if h' : d.val < 36 then (m ((c : Thread nD τ).loc main_arg6) : Vec Ideal S1024x4 .f32) (ix2 k ⟨d.val - 32, by omega⟩) else (0 : EReal) := by
  obtain ⟨e0, e1⟩ := index7 t
  have hv : (V m c main_v2 : Vec Ideal S1024x128 .bf16) (ix2 k d) = if h : d.val < 32 then ((m ((c : Thread nD τ).loc main_arg8) : Vec Ideal S1024x32 .f32) (ix2 k ⟨d.val, h⟩) : EReal)
        else if h' : d.val < 36 then (m ((c : Thread nD τ).loc main_arg6) : Vec Ideal S1024x4 .f32) (ix2 k ⟨d.val - 32, by omega⟩) else (0 : EReal) := by
    have h : V m c main_v2 = (truncf .bf16 (concatenate S1024x128 1 [⟨S1024x32, (m ((c : Thread nD τ).loc main_arg8) : Vec Ideal S1024x32 .f32)⟩, ⟨S1024x4, (m ((c : Thread nD τ).loc main_arg6) : Vec Ideal S1024x4 .f32)⟩, ⟨S1024x92, (broadcastInDim S1024x92 ![] bcast_S_S1024x92 (constant S_ .f32 0x00000000#32 : FVec Ideal S_ .f32) : Vec Ideal S1024x92 .f32)⟩] concatenates_S1024x32_S1024x4_S1024x92_S1024x128_d1 : FVec Ideal S1024x128 .f32) bitsLt_bf16_f32 : FVec Ideal S1024x128 .bf16) := by
      unfold V
      after_results
      rfl
    rw [h]
    pointwise
    by_cases h1 : d.val < 32
    · rw [dif_pos h1, dif_pos h1]
    · rw [dif_neg h1, dif_neg h1]
      by_cases h2 : d.val < 36
      · rw [dif_pos h2, dif_pos (by omega)]
      · rw [dif_neg h2, dif_neg (by omega)]
  rw [← hv]
  unfold iblk
  rw [View.read_apply]
  show V m c main_v2 _ = _
  congr 1
  funext a
  apply Fin.ext
  match a with
  | ⟨0, _⟩ => show win0_7.index t 0 * 1024 + 1 * k.val = k.val; rw [e0]; omega
  | ⟨1, _⟩ => show win0_7.index t 1 * 128 + 1 * d.val = d.val; rw [e1]; omega

theorem blk8 (c : Dev nD) (t : Fin cfg0.N) (d : Fin 128) :
    (iblk m c 8 t : Vec Ideal S1x128 .f32) (ix2 0 d)
      = if h : d.val < 32 then ((m ((c : Thread nD τ).loc main_arg9) : Vec Ideal S32 .f32) (ix1 ⟨d.val, h⟩) : EReal)
        else if h' : d.val < 36 then (m ((c : Thread nD τ).loc main_arg7) : Vec Ideal S4 .f32) (ix1 ⟨d.val - 32, by omega⟩) else (0 : EReal) := by
  obtain ⟨e0, e1⟩ := index8 t
  have hv : (V m c main_v5 : Vec Ideal S1x128 .f32) (ix2 0 d) = if h : d.val < 32 then ((m ((c : Thread nD τ).loc main_arg9) : Vec Ideal S32 .f32) (ix1 ⟨d.val, h⟩) : EReal)
        else if h' : d.val < 36 then (m ((c : Thread nD τ).loc main_arg7) : Vec Ideal S4 .f32) (ix1 ⟨d.val - 32, by omega⟩) else (0 : EReal) := by
    have h : V m c main_v5 = (broadcastInDim S1x128 ![1] bcast_S128_S1x128_1 (concatenate S128 0 [⟨S32, (m ((c : Thread nD τ).loc main_arg9) : Vec Ideal S32 .f32)⟩, ⟨S4, (m ((c : Thread nD τ).loc main_arg7) : Vec Ideal S4 .f32)⟩, ⟨S92, (broadcastInDim S92 ![] bcast_S_S92 (constant S_ .f32 0x00000000#32 : FVec Ideal S_ .f32) : Vec Ideal S92 .f32)⟩] concatenates_S32_S4_S92_S128_d0 : Vec Ideal S128 .f32) : Vec Ideal S1x128 .f32) := by
      unfold V
      after_results
      rfl
    rw [h]
    pointwise
    by_cases h1 : d.val < 32
    · rw [dif_pos h1, dif_pos h1]
    · rw [dif_neg h1, dif_neg h1]
      by_cases h2 : d.val < 36
      · rw [dif_pos h2, dif_pos (by omega)]
      · rw [dif_neg h2, dif_neg (by omega)]
  rw [← hv]
  unfold iblk
  rw [View.read_apply]
  show V m c main_v5 _ = _
  congr 1
  funext a
  apply Fin.ext
  match a with
  | ⟨0, _⟩ => show win0_8.index t 0 * 1 + 1 * 0 = 0; rw [e0]
  | ⟨1, _⟩ => show win0_8.index t 1 * 128 + 1 * d.val = d.val; rw [e1]; omega

end Cert.Kernel2Ideal.Post
end
-- ==== Proof.Router.lean ====
/-
  Facts about choosing the greatest of a list of extended reals, the first of them where several are equally great: the fold
  of maxima over a masked list is its value, the fold of minima of the positions that attain it is its position, and a stable
  sort that puts greater values first has it in front, with the next one behind it. And the gather of one entry of every
  row, and the weights of a softmax read off two of its entries.
-/
module

public import Idealize.ShloMosaic.Lib.SortFacts
public import Idealize.ShloMosaic.Lib.ValueIdx
public import Idealize.ShloMosaic.Lib.IdealHost
public import Idealize.ShloMosaic.Lib.Pointwise

@[expose] public section

noncomputable section

namespace Cert.Router

open Idealize.ShloMosaic
open scoped BigOperators

/-- Among the positions with `P`, position `a` holds the greatest value of `f`, and no earlier one holds the same value. -/
def First {n : ℕ} {α : Type} [LT α] (P : Fin n → Prop) (f : Fin n → α) (a : Fin n) : Prop :=
  P a ∧ ∀ j, P j → f j < f a ∨ (f j = f a ∧ a ≤ j)

/-- A nonempty set of positions has a first greatest one. -/
theorem exists_first {n : ℕ} {α : Type} [LinearOrder α] (P : Fin n → Prop) (f : Fin n → α) (hP : ∃ j, P j) :
    ∃ a, First P f a := by
  classical
  obtain ⟨j0, hj0⟩ := hP
  obtain ⟨m, hm, hmax⟩ := (Finset.univ.filter P).exists_max_image f ⟨j0, by simp [hj0]⟩
  have hT : (Finset.univ.filter fun j => P j ∧ f j = f m).Nonempty := ⟨m, by simpa using (Finset.mem_filter.mp hm).2⟩
  refine ⟨(Finset.univ.filter fun j => P j ∧ f j = f m).min' hT, ?_, ?_⟩
  · exact (Finset.mem_filter.mp (Finset.min'_mem _ hT)).2.1
  · intro j hj
    have he := (Finset.mem_filter.mp (Finset.min'_mem _ hT)).2.2
    rw [he]
    rcases (hmax j (by simp [hj])).lt_or_eq with h | h
    · exact Or.inl h
    · exact Or.inr ⟨h, Finset.min'_le _ _ (by simp [hj, h])⟩

theorem First.le {n : ℕ} {α : Type} [LinearOrder α] {P : Fin n → Prop} {f : Fin n → α} {a : Fin n} (h : First P f a)
    {j : Fin n} (hj : P j) : f j ≤ f a := by
  rcases h.2 j hj with h | h
  · exact h.le
  · exact h.1.le

/-- The same position, of the values as extended reals. -/
theorem First.cast {n : ℕ} {P : Fin n → Prop} {f : Fin n → ℝ} {a : Fin n} (h : First P f a) :
    First P (fun j => (f j : EReal)) a :=
  ⟨h.1, fun j hj => by
    rcases h.2 j hj with h' | h'
    · exact Or.inl (EReal.coe_lt_coe_iff.mpr h')
    · exact Or.inr ⟨congrArg _ h'.1, h'.2⟩⟩

/-- The fold of maxima, the other positions at the least value, is the first greatest position's value. -/
theorem fold_max_first {n : ℕ} {P : Fin n → Prop} {f : Fin n → EReal} {a : Fin n} (h : First P f a)
    {F : Fin n → EReal} (hF : ∀ x, P x → F x = f x) (hF' : ∀ x, ¬ P x → F x = ⊥) :
    Finset.fold max (⊥ : EReal) F Finset.univ = f a := by
  apply le_antisymm
  · rw [Finset.fold_max_le]
    refine ⟨bot_le, fun x _ => ?_⟩
    by_cases hx : P x
    · rw [hF x hx]; exact h.le hx
    · rw [hF' x hx]; exact bot_le
  · rw [Finset.le_fold_max]
    exact Or.inr ⟨a, Finset.mem_univ a, (hF a h.1).ge⟩

/-- The fold of minima of the positions that attain the greatest value, the others at a value not below it, is the first
    greatest position. -/
theorem fold_min_first {n : ℕ} {P : Fin n → Prop} {f : Fin n → EReal} {a : Fin n} (h : First P f a)
    {F : Fin n → EReal} {K : ℝ} (hK : (n : ℝ) ≤ K)
    (hF : ∀ x, P x ∧ f x = f a → F x = ((x.val : ℝ) : EReal)) (hF' : ∀ x, ¬ (P x ∧ f x = f a) → F x = (K : EReal)) :
    Finset.fold min (⊤ : EReal) F Finset.univ = ((a.val : ℝ) : EReal) := by
  apply le_antisymm
  · rw [Finset.fold_min_le]
    exact Or.inr ⟨a, Finset.mem_univ a, (hF a ⟨h.1, rfl⟩).le⟩
  · rw [Finset.le_fold_min]
    refine ⟨le_top, fun x _ => ?_⟩
    by_cases hx : P x ∧ f x = f a
    · rw [hF x hx]
      rcases h.2 x hx.1 with h' | h'
      · exact absurd hx.2 h'.ne
      · exact_mod_cast h'.2
    · rw [hF' x hx]
      have : ((a.val : ℕ) : ℝ) ≤ (n : ℝ) := by exact_mod_cast a.isLt.le
      exact_mod_cast this.trans hK

/-! ## A stable sort that puts greater values first -/

/-- The order of the sorted positions: the greater value first, the earlier position first among equal values. -/
def Ahead {n : ℕ} (x : Fin n → EReal) (i j : Fin n) : Prop := x j < x i ∨ (x j = x i ∧ i < j)

/-- Inserting a position that is before all the others keeps the order. -/
theorem pairwise_insert {n : ℕ} (x : Fin n → EReal) (B : Fin n → Fin n → Bool) (hB : ∀ i j, B i j = true ↔ x j < x i)
    (a : Fin n) : ∀ l : List (Fin n), (∀ j ∈ l, a < j) → l.Pairwise (Ahead x) → (insertBefore B a l).Pairwise (Ahead x)
  | [], _, _ => by simp [insertBefore]
  | b :: l, hl, hp => by
    obtain ⟨hb, hp'⟩ := List.pairwise_cons.mp hp
    unfold insertBefore
    split
    next h =>
      refine List.pairwise_cons.mpr ⟨fun y hy => ?_, pairwise_insert x B hB a l (fun j hj => hl j (by simp [hj])) hp'⟩
      rcases List.mem_cons.mp ((perm_insertBefore B a l).mem_iff.mp hy) with rfl | hy
      · exact Or.inl ((hB _ _).mp h)
      · exact hb y hy
    next h =>
      have hle : x b ≤ x a := not_lt.mp fun h' => h ((hB _ _).mpr h')
      have hab := hl b (by simp)
      refine List.pairwise_cons.mpr ⟨fun y hy => ?_, hp⟩
      rcases List.mem_cons.mp hy with rfl | hy
      · rcases hle.lt_or_eq with h' | h'
        · exact Or.inl h'
        · exact Or.inr ⟨h', hab⟩
      · rcases hb y hy with h' | h'
        · exact Or.inl (h'.trans_le hle)
        · rcases hle.lt_or_eq with h'' | h''
          · exact Or.inl (h'.1 ▸ h'')
          · exact Or.inr ⟨h'.1.trans h'', hab.trans h'.2⟩

/-- The stable sort of an increasing list of positions is in that order. -/
theorem pairwise_sort {n : ℕ} (x : Fin n → EReal) (B : Fin n → Fin n → Bool) (hB : ∀ i j, B i j = true ↔ x j < x i) :
    ∀ l : List (Fin n), l.Pairwise (· < ·) → (stableSort B l).Pairwise (Ahead x)
  | [], _ => by simp [stableSort]
  | a :: l, hl => by
    obtain ⟨ha, hl'⟩ := List.pairwise_cons.mp hl
    refine pairwise_insert x B hB a _ (fun j hj => ?_) (pairwise_sort x B hB l hl')
    exact ha j ((perm_stableSort B l).mem_iff.mp hj)

theorem not_ahead_both {n : ℕ} {x : Fin n → EReal} {i j : Fin n} (h : Ahead x i j) (h' : Ahead x j i) : False := by
  rcases h with h | h <;> rcases h' with h' | h'
  · exact lt_asymm h h'
  · exact h.ne' h'.1
  · exact h'.ne' h.1
  · exact lt_asymm h.2 h'.2

/-- The sorted positions in front: the first greatest one. -/
theorem sorted_front {n : ℕ} (x : Fin n → EReal) (B : Fin n → Fin n → Bool) (hB : ∀ i j, B i j = true ↔ x j < x i)
    {a : Fin n} (h : First (fun _ => True) x a) (h0 : 0 < n) : sortedFrom B ⟨0, h0⟩ = a := by
  have hp := pairwise_sort x B hB (List.finRange n) (List.pairwise_lt_finRange n)
  have hm : a ∈ sortPositions n B := (perm_sortPositions n B).mem_iff.mpr (List.mem_finRange a)
  unfold sortedFrom
  change (sortPositions n B).Pairwise (Ahead x) at hp
  generalize hl : (Fin.cast (length_sortPositions n B).symm ⟨0, h0⟩) = k
  have hk : k.val = 0 := by rw [← hl]; rfl
  clear hl
  generalize sortPositions n B = L at hp hm k hk
  match L, k with
  | c :: L, ⟨0, _⟩ =>
    show c = a
    rcases List.mem_cons.mp hm with rfl | hm
    · rfl
    · have h1 := (List.pairwise_cons.mp hp).1 a hm
      rcases h.2 c trivial with h2 | h2
      · exact (not_ahead_both h1 (Or.inl h2)).elim
      · rcases h2.2.lt_or_eq with h3 | h3
        · exact (not_ahead_both h1 (Or.inr ⟨h2.1, h3⟩)).elim
        · exact h3.symm

/-- And the second: the first greatest of the others. -/
theorem sorted_second {n : ℕ} (x : Fin n → EReal) (B : Fin n → Fin n → Bool) (hB : ∀ i j, B i j = true ↔ x j < x i)
    {a b : Fin n} (h : First (fun _ => True) x a) (h' : First (fun j => j ≠ a) x b) (h1 : 1 < n) :
    sortedFrom B ⟨1, h1⟩ = b := by
  have hp := pairwise_sort x B hB (List.finRange n) (List.pairwise_lt_finRange n)
  have hm : b ∈ sortPositions n B := (perm_sortPositions n B).mem_iff.mpr (List.mem_finRange b)
  have hne : sortedFrom B ⟨1, h1⟩ ≠ a := by
    rw [← sorted_front x B hB h (by omega)]
    intro hh
    exact absurd (sortedFrom_injective B hh) (by simp)
  have hf := sorted_front x B hB h (by omega)
  have hb : b ≠ sortedFrom B ⟨0, by omega⟩ := by rw [hf]; exact h'.1
  clear hf
  unfold sortedFrom at hne hb ⊢
  change (sortPositions n B).Pairwise (Ahead x) at hp
  generalize hl : (Fin.cast (length_sortPositions n B).symm ⟨1, h1⟩) = k at hne
  generalize hl0 : (Fin.cast (length_sortPositions n B).symm ⟨0, by omega⟩) = k0 at hb
  have hk : k.val = 1 := by rw [← hl]; rfl
  have hk0 : k0.val = 0 := by rw [← hl0]; rfl
  clear hl hl0
  generalize sortPositions n B = L at hp hm k hk hne k0 hk0 hb
  match L, k, k0 with
  | d :: c :: L, ⟨1, _⟩, ⟨0, _⟩ =>
    change c ≠ a at hne
    change b ≠ d at hb
    show c = b
    rcases List.mem_cons.mp hm with rfl | hm
    · exact (hb rfl).elim
    rcases List.mem_cons.mp hm with rfl | hm
    · rfl
    · have h1 := (List.pairwise_cons.mp (List.pairwise_cons.mp hp).2).1 b hm
      rcases h'.2 c hne with h2 | h2
      · exact (not_ahead_both h1 (Or.inl h2)).elim
      · rcases h2.2.lt_or_eq with h3 | h3
        · exact (not_ahead_both h1 (Or.inr ⟨h2.1, h3⟩)).elim
        · exact h3.symm

/-- A row's index with its position along the row replaced. -/
theorem along_row {R n : ℕ} (j : (⟨2, ![R, n]⟩ : Shape).Idx) (k : Fin n) :
    Shape.Idx.along j (1 : Fin 2) k = ix2 (n0 := R) (j 0) k := by
  funext a
  match a with
  | ⟨0, h⟩ => exact Function.update_of_ne (fun h' => absurd (congrArg Fin.val h') (by simp)) _ _
  | ⟨1, _⟩ => exact Function.update_self _ _ _

/-- The order of the sort: the greater value first. -/
def gtB {n : ℕ} (x : Fin n → EReal) (i j : Fin n) : Bool := decide (x j < x i)

theorem gtB_iff {n : ℕ} (x : Fin n → EReal) (i j : Fin n) : gtB x i j = true ↔ x j < x i := decide_eq_true_iff

theorem total_gt (a b : EReal) : (FloatOps.cmpfTotal (F := Ideal) (φ := .f32) .gt a b == 1#1) = decide (b < a) := by
  show (BitVec.ofBool (decide (b < a)) == 1#1) = _
  cases decide (b < a) <;> rfl

/-- The sort of a row's values with a second row carried along: the position each entry comes from. -/
theorem sort_rows {R n : ℕ} {β : Type} (x : FVec Ideal ⟨2, ![R, n]⟩ .f32) (y : (⟨2, ![R, n]⟩ : Shape).Idx → β) :
    Host.sort2 ⟨2, ![R, n]⟩ 1 (fun l q => FloatOps.cmpfTotal (F := Ideal) (φ := .f32) .gt l.1 q.1) x y
      = (fun j => x (ix2 (n0 := R) (j 0) (sortedFrom (gtB fun q => x (ix2 (n0 := R) (j 0) q)) (j 1))),
         fun j => y (ix2 (n0 := R) (j 0) (sortedFrom (gtB fun q => x (ix2 (n0 := R) (j 0) q)) (j 1)))) := by
  unfold Host.sort2
  rw [dif_pos (show 1 < (⟨2, ![R, n]⟩ : Shape).rank from Nat.lt_succ_self 1)]
  have hb : ∀ j : (⟨2, ![R, n]⟩ : Shape).Idx, (fun k k' : Fin n => (FloatOps.cmpfTotal (F := Ideal) (φ := .f32) .gt
      (x (Shape.Idx.along j (1 : Fin 2) k)) (x (Shape.Idx.along j (1 : Fin 2) k')) == 1#1))
      = gtB fun q => x (ix2 (n0 := R) (j 0) q) := by
    intro j
    funext p q
    rw [total_gt, along_row, along_row]
    rfl
  refine Prod.ext (funext fun j => ?_) (funext fun j => ?_)
  · refine Eq.trans (congrArg x (along_row j _)) ?_
    exact congrArg (fun B => x (ix2 (n0 := R) (j 0) (sortedFrom B (j 1)))) (hb j)
  · refine Eq.trans (congrArg y (along_row j _)) ?_
    exact congrArg (fun B => y (ix2 (n0 := R) (j 0) (sortedFrom B (j 1)))) (hb j)

/-- The indices of the `k` greatest of every row: entry `i` is the position the sort puts at `i`. -/
theorem topK_index {R n k : ℕ} (hk : k ≤ n) (x : FVec Ideal ⟨2, ![R, n]⟩ .f32)
    (h : (⟨2, ![R, n]⟩ : Shape).Slices (fun _ => 0) ⟨2, ![R, k]⟩) (r : Fin R) (i : Fin k) (p : Fin n)
    (hp : sortedFrom (gtB fun q => x (ix2 r q)) (i.castLE hk) = p) :
    (Host.topK ⟨2, ![R, k]⟩ 1 (FloatOps.cmpfTotal (F := Ideal) (φ := .f32) .gt) x h).2 (ix2 r i) = BitVec.ofNat 32 p.val := by
  unfold Host.topK
  simp only [sort_rows, extractStridedSlice]
  have e0 : (⟨0 + r.val, by omega⟩ : Fin R) = r := Fin.ext (Nat.zero_add _)
  have e1 : (⟨0 + i.val, by omega⟩ : Fin n) = i.castLE hk := Fin.ext (Nat.zero_add _)
  rw [dif_pos (show 1 < (⟨2, ![R, n]⟩ : Shape).rank from Nat.lt_succ_self 1)]
  show BitVec.ofNat 32 (sortedFrom (gtB fun q => x (ix2 (n0 := R) ⟨0 + r.val, _⟩ q)) ⟨0 + i.val, _⟩).val = _
  rw [e0, e1, hp]

/-- The `k` greatest of every row: entry `i` is the value at the position the sort puts at `i`. -/
theorem topK_value {R n k : ℕ} (hk : k ≤ n) (x : FVec Ideal ⟨2, ![R, n]⟩ .f32)
    (h : (⟨2, ![R, n]⟩ : Shape).Slices (fun _ => 0) ⟨2, ![R, k]⟩) (r : Fin R) (i : Fin k) (p : Fin n)
    (hp : sortedFrom (gtB fun q => x (ix2 r q)) (i.castLE hk) = p) :
    (Host.topK ⟨2, ![R, k]⟩ 1 (FloatOps.cmpfTotal (F := Ideal) (φ := .f32) .gt) x h).1 (ix2 r i) = x (ix2 r p) := by
  unfold Host.topK
  simp only [sort_rows, extractStridedSlice]
  have e0 : (⟨0 + r.val, by omega⟩ : Fin R) = r := Fin.ext (Nat.zero_add _)
  have e1 : (⟨0 + i.val, by omega⟩ : Fin n) = i.castLE hk := Fin.ext (Nat.zero_add _)
  show x (ix2 (n0 := R) ⟨0 + r.val, _⟩ (sortedFrom (gtB fun q => x (ix2 (n0 := R) ⟨0 + r.val, _⟩ q)) ⟨0 + i.val, _⟩)) = _
  rw [e0, e1, hp]

/-! ## The gather of one entry, or one row, of every leading index -/

abbrev entryDims (N C : ℕ) (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- The gather of one entry of every row: the entry at the row's start index, read signed and clamped. -/
theorem gather_entry {α : Type} {N C w : ℕ} (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (n : Fin N) (k : Fin C)
    (hk : (idx (ix3 n (0 : Fin 1) (0 : Fin 1))).toInt.toNat = k.val) :
    Host.gather (entryDims N C wf) x idx (ix2 n (0 : Fin 1)) = x (ix2 n k) := by
  unfold Host.gather
  congr 1
  funext a
  refine Fin.ext ?_
  show (entryDims N C wf).start _ idx a + (entryDims N C wf).batchCoord _ a + (entryDims N C wf).offCoord _ a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (entryDims N C wf).startIndexMap from List.mem_singleton.mpr rfl)]
    have hsi : (entryDims N C wf).siIdx (ix2 n (0 : Fin 1)) ⟨List.idxOf (1 : Fin 2) (entryDims N C wf).startIndexMap,
        List.idxOf_lt_length_iff.2 (List.mem_singleton.mpr rfl)⟩ = ix3 n (0 : Fin 1) (0 : Fin 1) := by
      funext b; refine Fin.ext ?_
      match b with
      | ⟨0, _⟩ => rfl
      | ⟨1, _⟩ => rfl
      | ⟨2, _⟩ => rfl
    rw [hsi, hk]
    show min k.val (C - 1) = k.val
    have := k.isLt
    omega

abbrev rowDims (N C M : ℕ) (wf : GatherDims.WF ⟨3, ![N, C, M]⟩ ⟨3, ![N, 1, 1]⟩ ⟨3, ![N, 1, M]⟩ [2] [1] [0] [1] [0] 2 ![1, 1, M]) :
    GatherDims ⟨3, ![N, C, M]⟩ ⟨3, ![N, 1, 1]⟩ ⟨3, ![N, 1, M]⟩ where
  offsetDims := [2]
  collapsedSliceDims := [1]
  operandBatchingDims := [0]
  startIndicesBatchingDims := [0]
  startIndexMap := [1]
  indexVectorDim := 2
  sliceSizes := ![1, 1, M]
  wf := wf

/-- The gather of one row of every matrix: the row at the matrix's start index, read signed and clamped. -/
theorem gather_row {α : Type} {N C M w : ℕ}
    (wf : GatherDims.WF ⟨3, ![N, C, M]⟩ ⟨3, ![N, 1, 1]⟩ ⟨3, ![N, 1, M]⟩ [2] [1] [0] [1] [0] 2 ![1, 1, M])
    (x : (⟨3, ![N, C, M]⟩ : Shape).Idx → α) (idx : IVec ⟨3, ![N, 1, 1]⟩ w) (n : Fin N) (k : Fin C) (j : Fin M)
    (hk : (idx (ix3 n (0 : Fin 1) (0 : Fin 1))).toInt.toNat = k.val) :
    Host.gather (rowDims N C M wf) x idx (ix3 n (0 : Fin 1) j) = x (ix3 n k j) := by
  unfold Host.gather
  congr 1
  funext a
  refine Fin.ext ?_
  show (rowDims N C M wf).start _ idx a + (rowDims N C M wf).batchCoord _ a + (rowDims N C M wf).offCoord _ a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowDims N C M wf).startIndexMap from List.mem_singleton.mpr rfl)]
    have hsi : (rowDims N C M wf).siIdx (ix3 n (0 : Fin 1) j) ⟨List.idxOf (1 : Fin 3) (rowDims N C M wf).startIndexMap,
        List.idxOf_lt_length_iff.2 (List.mem_singleton.mpr rfl)⟩ = ix3 n (0 : Fin 1) (0 : Fin 1) := by
      funext b; refine Fin.ext ?_
      match b with
      | ⟨0, _⟩ => rfl
      | ⟨1, _⟩ => rfl
      | ⟨2, _⟩ => rfl
    rw [hsi, hk]
    show min k.val (C - 1) = k.val
    have := k.isLt
    omega
  · rw [GatherDims.batchCoord_eq_zero _ _ _ (fun h => by simp at h)]
    have hs : (rowDims N C M wf).start (ix3 n (0 : Fin 1) j) idx 2 = 0 := by
      unfold GatherDims.start
      rw [dif_neg (by simp)]
    rw [hs]
    simp only [Nat.zero_add]
    unfold GatherDims.offCoord
    rw [dif_pos ((GatherDims.mem_sKept _ _).mpr ⟨by simp, by simp⟩)]
    rfl

/-! ## The two weights -/

/-- The reciprocal of a nonzero real. -/
theorem div_real {a b : ℝ} (hb : b ≠ 0) : Ideal.div (a : EReal) (b : EReal) = ((a / b : ℝ) : EReal) := by
  rw [Ideal.div_coe hb, ← EReal.coe_mul]
  congr 1
  ring

/-- The greater logit's share of the two: one over one plus the exponential of the difference. -/
theorem weight_first {p q S : ℝ} (hp : 0 < p) (hq : 0 < q) (hS : 0 < S) :
    Ideal.div (Ideal.div (p : EReal) (S : EReal)) (Ideal.div (p : EReal) (S : EReal) + Ideal.div (q : EReal) (S : EReal))
      = ((p / (p + q) : ℝ) : EReal) := by
  rw [div_real hS.ne', div_real hS.ne', ← EReal.coe_add, div_real (by positivity)]
  congr 1
  field_simp

/-- The sum of real numbers, cast. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Router
-- ==== Proof.PostReal.lean ====
/-
  Where the routing scores are real numbers: an entry that passes the finiteness test is a real number, and the modulated
  norm of any row at all is real where the modulation and the norm's weights are.
-/
module

public import proofs.«01_k».proof.Proof.PostBlock
public import proofs.«01_k».proof.Proof.Router

@[expose] public section

set_option maxRecDepth 16384

noncomputable section

namespace Cert.Kernel2Ideal.Post

open Idealize.ShloMosaic Cert.Router
open scoped BigOperators

theorem word_1024 : Ideal.ofBits .f32 1149239296#32 = ((1024 : ℝ) : EReal) := by
  simp [Ideal.ofBits, Ideal.ieee, ← EReal.coe_mul]; norm_num

/-- The norm's small addend is a positive real number. -/
theorem word_eps : ∃ e : ℝ, 0 < e ∧ Ideal.ofBits .f32 897988541#32 = (e : EReal) := by
  simp [Ideal.ofBits, Ideal.ieee, ← EReal.coe_mul]

/-- An entry whose absolute value is below the greatest value is a real number. -/
theorem real_of_test (x : EReal) (h : BitVec.ofBool (decide ((FloatOps.absf (F := Ideal) (φ := .f32) x : EReal) < Ideal.ofBits .f32 2139095040#32)) = 1#1) :
    ∃ r : ℝ, x = (r : EReal) := by
  have e : Ideal.ofBits .f32 2139095040#32 = (⊤ : EReal) := by simp [Ideal.ofBits, Ideal.ieee]
  rw [e] at h
  have h' : max x (-x) < (⊤ : EReal) := by
    by_contra hc
    have hd : decide ((FloatOps.absf (F := Ideal) (φ := .f32) x : EReal) < ⊤) = false := decide_eq_false hc
    rw [hd] at h
    exact absurd h (by decide)
  induction x using EReal.rec with
  | bot => exact absurd h' (by simp)
  | top => exact absurd h' (by simp)
  | coe r => exact ⟨r, rfl⟩

theorem rsqrt_pos (r : ℝ) (h : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg (not_lt.mpr h.le), if_neg h.ne']

theorem sq_nonneg_ext (x : EReal) : 0 ≤ x * x := by
  induction x using EReal.rec with
  | bot => simp
  | top => simp
  | coe r => rw [← EReal.coe_mul]; exact_mod_cast mul_self_nonneg r

/-- A row divided by its root mean square is real at every entry, whatever the row holds. -/
theorem ratio_real (y : Fin 1024 → EReal) (d : Fin 1024) :
    ∃ r : ℝ, y d * Ideal.rsqrt (Ideal.div (∑ k, y k * y k) (Ideal.ofBits .f32 1149239296#32) + Ideal.ofBits .f32 897988541#32) = (r : EReal) := by
  obtain ⟨e, he, hE⟩ := word_eps
  rw [hE, word_1024, Ideal.div_coe (by norm_num)]
  by_cases hy : ∀ k, ∃ r : ℝ, y k = (r : EReal)
  · choose z hz using hy
    have hs : (∑ k, y k * y k) = ((∑ k, z k * z k : ℝ) : EReal) := by
      rw [coe_sum]
      exact Finset.sum_congr rfl fun k _ => by rw [hz, EReal.coe_mul]
    have hp : 0 < (∑ k, z k * z k) * (1 / 1024) + e := by
      have : 0 ≤ ∑ k, z k * z k := Finset.sum_nonneg fun k _ => mul_self_nonneg _
      positivity
    rw [hs, ← EReal.coe_mul, ← EReal.coe_add, rsqrt_pos _ hp, hz, ← EReal.coe_mul]
    exact ⟨_, rfl⟩
  · obtain ⟨k, hk⟩ := not_forall.mp hy
    have hk' : y k * y k = ⊤ := by
      generalize y k = x at hk
      induction x using EReal.rec with
      | bot => simp
      | top => simp
      | coe r => exact absurd ⟨r, rfl⟩ hk
    have hs : (∑ k, y k * y k) = ⊤ := by
      have h := Finset.single_le_sum (f := fun k => y k * y k) (fun i _ => sq_nonneg_ext (y i)) (Finset.mem_univ k)
      exact top_le_iff.mp (hk' ▸ h)
    have ht : (⊤ : EReal) * ((1 / 1024 : ℝ) : EReal) + (e : EReal) = ⊤ := by
      rw [EReal.top_mul_coe_of_pos (by norm_num), EReal.top_add_coe]
    have h0 : Ideal.rsqrt (⊤ : EReal) = 0 := rfl
    rw [hs, ht, h0, mul_zero]
    exact ⟨0, rfl⟩

/-- The modulated norm of any row is real where the modulation and the norm's weights are. -/
theorem normed_real (y w s h : Fin 1024 → EReal) (hw : ∀ d, ∃ r : ℝ, w d = (r : EReal)) (hs : ∀ d, ∃ r : ℝ, s d = (r : EReal))
    (hh : ∀ d, ∃ r : ℝ, h d = (r : EReal)) (d : Fin 1024) : ∃ r : ℝ, normed y w s h d = (r : EReal) := by
  obtain ⟨a, ha⟩ := ratio_real y d
  obtain ⟨b, hb⟩ := hw d
  obtain ⟨c, hc⟩ := hs d
  obtain ⟨e, he⟩ := hh d
  refine ⟨a * b * (1 + c) + e, ?_⟩
  unfold normed
  rw [ha, hb, hc, he, ← EReal.coe_one, ← EReal.coe_add, ← EReal.coe_mul, ← EReal.coe_mul, ← EReal.coe_add]

/-- A product of a real row with a real column, plus a real number, is real. -/
theorem dot_real {n : ℕ} (y w : Fin n → EReal) (b : EReal) (hy : ∀ k, ∃ r : ℝ, y k = (r : EReal)) (hw : ∀ k, ∃ r : ℝ, w k = (r : EReal))
    (hb : ∃ r : ℝ, b = (r : EReal)) : ∃ r : ℝ, (∑ k, y k * w k) + b = (r : EReal) := by
  choose u hu using hy
  choose v hv using hw
  obtain ⟨c, hc⟩ := hb
  refine ⟨(∑ k, u k * v k) + c, ?_⟩
  rw [EReal.coe_add, coe_sum, hc]
  exact congrArg (· + _) (Finset.sum_congr rfl fun k _ => by rw [hu, hv, EReal.coe_mul])

end Cert.Kernel2Ideal.Post
end
-- ==== Proof.PostStages.lean ====
/-
  The routing reference read at an index, before the choice of experts: the residual token, its modulated norm, and the
  group's and the experts' scores.
-/
module

public import proofs.«01_k».proof.Proof.PostBlock
public import proofs.«01_k».proof.Proof.Gen.Reference2Ideal.Read

@[expose] public section

set_option maxRecDepth 16384

noncomputable section

namespace Cert.Reference2Ideal.Post

open Cert.Reference2Ideal Cert.Reference2Ideal.Read Idealize.ShloMosaic Idealize.ShloMosaic.TcCoe Idealize.SL.Sem
open Cert.Kernel2Ideal.Post (normed)
open scoped BigOperators

variable (x0 : Vec Ideal S8x4096x512 .bf16) (x1 : Vec Ideal S8x4096x512 .bf16) (x2 : Vec Ideal S8x4096x1024 .f32) (x3 : Vec Ideal S8x6x1024 .f32)
  (x4 : Vec Ideal S1024 .f32) (x5 : Vec Ideal S1024x1024 .f32) (x6 : Vec Ideal S1024x4 .f32) (x7 : Vec Ideal S4 .f32) (x8 : Vec Ideal S1024x32 .f32) (x9 : Vec Ideal S32 .f32)

/-- The residual token: the token plus the gated output projection of the attention and convolution halves. -/
def token (b : Fin 8) (t : Fin 4096) (d : Fin 1024) : EReal :=
  x2 (ix3 b t d) + x3 (ix3 b 2 d) * ((∑ k : Fin 512, x0 (ix3 b t k) * x5 (ix2 ⟨k.val, by omega⟩ d)) + ∑ k : Fin 512, x1 (ix3 b t k) * x5 (ix2 ⟨512 + k.val, by omega⟩ d))

/-- The modulated norm of the residual token. -/
def act (b : Fin 8) (t : Fin 4096) (d : Fin 1024) : EReal :=
  normed (token x0 x1 x2 x3 x5 b t) (fun d => x4 (ix1 d)) (fun d => x3 (ix3 b 4 d)) (fun d => x3 (ix3 b 3 d)) d

theorem token_apply (b : Fin 8) (t : Fin 4096) (d : Fin 1024) :
    val_main_v9 (F := Ideal) x0 x1 x2 x3 x5 (ix3 b t d) = token x0 x1 x2 x3 x5 b t d := by
  pointwise [val_main_v9, val_main_v8, val_main_v7, val_main_v0, val_main_v6, val_main_v5, val_main_v3, val_main_v4]
  rfl

theorem act_apply (b : Fin 8) (t : Fin 4096) (d : Fin 1024) :
    val_main_v28 (F := Ideal) x0 x1 x2 x3 x4 x5 (ix3 b t d) = act x0 x1 x2 x3 x4 x5 b t d := by
  have h := token_apply x0 x1 x2 x3 x5 b t
  unfold val_main_v28 val_main_v26 val_main_v22 val_main_v19 val_main_v18 val_main_v17 val_main_v16 val_main_v14 val_main_v12 val_main_v11 val_main_v10 val_main_cst val_main_v13 val_main_cst_0 val_main_v15 val_main_cst_1 val_main_v21 val_main_v20 val_main_v25 val_main_v24 val_main_v23 val_main_cst_2 val_main_v2 val_main_v27 val_main_v1
  generalize val_main_v9 (F := Ideal) x0 x1 x2 x3 x5 = y at h ⊢
  pointwise
  simp only [h]
  rfl

theorem result_apply (b : Fin 8) (t : Fin 4096) (d : Fin 1024) :
    val_main_v85 (F := Ideal) x0 x1 x2 x3 x4 x5 (ix3 b t d) = act x0 x1 x2 x3 x4 x5 b t d := by
  have h := act_apply x0 x1 x2 x3 x4 x5 b t d
  unfold val_main_v85
  generalize val_main_v28 (F := Ideal) x0 x1 x2 x3 x4 x5 = y at h ⊢
  pointwise
  exact h

theorem group_score (b : Fin 8) (t : Fin 4096) (n : Fin 32768) (hn : n.val = b.val * 4096 + t.val) (g : Fin 4) :
    val_main_v33 (F := Ideal) x0 x1 x2 x3 x4 x5 x6 x7 (ix2 n g) = (∑ k, act x0 x1 x2 x3 x4 x5 b t k * x6 (ix2 k g)) + x7 (ix1 g) := by
  have h := act_apply x0 x1 x2 x3 x4 x5 b t
  have hb : (⟨n.val / 4096, by omega⟩ : Fin 8) = b := Fin.ext (by show n.val / 4096 = b.val; omega)
  have ht : (⟨n.val % 4096, by omega⟩ : Fin 4096) = t := Fin.ext (by show n.val % 4096 = t.val; omega)
  unfold val_main_v33 val_main_v30 val_main_v29 val_main_v32 val_main_v31
  generalize val_main_v28 (F := Ideal) x0 x1 x2 x3 x4 x5 = y at h ⊢
  pointwise
  simp only [hb, ht, h]

theorem expert_score (b : Fin 8) (t : Fin 4096) (n : Fin 32768) (hn : n.val = b.val * 4096 + t.val) (g : Fin 32) :
    val_main_v52 (F := Ideal) x0 x1 x2 x3 x4 x5 x8 x9 (ix2 n g) = (∑ k, act x0 x1 x2 x3 x4 x5 b t k * x8 (ix2 k g)) + x9 (ix1 g) := by
  have h := act_apply x0 x1 x2 x3 x4 x5 b t
  have hb : (⟨n.val / 4096, by omega⟩ : Fin 8) = b := Fin.ext (by show n.val / 4096 = b.val; omega)
  have ht : (⟨n.val % 4096, by omega⟩ : Fin 4096) = t := Fin.ext (by show n.val % 4096 = t.val; omega)
  unfold val_main_v52 val_main_v49 val_main_v29 val_main_v51 val_main_v50
  generalize val_main_v28 (F := Ideal) x0 x1 x2 x3 x4 x5 = y at h ⊢
  pointwise
  simp only [hb, ht, h]

end Cert.Reference2Ideal.Post
end
-- ==== Proof.PostLanes.lean ====
/-
  The routing block's combine weights, as real numbers: from a row's 128 logits the kernel takes the first greatest of the four
  group lanes, then the first and the second greatest of that group's eight expert lanes, and writes on those two lanes the
  group's softmax weight times the pair's softmax weights, and zero elsewhere.
-/
module

public import proofs.«01_k».proof.Proof.Gen.Kernel2Ideal.Value
public import proofs.«01_k».proof.Proof.Router
public import Idealize.ShloMosaic.Lib.Pointwise
public import Idealize.ShloMosaic.Lib.StableHlo.Run

@[expose] public section

set_option maxRecDepth 16384

noncomputable section

namespace Cert.Kernel2Ideal.Post

open Cert.Kernel2Ideal Cert.Kernel2Ideal.Gen Cert.Kernel2Ideal.Value Idealize.ShloMosaic Idealize.ShloMosaic.TcCoe Idealize.SL.Sem
open Cert.Router
open scoped BigOperators

theorem and_bool (a b : Bool) : IntOp.andi (BitVec.ofBool a) (BitVec.ofBool b) = BitVec.ofBool (a && b) := by
  cases a <;> cases b <;> rfl
theorem sel_bool {α : Type} (a : Bool) (x y : α) : Scalar.select (BitVec.ofBool a) x y = if a = true then x else y := by
  cases a <;> rfl

theorem word_bot : Ideal.ofBits .f32 4286578688#32 = (⊥ : EReal) := by simp [Ideal.ofBits, Ideal.ieee]
theorem word_top : Ideal.ofBits .f32 2139095040#32 = (⊤ : EReal) := by simp [Ideal.ofBits, Ideal.ieee]
theorem word_128 : Ideal.ofBits .f32 1124073472#32 = ((128 : ℝ) : EReal) := by
  simp [Ideal.ofBits, Ideal.ieee, ← EReal.coe_mul]; norm_num
theorem word_32 : Ideal.ofBits .f32 1107296256#32 = ((32 : ℝ) : EReal) := by
  simp [Ideal.ofBits, Ideal.ieee, ← EReal.coe_mul]; norm_num

theorem lane_int : ∀ d : Fin 128, (BitVec.ofNat 32 d.val).toInt = (d.val : ℤ) := by decide +kernel
theorem lane_lt : ∀ d : Fin 128, IntOp.cmpi .slt (BitVec.ofNat 32 d.val) 32#32 = BitVec.ofBool (decide (d.val < 32)) := by
  decide +kernel
theorem lane_group : ∀ d : Fin 128, IntOp.andi (IntOp.cmpi .sge (BitVec.ofNat 32 d.val) 32#32)
    (IntOp.cmpi .slt (BitVec.ofNat 32 d.val) 36#32) = BitVec.ofBool (decide (32 ≤ d.val ∧ d.val < 36)) := by
  decide +kernel
theorem lane_div : ∀ d : Fin 128, (Scalar.select
                (IntOp.andi
                  (IntOp.cmpi CmpIPredicate.ne
                    (IntOp.subi (BitVec.setWidth 32 (IntOp.cmpi CmpIPredicate.sgt (BitVec.ofNat 32 d.val) 0#32))
                      (BitVec.setWidth 32 (IntOp.cmpi CmpIPredicate.slt (BitVec.ofNat 32 d.val) 0#32)))
                    (Scalar.subi (Scalar.extui (Scalar.cmpi CmpIPredicate.sgt 8#32 0#32))
                      (Scalar.extui (Scalar.cmpi CmpIPredicate.slt 8#32 0#32))))
                  (IntOp.cmpi CmpIPredicate.ne (IntOp.remsi ArithUnit.vector (BitVec.ofNat 32 d.val) 8#32) 0#32))
                (IntOp.subi (IntOp.divsi ArithUnit.vector (BitVec.ofNat 32 d.val) 8#32) 1#32)
                (IntOp.divsi ArithUnit.vector (BitVec.ofNat 32 d.val) 8#32)).toInt = ((d.val / 8 : ℕ) : ℤ) := by
  decide +kernel

/-- The lane's number as a value. -/
theorem lane_value (r : Fin 512) (d : Fin 128) : (k0_pay8 (F := Ideal)) (ix2 r d) = ((d.val : ℝ) : EReal) := by
  have h : (k0_pay8 (F := Ideal)) (ix2 r d) = FloatOps.sitofp (F := Ideal) .f32 (BitVec.ofNat 32 d.val) := by pointwise [k0_pay8]
  rw [h]
  show (((BitVec.ofNat 32 d.val).toInt : ℝ) : EReal) = _
  rw [lane_int]
  norm_num

/-- The group lanes, 32 to 35. -/
def isGroup (x : Fin 128) : Prop := 32 ≤ x.val ∧ x.val < 36
instance : DecidablePred isGroup := fun x => inferInstanceAs (Decidable (_ ∧ _))
/-- The expert lanes of the group on lane `G`. -/
def inGroup (G x : Fin 128) : Prop := x.val < 32 ∧ x.val / 8 + 32 = G.val
instance (G : Fin 128) : DecidablePred (inGroup G) := fun x => inferInstanceAs (Decidable (_ ∧ _))

/-- The sum of the group lanes' exponentials. -/
def groupSum (l : Fin 128 → ℝ) (G : Fin 128) : ℝ := ∑ x : Fin 128, if isGroup x then Real.exp (l x - l G) else 0

/-- The combine weight of a lane. -/
def combine (l : Fin 128 → ℝ) (G A B d : Fin 128) : ℝ :=
  (if d = A then 1 / groupSum l G * (1 / (1 + Real.exp (l B - l A))) else 0)
    + (if d = B then 1 / groupSum l G * (Real.exp (l B - l A) / (1 + Real.exp (l B - l A))) else 0)

theorem groupSum_pos (l : Fin 128 → ℝ) (G : Fin 128) : 0 < groupSum l G := by
  refine Finset.sum_pos' (fun x _ => ?_) ⟨⟨32, by norm_num⟩, Finset.mem_univ _, ?_⟩
  · split
    · exact (Real.exp_pos _).le
    · exact le_refl _
  · rw [if_pos ⟨le_refl _, by norm_num⟩]
    exact Real.exp_pos _

/-- What the last step computes from the chosen group's lanes. -/
theorem combine_apply (v55 v57 : FVec Ideal S512x128 .f32) (v82 : FVec Ideal S512x1 .f32) (v112 : IVec S512x128 1)
    (v114 : FVec Ideal S512x128 .f32) (v115 : FVec Ideal S512 .f32) (r : Fin 512) (d : Fin 128) (l : Fin 128 → ℝ)
    (G A B : Fin 128)
    (h55 : ∀ x, v55 (ix2 r x) = (l x : EReal)) (h57 : ∀ x, v57 (ix2 r x) = ((x.val : ℝ) : EReal))
    (h82 : v82 (ix2 r 0) = ((1 / groupSum l G : ℝ) : EReal))
    (h112 : ∀ x, v112 (ix2 r x) = BitVec.ofBool (decide (inGroup G x)))
    (h114 : ∀ x, v114 (ix2 r x) = if inGroup G x then (l x : EReal) else ⊥) (h115 : v115 (ix1 r) = (l A : EReal))
    (hA : First (inGroup G) l A) (hB : First (fun x => inGroup G x ∧ x ≠ A) l B) :
    k0_pay17 v55 v57 v82 v112 v114 v115 (ix2 r d) = (combine l G A B d : EReal) := by
  have hA' : First (inGroup G) (fun x => (l x : EReal)) A := hA.cast
  have hB' : First (fun x => inGroup G x ∧ x ≠ A) (fun x => (l x : EReal)) B := hB.cast
  pointwise [k0_pay17]
  simp only [h55, h57, h82, h112, h114, h115, and_bool, sel_bool, word_bot, word_top, word_128]
  -- the first lane's number
  have m1 : Finset.fold min (⊤ : EReal) (fun x : Fin 128 => if (decide (inGroup G x) &&
      decide ((if inGroup G x then (l x : EReal) else ⊥) = (l A : EReal))) = true then ((x.val : ℝ) : EReal) else ((128 : ℝ) : EReal))
      Finset.univ = ((A.val : ℝ) : EReal) := by
    refine fold_min_first hA' (K := 128) (by norm_num) (fun x hx => ?_) (fun x hx => ?_)
    · simp [hx.1, hx.2]
    · by_cases h : inGroup G x
      · have : ¬ ((l x : EReal) = (l A : EReal)) := fun h' => hx ⟨h, h'⟩
        simp [h, this]
      · simp [h]
  rw [m1]
  have hne : ∀ x : Fin 128, decide (((x.val : ℝ) : EReal) ≠ ((A.val : ℝ) : EReal)) = decide (x ≠ A) := by
    intro x
    congr 1
    rw [ne_eq, ne_eq, EReal.coe_eq_coe_iff, Nat.cast_inj, Fin.ext_iff]
  simp only [hne]
  -- the second lane's value
  have m2 : Finset.fold max (⊥ : EReal) (fun x : Fin 128 => if (decide (inGroup G x) && decide (x ≠ A)) = true then (l x : EReal) else ⊥)
      Finset.univ = (l B : EReal) :=
    fold_max_first hB' (fun x hx => by simp [hx.1, hx.2]) (fun x hx => by
      rw [if_neg]
      simpa using hx)
  rw [m2]
  have m3 : Finset.fold min (⊤ : EReal) (fun x : Fin 128 => if (decide (inGroup G x) && decide (x ≠ A) &&
      decide ((if (decide (inGroup G x) && decide (x ≠ A)) = true then (l x : EReal) else ⊥) = (l B : EReal))) = true then ((x.val : ℝ) : EReal) else ((128 : ℝ) : EReal))
      Finset.univ = ((B.val : ℝ) : EReal) := by
    refine fold_min_first hB' (K := 128) (by norm_num) (fun x hx => ?_) (fun x hx => ?_)
    · simp [hx.1.1, hx.1.2, hx.2]
    · by_cases h : inGroup G x ∧ x ≠ A
      · have : ¬ ((l x : EReal) = (l B : EReal)) := fun h' => hx ⟨h, h'⟩
        simp [h.1, h.2, this]
      · rw [if_neg]
        intro h'
        apply h
        simp only [Bool.and_eq_true, decide_eq_true_eq] at h'
        exact h'.1
  rw [m3]
  have heq : ∀ x : Fin 128, (((d.val : ℝ) : EReal) = ((x.val : ℝ) : EReal)) ↔ d = x := by
    intro x
    rw [EReal.coe_eq_coe_iff, Nat.cast_inj, Fin.ext_iff]
  have hpos : (0 : ℝ) < 1 + Real.exp (l B - l A) := by positivity
  simp only [heq, decide_eq_true_eq]
  rw [← EReal.coe_sub]
  show (if d = A then ((1 / groupSum l G : ℝ) : EReal) * Ideal.div 1 (1 + ((Real.exp (l B - l A) : ℝ) : EReal)) else 0)
    + (if d = B then ((1 / groupSum l G : ℝ) : EReal) * Ideal.div ((Real.exp (l B - l A) : ℝ) : EReal) (1 + ((Real.exp (l B - l A) : ℝ) : EReal)) else 0) = _
  rw [← EReal.coe_one, ← EReal.coe_add, div_real hpos.ne', div_real hpos.ne', ← EReal.coe_mul, ← EReal.coe_mul]
  unfold combine
  rw [EReal.coe_add]
  congr 1 <;> split <;> simp

/-- The group mask: whether the lane's group is the one on lane `G`. -/
theorem mask_apply (a : IVec S512x128 32) (b : FVec Ideal S512x128 .f32) (x : IVec S512x128 1) (r : Fin 512) (d : Fin 128)
    (l : Fin 128 → ℝ) (G : Fin 128) (hG : First isGroup l G)
    (ha : ∀ x, a (ix2 r x) = BitVec.ofNat 32 x.val) (hb : ∀ x, b (ix2 r x) = ((x.val : ℝ) : EReal))
    (hx : ∀ j, x (ix2 r j) = BitVec.ofBool (decide (isGroup j ∧ l j = l G))) :
    k0_pay14 (F := Ideal) a b x (Scalar.ofBits .f32 0x43000000#32) (ix2 r d) = BitVec.ofBool (decide (inGroup G d)) := by
  have hG' : First isGroup (fun x => (l x : EReal)) G := hG.cast
  pointwise [k0_pay14]
  simp only [ha, hb, hx, sel_bool, word_top, word_128, word_32, lane_lt]
  have m1 : Finset.fold min (⊤ : EReal) (fun x : Fin 128 => if decide (isGroup x ∧ l x = l G) = true
      then ((x.val : ℝ) : EReal) else ((128 : ℝ) : EReal)) Finset.univ = ((G.val : ℝ) : EReal) := by
    refine fold_min_first hG' (K := 128) (by norm_num) (fun x hx => ?_) (fun x hx => ?_)
    · rw [if_pos]
      simpa using hx
    · rw [if_neg]
      simpa using hx
  rw [m1, ← EReal.coe_sub]
  have hs : ∀ w : BitVec 32, FloatOps.sitofp (F := Ideal) .f32 w = (((w.toInt : ℤ) : ℝ) : EReal) := fun w => rfl
  rw [hs, lane_div, and_bool]
  congr 1
  rw [← Bool.decide_and]
  refine decide_eq_decide.mpr (and_congr_right fun _ => ?_)
  rw [EReal.coe_eq_coe_iff, eq_sub_iff_add_eq]
  constructor
  · intro h; exact_mod_cast h
  · intro h; exact_mod_cast h

/-- THE COMBINE WEIGHTS of a row, from its logits. -/
theorem lanes_apply (v30 : FVec Ideal S512x1024 .f32) (v31 : Vec Ideal S1x1024 .f32) (v35 v41 : Vec Ideal S1x1x1024 .f32)
    (v49 : Vec Ideal S1024x128 .bf16) (v52 : Vec Ideal S1x128 .f32) (a : IVec S512x128 32) (r : Fin 512) (d : Fin 128) (l : Fin 128 → ℝ)
    (G A B : Fin 128) (ha : ∀ x, a (ix2 r x) = BitVec.ofNat 32 x.val)
    (hl : ∀ x, k0_pay7 v30 v31 v35 v41 v49 v52 (ix2 r x) = (l x : EReal))
    (hG : First isGroup l G) (hA : First (inGroup G) l A) (hB : First (fun x => inGroup G x ∧ x ≠ A) l B) :
    k0_pay17 (F := Ideal) (k0_pay7 v30 v31 v35 v41 v49 v52) k0_pay8
      (k0_pay13 (k0_pay10 v30 v31 v35 v41 v49 v52) (k0_pay11 v30 v31 v35 v41 v49 v52))
      (k0_pay14 (F := Ideal) a k0_pay8 (k0_pay12 v30 v31 v35 v41 v49 v52) (Scalar.ofBits .f32 0x43000000#32))
      (k0_pay15 (F := Ideal) (k0_pay7 v30 v31 v35 v41 v49 v52) a k0_pay8 (k0_pay12 v30 v31 v35 v41 v49 v52) (Scalar.ofBits .f32 0x43000000#32))
      (k0_pay16 (F := Ideal) (k0_pay7 v30 v31 v35 v41 v49 v52) a k0_pay8 (k0_pay12 v30 v31 v35 v41 v49 v52) (Scalar.ofBits .f32 0x43000000#32))
      (ix2 r d) = (combine l G A B d : EReal) := by
  have hG' : First isGroup (fun x => (l x : EReal)) G := hG.cast
  have hA' : First (inGroup G) (fun x => (l x : EReal)) A := hA.cast
  have h9 : ∀ x : Fin 128, k0_pay9 (ix2 r x) = BitVec.ofBool (decide (isGroup x)) := fun x => (by
    have h : k0_pay9 (ix2 r x) = IntOp.andi (IntOp.cmpi .sge (BitVec.ofNat 32 x.val) 32#32)
      (IntOp.cmpi .slt (BitVec.ofNat 32 x.val) 36#32) := by pointwise [k0_pay9]
    exact h.trans (lane_group x))
  have h10 : ∀ x : Fin 128, k0_pay10 v30 v31 v35 v41 v49 v52 (ix2 r x) = if isGroup x then (l x : EReal) else ⊥ := fun x => by
    unfold k0_pay10
    have hx := hl x
    generalize k0_pay7 v30 v31 v35 v41 v49 v52 = y at hx ⊢
    pointwise
    rw [h9, hx, sel_bool, word_bot]
    simp
  have h11 : k0_pay11 v30 v31 v35 v41 v49 v52 (ix2 r 0) = (l G : EReal) := by
    unfold k0_pay11
    generalize k0_pay10 v30 v31 v35 v41 v49 v52 = y at h10 ⊢
    pointwise
    simp only [h10, word_bot]
    exact fold_max_first hG' (fun x hx => by simp [hx]) (fun x hx => by simp [hx])
  have h12 : ∀ x : Fin 128, k0_pay12 v30 v31 v35 v41 v49 v52 (ix2 r x) = BitVec.ofBool (decide (isGroup x ∧ l x = l G)) := fun x => by
    unfold k0_pay12
    have hx := h10 x
    generalize k0_pay10 v30 v31 v35 v41 v49 v52 = y at hx ⊢
    generalize k0_pay11 v30 v31 v35 v41 v49 v52 = z at h11 ⊢
    pointwise
    rw [h9, hx, h11, and_bool, Bool.decide_and]
    congr 1
    by_cases h : isGroup x <;> simp [h]
  have h13 : k0_pay13 (k0_pay10 v30 v31 v35 v41 v49 v52) (k0_pay11 v30 v31 v35 v41 v49 v52) (ix2 r 0) = ((1 / groupSum l G : ℝ) : EReal) := by
    generalize k0_pay10 v30 v31 v35 v41 v49 v52 = y at h10 ⊢
    generalize k0_pay11 v30 v31 v35 v41 v49 v52 = z at h11 ⊢
    pointwise [k0_pay13]
    simp only [h10, h11]
    have hs : (∑ x : Fin 128, Ideal.exp ((if isGroup x then (l x : EReal) else ⊥) - (l G : EReal))) = ((groupSum l G : ℝ) : EReal) := by
      unfold groupSum
      rw [coe_sum]
      refine Finset.sum_congr rfl fun x _ => ?_
      by_cases h : isGroup x
      · rw [if_pos h, if_pos h, ← EReal.coe_sub]; rfl
      · rw [if_neg h, if_neg h, EReal.bot_sub]; rfl
    rw [hs, ← EReal.coe_one, div_real (groupSum_pos l G).ne']
  have h14 : ∀ x : Fin 128, k0_pay14 (F := Ideal) a k0_pay8 (k0_pay12 v30 v31 v35 v41 v49 v52) (Scalar.ofBits .f32 0x43000000#32) (ix2 r x)
      = BitVec.ofBool (decide (inGroup G x)) := fun x => mask_apply a _ _ r x l G hG ha (lane_value r) h12
  have h15 : ∀ x : Fin 128, k0_pay15 (F := Ideal) (k0_pay7 v30 v31 v35 v41 v49 v52) a k0_pay8 (k0_pay12 v30 v31 v35 v41 v49 v52) (Scalar.ofBits .f32 0x43000000#32) (ix2 r x)
      = if inGroup G x then (l x : EReal) else ⊥ := fun x => by
    unfold k0_pay15
    have hx := h14 x
    have hy := hl x
    generalize k0_pay7 v30 v31 v35 v41 v49 v52 = y at hy ⊢
    generalize k0_pay14 (F := Ideal) a k0_pay8 (k0_pay12 v30 v31 v35 v41 v49 v52) (Scalar.ofBits .f32 0x43000000#32) = z at hx ⊢
    pointwise
    rw [hx, hy, sel_bool, word_bot]
    simp
  have h16 : k0_pay16 (F := Ideal) (k0_pay7 v30 v31 v35 v41 v49 v52) a k0_pay8 (k0_pay12 v30 v31 v35 v41 v49 v52) (Scalar.ofBits .f32 0x43000000#32) (ix1 r)
      = (l A : EReal) := by
    unfold k0_pay16
    generalize k0_pay15 (F := Ideal) (k0_pay7 v30 v31 v35 v41 v49 v52) a k0_pay8 (k0_pay12 v30 v31 v35 v41 v49 v52) (Scalar.ofBits .f32 0x43000000#32) = z at h15 ⊢
    pointwise
    simp only [h15, word_bot]
    exact fold_max_first hA' (fun x hx => by simp [hx]) (fun x hx => by simp [hx])
  exact combine_apply _ _ _ _ _ _ r d l G A B hl (lane_value r) h13 h14 h15 h16 hA hB

end Cert.Kernel2Ideal.Post
end
-- ==== Proof.PostReference.lean ====
/-
  The reference's routing, at a token whose logits are real: the group, the two experts and the combine weights, from the
  first greatest group logit and the two greatest expert logits of that group. And the reference's other stages at an index.
-/
module

public import proofs.«01_k».proof.Proof.Gen.Reference2Ideal.Read
public import proofs.«01_k».proof.Proof.Router
public import Idealize.ShloMosaic.Lib.Pointwise

@[expose] public section

set_option maxRecDepth 16384

noncomputable section

namespace Cert.Reference2Ideal.Post

open Cert.Reference2Ideal Cert.Reference2Ideal.Gen Cert.Reference2Ideal.Read Idealize.ShloMosaic Idealize.ShloMosaic.TcCoe Idealize.SL.Sem
open Cert.Router
open scoped BigOperators

variable (x0 x1 : Vec Ideal S8x4096x512 .bf16) (x2 : Vec Ideal S8x4096x1024 .f32) (x3 : Vec Ideal S8x6x1024 .f32) (x4 : Vec Ideal S1024 .f32) (x5 : Vec Ideal S1024x1024 .f32) (x6 : Vec Ideal S1024x4 .f32) (x7 : Vec Ideal S4 .f32) (x8 : Vec Ideal S1024x32 .f32) (x9 : Vec Ideal S32 .f32)

theorem word_bot : Ideal.ofBits .f32 4286578688#32 = (⊥ : EReal) := by simp [Ideal.ofBits, Ideal.ieee]

theorem small_int : ∀ k : Fin 4, (BitVec.ofNat 32 k.val).toInt.toNat = k.val := by decide +kernel
theorem small_select : ∀ k : Fin 4, Scalar.select (IntOp.cmpi .slt (BitVec.ofNat 32 k.val) 0#32)
    (IntOp.addi (BitVec.ofNat 32 k.val) 4#32) (BitVec.ofNat 32 k.val) = BitVec.ofNat 32 k.val := by decide +kernel
theorem small_inside : ∀ k : Fin 4, IntOp.andi (IntOp.andi (IntOp.cmpi .sge (BitVec.ofNat 32 k.val) 0#32)
    (IntOp.cmpi .sle (BitVec.ofNat 32 k.val) 3#32)) 1#1 = 1#1 := by decide +kernel
theorem eq_word : ∀ (p q : Fin 8), (IntOp.cmpi .eq (BitVec.ofNat 32 p.val) (BitVec.ofNat 32 q.val)).toNat = if p = q then 1 else 0 := by
  decide +kernel
theorem eq_group : ∀ (p q : Fin 4), (IntOp.cmpi .eq (BitVec.ofNat 32 p.val) (BitVec.ofNat 32 q.val)).toNat = if p = q then 1 else 0 := by
  decide +kernel
theorem uitofp_word {w : ℕ} (b : BitVec w) : FloatOps.uitofp (F := Ideal) .f32 b = ((b.toNat : ℝ) : EReal) := rfl

/-- A fold over one position. -/
theorem fold_one (f : Fin 1 → BitVec 1) : Finset.fold IntOp.andi (1#1) f Finset.univ = IntOp.andi (f 0) 1#1 := by
  rw [Finset.univ_unique, Finset.fold_singleton]; rfl

/-- The chosen group's number. -/
theorem group_index (n : Fin 32768) (g : Fin 4)
    (hg : First (fun _ => True) (fun i => val_main_v33 (F := Ideal) x0 x1 x2 x3 x4 x5 x6 x7 (ix2 n i)) g) :
    val_main_v45 (F := Ideal) x0 x1 x2 x3 x4 x5 x6 x7 (ix1 n) = BitVec.ofNat 32 g.val := by
  have h : val_main_v45 (F := Ideal) x0 x1 x2 x3 x4 x5 x6 x7 (ix1 n) = val_main_indices (F := Ideal) x0 x1 x2 x3 x4 x5 x6 x7 (ix2 n 0) := by
    unfold val_main_v45
    generalize val_main_indices (F := Ideal) x0 x1 x2 x3 x4 x5 x6 x7 = y
    pointwise
  rw [h]
  unfold val_main_indices
  exact topK_index (by norm_num) _ _ n 0 g (sorted_front _ _ (gtB_iff _) hg (by norm_num))

/-- The group softmax at a token. -/
theorem group_softmax (n : Fin 32768) (i : Fin 4) (l : Fin 4 → ℝ) (g : Fin 4)
    (hl : ∀ i, val_main_v33 (F := Ideal) x0 x1 x2 x3 x4 x5 x6 x7 (ix2 n i) = (l i : EReal)) (hg : First (fun _ => True) l g) :
    val_main_v44 (F := Ideal) x0 x1 x2 x3 x4 x5 x6 x7 (ix2 n i)
      = ((Real.exp (l i - l g) / ∑ j, Real.exp (l j - l g) : ℝ) : EReal) := by
  have h40 : ∀ i, val_main_v40 (F := Ideal) x0 x1 x2 x3 x4 x5 x6 x7 (ix2 n i) = ((Real.exp (l i - l g) : ℝ) : EReal) := fun i => by
    unfold val_main_v40 val_main_v39 val_main_v38 val_main_v37 val_main_v36 val_main_v35 val_main_cst_4 val_main_v34 val_main_cst_3
    generalize val_main_v33 (F := Ideal) x0 x1 x2 x3 x4 x5 x6 x7 = y at hl ⊢
    pointwise
    simp only [hl, word_bot]
    rw [fold_max_first (P := fun _ => True) hg.cast (fun x _ => rfl) (fun x hx => absurd trivial hx), max_eq_right bot_le,
      ← EReal.coe_sub]
    rfl
  unfold val_main_v44 val_main_v43 val_main_v42 val_main_v41 val_main_cst_5
  generalize val_main_v40 (F := Ideal) x0 x1 x2 x3 x4 x5 x6 x7 = y at h40 ⊢
  pointwise
  simp only [h40]
  rw [← coe_sum, div_real]
  exact (Finset.sum_pos (fun j _ => Real.exp_pos _) ⟨g, Finset.mem_univ _⟩).ne'

/-- The chosen group's probability. -/
theorem group_weight (n : Fin 32768) (l : Fin 4 → ℝ) (g : Fin 4)
    (hl : ∀ i, val_main_v33 (F := Ideal) x0 x1 x2 x3 x4 x5 x6 x7 (ix2 n i) = (l i : EReal)) (hg : First (fun _ => True) l g) :
    val_main_v48 (F := Ideal) x0 x1 x2 x3 x4 x5 x6 x7 (ix1 n) = ((1 / ∑ j, Real.exp (l j - l g) : ℝ) : EReal) := by
  have h45 := group_index x0 x1 x2 x3 x4 x5 x6 x7 n g (by simp only [hl]; exact hg.cast)
  have h44 := group_softmax x0 x1 x2 x3 x4 x5 x6 x7 n g l g hl hg
  have h5 : ∀ k : Fin 1, val_main_call0_v5 (F := Ideal) x0 x1 x2 x3 x4 x5 x6 x7 (ix3 n 0 k) = BitVec.ofNat 32 g.val := fun k => by
    have h46 : val_main_v46 (F := Ideal) x0 x1 x2 x3 x4 x5 x6 x7 (ix2 n 0) = BitVec.ofNat 32 g.val := by
      unfold val_main_v46
      generalize val_main_v45 (F := Ideal) x0 x1 x2 x3 x4 x5 x6 x7 = y at h45 ⊢
      pointwise
      exact h45
    unfold val_main_call0_v5 val_main_call0_v4 val_main_call0_v1 val_main_call0_v0 val_main_call0_c val_main_call0_v3 val_main_call0_v2 val_main_call0_c_0
    generalize val_main_v46 (F := Ideal) x0 x1 x2 x3 x4 x5 x6 x7 = y at h46 ⊢
    pointwise
    rw [h46]
    exact small_select g
  have h13 : val_main_call0_v13 (F := Ideal) x0 x1 x2 x3 x4 x5 x6 x7 (ix2 n 0) = val_main_v44 (F := Ideal) x0 x1 x2 x3 x4 x5 x6 x7 (ix2 n g) := by
    unfold val_main_call0_v13
    exact gather_entry _ _ _ n g (by rw [h5]; exact small_int g)
  have h12 : val_main_call0_v12 (F := Ideal) x0 x1 x2 x3 x4 x5 x6 x7 (ix2 n 0) = 1#1 := by
    unfold val_main_call0_v12 val_main_call0_v11 val_main_call0_v7 val_main_call0_v6 val_main_call0_c_2 val_main_call0_v10 val_main_call0_v9 val_main_call0_v8 val_main_call0_c_1 val_main_call0_c_3
    generalize val_main_call0_v5 (F := Ideal) x0 x1 x2 x3 x4 x5 x6 x7 = y at h5 ⊢
    pointwise
    simp only [h5]
    rw [fold_one]
    exact small_inside g
  unfold val_main_v48 val_main_v47
  generalize val_main_call0_v12 (F := Ideal) x0 x1 x2 x3 x4 x5 x6 x7 = y at h12 ⊢
  generalize val_main_call0_v13 (F := Ideal) x0 x1 x2 x3 x4 x5 x6 x7 = z at h13 ⊢
  pointwise
  rw [h12, h13, h44]
  show _ = _
  simp [Scalar.select]

/-- The chosen group's expert logits. -/
theorem expert_logits (n : Fin 32768) (j : Fin 8) (g : Fin 4)
    (hg : First (fun _ => True) (fun i => val_main_v33 (F := Ideal) x0 x1 x2 x3 x4 x5 x6 x7 (ix2 n i)) g) :
    val_main_v56 (F := Ideal) x0 x1 x2 x3 x4 x5 x6 x7 x8 x9 (ix2 n j)
      = val_main_v52 (F := Ideal) x0 x1 x2 x3 x4 x5 x8 x9 (ix2 n ⟨g.val * 8 + j.val, by omega⟩) := by
  have h45 := group_index x0 x1 x2 x3 x4 x5 x6 x7 n g hg
  have h5 : ∀ k : Fin 1, val_main_call1_v4 (F := Ideal) x0 x1 x2 x3 x4 x5 x6 x7 (ix3 n 0 k) = BitVec.ofNat 32 g.val := fun k => by
    have h54 : ∀ k : Fin 1, val_main_v54 (F := Ideal) x0 x1 x2 x3 x4 x5 x6 x7 (ix3 n 0 k) = BitVec.ofNat 32 g.val := fun k => by
      unfold val_main_v54
      generalize val_main_v45 (F := Ideal) x0 x1 x2 x3 x4 x5 x6 x7 = y at h45 ⊢
      pointwise
      exact h45
    unfold val_main_call1_v4 val_main_call1_v1 val_main_call1_v0 val_main_call1_c val_main_call1_v3 val_main_call1_v2 val_main_call1_c_0
    generalize val_main_v54 (F := Ideal) x0 x1 x2 x3 x4 x5 x6 x7 = y at h54 ⊢
    pointwise
    simp only [h54]
    exact small_select g
  have h12 : val_main_call1_v12 (F := Ideal) x0 x1 x2 x3 x4 x5 x6 x7 x8 x9 (ix3 n 0 j) = val_main_v53 (F := Ideal) x0 x1 x2 x3 x4 x5 x8 x9 (ix3 n g j) := by
    unfold val_main_call1_v12
    exact gather_row _ _ _ n g j (by rw [h5]; exact small_int g)
  have h13 : val_main_call1_v13 (F := Ideal) x0 x1 x2 x3 x4 x5 x6 x7 (ix3 n 0 j) = 1#1 := by
    unfold val_main_call1_v13 val_main_call1_v11 val_main_call1_v10 val_main_call1_v6 val_main_call1_v5 val_main_call1_c_2 val_main_call1_v9 val_main_call1_v8 val_main_call1_v7 val_main_call1_c_1 val_main_call1_c_3
    generalize val_main_call1_v4 (F := Ideal) x0 x1 x2 x3 x4 x5 x6 x7 = y at h5 ⊢
    pointwise
    simp only [h5]
    rw [fold_one]
    exact small_inside g
  have h53 : val_main_v53 (F := Ideal) x0 x1 x2 x3 x4 x5 x8 x9 (ix3 n g j) = val_main_v52 (F := Ideal) x0 x1 x2 x3 x4 x5 x8 x9 (ix2 n ⟨g.val * 8 + j.val, by omega⟩) := by
    unfold val_main_v53
    generalize val_main_v52 (F := Ideal) x0 x1 x2 x3 x4 x5 x8 x9 = y
    pointwise
  unfold val_main_v56 val_main_v55
  generalize val_main_call1_v12 (F := Ideal) x0 x1 x2 x3 x4 x5 x6 x7 x8 x9 = y at h12 ⊢
  generalize val_main_call1_v13 (F := Ideal) x0 x1 x2 x3 x4 x5 x6 x7 = z at h13 ⊢
  pointwise
  rw [h12, h13, h53]
  simp [Scalar.select]

/-- The softmax over the chosen group's experts. -/
theorem expert_softmax (n : Fin 32768) (j : Fin 8) (e : Fin 8 → ℝ) (a : Fin 8)
    (he : ∀ j, val_main_v56 (F := Ideal) x0 x1 x2 x3 x4 x5 x6 x7 x8 x9 (ix2 n j) = (e j : EReal)) (ha : First (fun _ => True) e a) :
    val_main_v67 (F := Ideal) x0 x1 x2 x3 x4 x5 x6 x7 x8 x9 (ix2 n j)
      = ((Real.exp (e j - e a) / ∑ k, Real.exp (e k - e a) : ℝ) : EReal) := by
  have h63 : ∀ j, val_main_v63 (F := Ideal) x0 x1 x2 x3 x4 x5 x6 x7 x8 x9 (ix2 n j) = ((Real.exp (e j - e a) : ℝ) : EReal) := fun j => by
    unfold val_main_v63 val_main_v62 val_main_v61 val_main_v60 val_main_v59 val_main_v58 val_main_cst_7 val_main_v57 val_main_cst_6
    generalize val_main_v56 (F := Ideal) x0 x1 x2 x3 x4 x5 x6 x7 x8 x9 = y at he ⊢
    pointwise
    simp only [he, word_bot]
    rw [fold_max_first (P := fun _ => True) ha.cast (fun x _ => rfl) (fun x hx => absurd trivial hx), max_eq_right bot_le,
      ← EReal.coe_sub]
    rfl
  unfold val_main_v67 val_main_v66 val_main_v65 val_main_v64 val_main_cst_8
  generalize val_main_v63 (F := Ideal) x0 x1 x2 x3 x4 x5 x6 x7 x8 x9 = y at h63 ⊢
  pointwise
  simp only [h63]
  rw [← coe_sum, div_real]
  exact (Finset.sum_pos (fun j _ => Real.exp_pos _) ⟨a, Finset.mem_univ _⟩).ne'

/-- The two chosen experts' weights, spread over the group's experts. -/
theorem expert_weights (n : Fin 32768) (j : Fin 8) (e : Fin 8 → ℝ) (a b : Fin 8)
    (he : ∀ j, val_main_v56 (F := Ideal) x0 x1 x2 x3 x4 x5 x6 x7 x8 x9 (ix2 n j) = (e j : EReal)) (ha : First (fun _ => True) e a)
    (hb : First (fun j => j ≠ a) e b) :
    val_main_v73 (F := Ideal) x0 x1 x2 x3 x4 x5 x6 x7 x8 x9 (ix2 n j)
      = (((1 / (1 + Real.exp (e b - e a))) * (if a = j then 1 else 0)
          + (Real.exp (e b - e a) / (1 + Real.exp (e b - e a))) * (if b = j then 1 else 0) : ℝ) : EReal) := by
  have h67 := fun j => expert_softmax x0 x1 x2 x3 x4 x5 x6 x7 x8 x9 n j e a he ha
  have hS : 0 < ∑ k, Real.exp (e k - e a) := Finset.sum_pos (fun j _ => Real.exp_pos _) ⟨a, Finset.mem_univ _⟩
  generalize hSS : ∑ k, Real.exp (e k - e a) = S at h67 hS
  have hmono : ∀ i k, e i < e k → Real.exp (e i - e a) / S < Real.exp (e k - e a) / S := fun i k h =>
    (div_lt_div_iff_of_pos_right hS).mpr (Real.exp_lt_exp.mpr (by linarith))
  have hA : First (fun _ => True) (fun j => val_main_v67 (F := Ideal) x0 x1 x2 x3 x4 x5 x6 x7 x8 x9 (ix2 n j)) a := by
    simp only [h67]
    refine First.cast (f := fun j => Real.exp (e j - e a) / S) ⟨trivial, fun i hi => ?_⟩
    rcases ha.2 i hi with h | h
    · exact Or.inl (hmono _ _ h)
    · exact Or.inr ⟨by simp only [h.1], h.2⟩
  have hB : First (fun j => j ≠ a) (fun j => val_main_v67 (F := Ideal) x0 x1 x2 x3 x4 x5 x6 x7 x8 x9 (ix2 n j)) b := by
    simp only [h67]
    refine First.cast (f := fun j => Real.exp (e j - e a) / S) ⟨hb.1, fun i hi => ?_⟩
    rcases hb.2 i hi with h | h
    · exact Or.inl (hmono _ _ h)
    · exact Or.inr ⟨by simp only [h.1], h.2⟩
  have s0 := sorted_front _ _ (gtB_iff _) hA (by norm_num)
  have s1 := sorted_second _ _ (gtB_iff _) hA hB (by norm_num)
  have i0 : val_main_indices_10 (F := Ideal) x0 x1 x2 x3 x4 x5 x6 x7 x8 x9 (ix2 n 0) = BitVec.ofNat 32 a.val := by
    unfold val_main_indices_10
    generalize val_main_v67 (F := Ideal) x0 x1 x2 x3 x4 x5 x6 x7 x8 x9 = y at s0 ⊢
    exact topK_index (by norm_num : 2 ≤ 8) y _ n 0 a s0
  have i1 : val_main_indices_10 (F := Ideal) x0 x1 x2 x3 x4 x5 x6 x7 x8 x9 (ix2 n 1) = BitVec.ofNat 32 b.val := by
    unfold val_main_indices_10
    generalize val_main_v67 (F := Ideal) x0 x1 x2 x3 x4 x5 x6 x7 x8 x9 = y at s1 ⊢
    exact topK_index (by norm_num : 2 ≤ 8) y _ n 1 b s1
  have v0 : val_main_values_9 (F := Ideal) x0 x1 x2 x3 x4 x5 x6 x7 x8 x9 (ix2 n 0) = Ideal.div ((1 : ℝ) : EReal) (S : EReal) := by
    unfold val_main_values_9
    have h67' := h67 a
    generalize val_main_v67 (F := Ideal) x0 x1 x2 x3 x4 x5 x6 x7 x8 x9 = y at s0 h67' ⊢
    refine (topK_value (by norm_num : 2 ≤ 8) y _ n 0 a s0).trans ?_
    rw [h67', sub_self, Real.exp_zero, div_real hS.ne']
  have v1 : val_main_values_9 (F := Ideal) x0 x1 x2 x3 x4 x5 x6 x7 x8 x9 (ix2 n 1) = Ideal.div ((Real.exp (e b - e a) : ℝ) : EReal) (S : EReal) := by
    unfold val_main_values_9
    have h67' := h67 b
    generalize val_main_v67 (F := Ideal) x0 x1 x2 x3 x4 x5 x6 x7 x8 x9 = y at s1 h67' ⊢
    refine (topK_value (by norm_num : 2 ≤ 8) y _ n 1 b s1).trans ?_
    rw [h67', div_real hS.ne']
  have h71 : ∀ k, val_main_v71 (F := Ideal) x0 x1 x2 x3 x4 x5 x6 x7 x8 x9 (ix2 n k)
      = Ideal.div (val_main_values_9 (F := Ideal) x0 x1 x2 x3 x4 x5 x6 x7 x8 x9 (ix2 n k))
        (∑ x, val_main_values_9 (F := Ideal) x0 x1 x2 x3 x4 x5 x6 x7 x8 x9 (ix2 n x)) := fun k => by
    unfold val_main_v71 val_main_v70 val_main_v69 val_main_v68 val_main_cst_11
    generalize val_main_values_9 (F := Ideal) x0 x1 x2 x3 x4 x5 x6 x7 x8 x9 = y
    pointwise
  have w0 : val_main_v71 (F := Ideal) x0 x1 x2 x3 x4 x5 x6 x7 x8 x9 (ix2 n 0) = ((1 / (1 + Real.exp (e b - e a)) : ℝ) : EReal) := by
    rw [h71, Fin.sum_univ_two, v0, v1, weight_first one_pos (Real.exp_pos _) hS]
  have w1 : val_main_v71 (F := Ideal) x0 x1 x2 x3 x4 x5 x6 x7 x8 x9 (ix2 n 1) = ((Real.exp (e b - e a) / (1 + Real.exp (e b - e a)) : ℝ) : EReal) := by
    rw [h71, Fin.sum_univ_two, v0, v1, add_comm, weight_first (Real.exp_pos _) one_pos hS, add_comm (1 : ℝ)]
  have h73 : val_main_v73 (F := Ideal) x0 x1 x2 x3 x4 x5 x6 x7 x8 x9 (ix2 n j)
      = ∑ x, val_main_v71 (F := Ideal) x0 x1 x2 x3 x4 x5 x6 x7 x8 x9 (ix2 n x)
          * FloatOps.uitofp (F := Ideal) .f32 (IntOp.cmpi .eq (val_main_indices_10 (F := Ideal) x0 x1 x2 x3 x4 x5 x6 x7 x8 x9 (ix2 n x)) (BitVec.ofNat 32 j.val)) := by
    unfold val_main_v73 val_main_v72 val_main_call2_v4 val_main_call2_v2 val_main_call2_v0 val_main_call2_v3 val_main_call2_v1
    generalize val_main_v71 (F := Ideal) x0 x1 x2 x3 x4 x5 x6 x7 x8 x9 = y0
    generalize val_main_indices_10 (F := Ideal) x0 x1 x2 x3 x4 x5 x6 x7 x8 x9 = y1
    pointwise
  rw [h73, Fin.sum_univ_two, w0, w1, i0, i1, uitofp_word, uitofp_word, eq_word, eq_word, ← EReal.coe_mul, ← EReal.coe_mul, ← EReal.coe_add]
  simp only [Nat.cast_ite, Nat.cast_one, Nat.cast_zero]

/-- THE COMBINE WEIGHTS of a token, lane by lane. -/
theorem combine_apply (b : Fin 8) (t : Fin 4096) (d : Fin 128) (n : Fin 32768) (hn : n.val = b.val * 4096 + t.val)
    (lg : Fin 4 → ℝ) (le : Fin 32 → ℝ) (g : Fin 4) (a c : Fin 8)
    (hg : ∀ i, val_main_v33 (F := Ideal) x0 x1 x2 x3 x4 x5 x6 x7 (ix2 n i) = (lg i : EReal))
    (he : ∀ i, val_main_v52 (F := Ideal) x0 x1 x2 x3 x4 x5 x8 x9 (ix2 n i) = (le i : EReal))
    (hG : First (fun _ => True) lg g)
    (hA : First (fun _ => True) (fun j : Fin 8 => le ⟨g.val * 8 + j.val, by omega⟩) a)
    (hC : First (fun j => j ≠ a) (fun j : Fin 8 => le ⟨g.val * 8 + j.val, by omega⟩) c) :
    val_main_v84 (F := Ideal) x0 x1 x2 x3 x4 x5 x6 x7 x8 x9 (ix3 b t d)
      = ((if d.val < 32 ∧ d.val / 8 = g.val then (1 / ∑ j, Real.exp (lg j - lg g))
          * ((1 / (1 + Real.exp (le ⟨g.val * 8 + c.val, by omega⟩ - le ⟨g.val * 8 + a.val, by omega⟩))) * (if a.val = d.val % 8 then 1 else 0)
          + (Real.exp (le ⟨g.val * 8 + c.val, by omega⟩ - le ⟨g.val * 8 + a.val, by omega⟩) / (1 + Real.exp (le ⟨g.val * 8 + c.val, by omega⟩ - le ⟨g.val * 8 + a.val, by omega⟩))) * (if c.val = d.val % 8 then 1 else 0))
         else 0 : ℝ) : EReal) := by
  have hG' : First (fun _ => True) (fun i => val_main_v33 (F := Ideal) x0 x1 x2 x3 x4 x5 x6 x7 (ix2 n i)) g := by
    simp only [hg]; exact hG.cast
  have h45 := group_index x0 x1 x2 x3 x4 x5 x6 x7 n g hG'
  have h48 := group_weight x0 x1 x2 x3 x4 x5 x6 x7 n lg g hg hG
  have h56 : ∀ j, val_main_v56 (F := Ideal) x0 x1 x2 x3 x4 x5 x6 x7 x8 x9 (ix2 n j) = (le ⟨g.val * 8 + j.val, by omega⟩ : EReal) := fun j => by
    rw [expert_logits x0 x1 x2 x3 x4 x5 x6 x7 x8 x9 n j g hG', he]
  have h73 := fun j => expert_weights x0 x1 x2 x3 x4 x5 x6 x7 x8 x9 n j _ a c h56 hA hC
  have hn' : (⟨b.val * 4096 + t.val, by omega⟩ : Fin 32768) = n := Fin.ext hn.symm
  unfold val_main_v84 val_main_v83 val_main_v82 val_main_v80 val_main_v75 val_main_v74 val_main_call3_v4 val_main_call3_v2 val_main_call3_v0 val_main_call3_v3 val_main_call3_v1 val_main_v81 val_main_v79 val_main_v78 val_main_v77 val_main_v76 val_main_call4_v0 val_main_c
  generalize val_main_v73 (F := Ideal) x0 x1 x2 x3 x4 x5 x6 x7 x8 x9 = y0 at h73 ⊢
  generalize val_main_v45 (F := Ideal) x0 x1 x2 x3 x4 x5 x6 x7 = y1 at h45 ⊢
  generalize val_main_v48 (F := Ideal) x0 x1 x2 x3 x4 x5 x6 x7 = y2 at h48 ⊢
  pointwise
  by_cases hd : d.val < 32
  · rw [dif_pos hd]
    simp only [hn', h45, h48, h73]
    rw [uitofp_word, eq_group g ⟨d.val / 8, by omega⟩, ← EReal.coe_mul, ← EReal.coe_mul]
    congr 1
    by_cases hq : d.val / 8 = g.val
    · have e : g = (⟨d.val / 8, by omega⟩ : Fin 4) := Fin.ext hq.symm
      rw [if_pos e, if_pos (show d.val < 32 ∧ d.val / 8 = g.val from ⟨hd, hq⟩)]
      simp only [Fin.ext_iff, Nat.cast_one, one_mul]
    · have e : ¬ g = (⟨d.val / 8, by omega⟩ : Fin 4) := fun h => hq (congrArg Fin.val h).symm
      rw [if_neg e, if_neg (show ¬ (d.val < 32 ∧ d.val / 8 = g.val) from fun h => hq h.2)]
      simp
  · rw [dif_neg hd, if_neg (fun h => hd h.1)]
    show (((0#32 : BitVec 32).toInt : ℝ) : EReal) = _
    simp

end Cert.Reference2Ideal.Post
end
-- ==== Proof.PostEq.lean ====
/-
  The projection-and-routing kernel's three result arrays are the reference's three results, on the same arguments: the residual
  tokens and their modulated norms on any arguments at all, the combine weights where the routing scores are real numbers.
-/
module

public import proofs.«01_k».proof.Proof.PostReal
public import proofs.«01_k».proof.Proof.PostStages
public import proofs.«01_k».proof.Proof.PostLanes
public import proofs.«01_k».proof.Proof.PostReference

@[expose] public section

set_option maxRecDepth 16384

noncomputable section

namespace Cert.Kernel2Ideal.Post

open Cert.Kernel2Ideal Cert.Kernel2Ideal.Gen Cert.Kernel2Ideal.Value Idealize.ShloMosaic Idealize.ShloMosaic.TcCoe Idealize.SL.Sem
open Cert.Router
open Cert.Reference2Ideal.Post (token act)
open scoped BigOperators

/-! ## The two statements of the combine weights agree -/

theorem groupSum_eq (l : Fin 128 → ℝ) (G : Fin 128) : groupSum l G = ∑ j : Fin 4, Real.exp (l ⟨32 + j.val, by omega⟩ - l G) := by
  classical
  unfold groupSum
  rw [← Finset.sum_filter]
  symm
  refine Finset.sum_bij (fun (j : Fin 4) _ => (⟨32 + j.val, by omega⟩ : Fin 128)) ?_ ?_ ?_ ?_
  · intro j _
    exact Finset.mem_filter.mpr ⟨Finset.mem_univ _, show 32 ≤ 32 + j.val ∧ 32 + j.val < 36 by omega⟩
  · intro i _ j _ h
    have := congrArg Fin.val h
    apply Fin.ext
    simp only at this
    omega
  · intro x hx
    have hx' : 32 ≤ x.val ∧ x.val < 36 := (Finset.mem_filter.mp hx).2
    exact ⟨⟨x.val - 32, by omega⟩, Finset.mem_univ _, Fin.ext (by show 32 + (x.val - 32) = x.val; omega)⟩
  · intro j _
    rfl

theorem first_group (l : Fin 128 → ℝ) (G : Fin 128) (hG : First isGroup l G) (g : Fin 4) (hg : G.val = 32 + g.val) :
    First (fun _ => True) (fun i : Fin 4 => l ⟨32 + i.val, by omega⟩) g := by
  have hGe : G = ⟨32 + g.val, by omega⟩ := Fin.ext hg
  refine ⟨trivial, fun j _ => ?_⟩
  have h := hG.2 ⟨32 + j.val, by omega⟩ (by simp only [isGroup]; omega)
  have hl : l G = _ := congrArg l hGe
  rcases h with h | h
  · exact Or.inl (h.trans_eq hl)
  · refine Or.inr ⟨h.1.trans hl, ?_⟩
    have := h.2
    rw [Fin.le_def] at this ⊢
    simp only at this
    omega

theorem first_expert (l : Fin 128 → ℝ) (G A : Fin 128) (hA : First (inGroup G) l A) (g : Fin 4) (hg : G.val = 32 + g.val)
    (a : Fin 8) (ha : A.val = g.val * 8 + a.val) :
    First (fun _ => True) (fun j : Fin 8 => l ⟨g.val * 8 + j.val, by omega⟩) a := by
  have hAe : A = ⟨g.val * 8 + a.val, by omega⟩ := Fin.ext ha
  refine ⟨trivial, fun j _ => ?_⟩
  have h := hA.2 ⟨g.val * 8 + j.val, by omega⟩ (by simp only [inGroup]; omega)
  have hl : l A = _ := congrArg l hAe
  rcases h with h | h
  · exact Or.inl (h.trans_eq hl)
  · refine Or.inr ⟨h.1.trans hl, ?_⟩
    have := h.2
    rw [Fin.le_def] at this ⊢
    simp only at this
    omega

theorem first_other (l : Fin 128 → ℝ) (G A B : Fin 128) (hB : First (fun x => inGroup G x ∧ x ≠ A) l B) (g : Fin 4) (hg : G.val = 32 + g.val)
    (a c : Fin 8) (ha : A.val = g.val * 8 + a.val) (hc : B.val = g.val * 8 + c.val) :
    First (fun j => j ≠ a) (fun j : Fin 8 => l ⟨g.val * 8 + j.val, by omega⟩) c := by
  have hBe : B = ⟨g.val * 8 + c.val, by omega⟩ := Fin.ext hc
  refine ⟨fun e => hB.1.2 (Fin.ext (by rw [ha, hc, e])), fun j hj => ?_⟩
  have h := hB.2 ⟨g.val * 8 + j.val, by omega⟩ ⟨by simp only [inGroup]; omega, fun e => hj (Fin.ext (by
    have := congrArg Fin.val e; simp only at this; omega))⟩
  have hl : l B = _ := congrArg l hBe
  rcases h with h | h
  · exact Or.inl (h.trans_eq hl)
  · refine Or.inr ⟨h.1.trans hl, ?_⟩
    have := h.2
    rw [Fin.le_def] at this ⊢
    simp only at this
    omega

/-- The weight a lane receives, in the kernel's words and in the reference's. -/
theorem combine_eq (l : Fin 128 → ℝ) (G A B d : Fin 128) (g : Fin 4) (a c : Fin 8) (hg : G.val = 32 + g.val)
    (ha : A.val = g.val * 8 + a.val) (hc : B.val = g.val * 8 + c.val) (le : Fin 32 → ℝ) (lg : Fin 4 → ℝ)
    (hle : ∀ j : Fin 32, le j = l ⟨j.val, by omega⟩) (hlg : ∀ j : Fin 4, lg j = l ⟨32 + j.val, by omega⟩) :
    combine l G A B d = (if d.val < 32 ∧ d.val / 8 = g.val then (1 / ∑ j, Real.exp (lg j - lg g))
          * ((1 / (1 + Real.exp (le ⟨g.val * 8 + c.val, by omega⟩ - le ⟨g.val * 8 + a.val, by omega⟩))) * (if a.val = d.val % 8 then 1 else 0)
          + (Real.exp (le ⟨g.val * 8 + c.val, by omega⟩ - le ⟨g.val * 8 + a.val, by omega⟩) / (1 + Real.exp (le ⟨g.val * 8 + c.val, by omega⟩ - le ⟨g.val * 8 + a.val, by omega⟩))) * (if c.val = d.val % 8 then 1 else 0))
         else 0 : ℝ) := by
  have hGe : G = ⟨32 + g.val, by omega⟩ := Fin.ext hg
  have hAe : A = ⟨g.val * 8 + a.val, by omega⟩ := Fin.ext ha
  have hBe : B = ⟨g.val * 8 + c.val, by omega⟩ := Fin.ext hc
  have hs : groupSum l G = ∑ j, Real.exp (lg j - lg g) := by
    rw [groupSum_eq]
    exact Finset.sum_congr rfl fun j _ => by rw [hlg, hlg]; exact congrArg (fun z => Real.exp (_ - z)) (congrArg l hGe)
  have hlA : l A = le ⟨g.val * 8 + a.val, by omega⟩ := (congrArg l hAe).trans (hle ⟨g.val * 8 + a.val, by omega⟩).symm
  have hlB : l B = le ⟨g.val * 8 + c.val, by omega⟩ := (congrArg l hBe).trans (hle ⟨g.val * 8 + c.val, by omega⟩).symm
  unfold combine
  rw [hs, hlA, hlB]
  generalize (1 / ∑ j, Real.exp (lg j - lg g) : ℝ) = p
  generalize le ⟨g.val * 8 + c.val, _⟩ - le ⟨g.val * 8 + a.val, _⟩ = e
  by_cases hd : d.val < 32 ∧ d.val / 8 = g.val
  · rw [if_pos hd]
    have e1 : (d = A) = (a.val = d.val % 8) := by
      rw [Fin.ext_iff, ha]; apply propext; omega
    have e2 : (d = B) = (c.val = d.val % 8) := by
      rw [Fin.ext_iff, hc]; apply propext; omega
    simp only [e1, e2]
    split_ifs <;> ring
  · rw [if_neg hd]
    have n1 : ¬ d = A := fun e => hd (by rw [e, ha]; omega)
    have n2 : ¬ d = B := fun e => hd (by rw [e, hc]; omega)
    rw [if_neg n1, if_neg n2, add_zero]

/-! ## The result arrays -/

variable (m : (ℓ : Loc nD τ sig) → Buf (Elt Ideal) ℓ)

/-- A grid point's residual rows are the tokens of its batch row. -/
theorem resid_eq (c : Dev nD) (t : Fin cfg0.N) (r : Fin 512) (b : Fin 8) (s : Fin 4096) (hb : b.val = t.val / 8) (hs : s.val = t.val % 8 * 512 + r.val) :
    resid (iblk m c 0 t) (iblk m c 1 t) (iblk m c 2 t) (iblk m c 3 t) (iblk m c 5 t) (iblk m c 6 t) r
      = token (m ((c : Thread nD τ).loc main_arg0)) (m ((c : Thread nD τ).loc main_arg1)) (m ((c : Thread nD τ).loc main_arg2))
          (m ((c : Thread nD τ).loc main_arg3)) (m ((c : Thread nD τ).loc main_arg5)) b s := by
  funext d
  unfold resid token
  rw [blk2 m c t r d b s hb hs, blk3 m c t 2 d b hb]
  have key : ∀ (u v : EReal) (f g f' g' : Fin 512 → EReal), (∀ k, f k = f' k) → (∀ k, g k = g' k) →
      u + v * ((∑ k, f k) + ∑ k, g k) = u + v * ((∑ k, f' k) + ∑ k, g' k) := fun u v f g f' g' hf hg => by
    rw [Finset.sum_congr rfl fun k _ => hf k, Finset.sum_congr rfl fun k _ => hg k]
  exact key _ _ _ _ _ _
    (fun k => congrArg₂ (fun a b : EReal => a * b) (blk0 m c t r k b s hb hs) (blk5 m c t k d ⟨k.val, by omega⟩ rfl))
    (fun k => congrArg₂ (fun a b : EReal => a * b) (blk1 m c t r k b s hb hs) (blk6 m c t k d ⟨512 + k.val, by omega⟩ rfl))

/-- And their modulated norms are the tokens' modulated norms. -/
theorem normed_eq (c : Dev nD) (t : Fin cfg0.N) (r : Fin 512) (b : Fin 8) (s : Fin 4096) (hb : b.val = t.val / 8) (hs : s.val = t.val % 8 * 512 + r.val) (d : Fin 1024) :
    normed (resid (iblk m c 0 t) (iblk m c 1 t) (iblk m c 2 t) (iblk m c 3 t) (iblk m c 5 t) (iblk m c 6 t) r)
        (fun d => (iblk m c 4 t : Vec Ideal S1x1024 .f32) (ix2 0 d)) (fun d => (iblk m c 3 t : Vec Ideal S1x6x1024 .f32) (ix3 0 4 d)) (fun d => (iblk m c 3 t : Vec Ideal S1x6x1024 .f32) (ix3 0 3 d)) d
      = act (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b s d := by
  unfold act
  rw [resid_eq m c t r b s hb hs]
  congr 1
  · funext d; exact blk4 m c t d
  · funext d; exact blk3 m c t 4 d b hb
  · funext d; exact blk3 m c t 3 d b hb

/-- The grid point and the row that hold a token. -/
theorem place (b : Fin 8) (s : Fin 4096) : ∃ (t : Fin cfg0.N) (r : Fin 512), b.val = t.val / 8 ∧ s.val = t.val % 8 * 512 + r.val := by
  have hN : cfg0.N = 64 := N_0
  refine ⟨⟨b.val * 8 + s.val / 512, by rw [hN]; omega⟩, ⟨s.val % 512, by omega⟩, ?_, ?_⟩
  · show b.val = (b.val * 8 + s.val / 512) / 8; omega
  · show s.val = (b.val * 8 + s.val / 512) % 8 * 512 + s.val % 512; omega

theorem split3 {n0 n1 n2 : ℕ} (i : (⟨3, ![n0, n1, n2]⟩ : Shape).Idx) : ∃ (b : Fin n0) (s : Fin n1) (d : Fin n2), i = ix3 b s d :=
  ⟨i 0, i 1, i 2, by funext a; match a with | ⟨0, _⟩ => rfl | ⟨1, _⟩ => rfl | ⟨2, _⟩ => rfl⟩

/-- The residual tokens. -/
theorem tokens_eq (c : Dev nD) : (dats m 0 c).arrAt 9 cfg0.N = Cert.Reference2Ideal.Read.val_main_v9 (F := Ideal)
    (m ((c : Thread nD τ).loc main_arg0)) (m ((c : Thread nD τ).loc main_arg1)) (m ((c : Thread nD τ).loc main_arg2)) (m ((c : Thread nD τ).loc main_arg3)) (m ((c : Thread nD τ).loc main_arg5)) := by
  funext i
  obtain ⟨b, s, d, rfl⟩ := split3 i
  obtain ⟨t, r, hb, hs⟩ := place b s
  rw [Cert.Reference2Ideal.Post.token_apply]
  refine (array9 m c t r d b s hb hs).trans ?_
  rw [block9_apply, resid_eq m c t r b s hb hs]

/-- The tokens' modulated norms. -/
theorem norms_eq (c : Dev nD) : (dats m 0 c).arrAt 10 cfg0.N = Cert.Reference2Ideal.Read.val_main_v85 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨b, s, d, rfl⟩ := split3 i
  obtain ⟨t, r, hb, hs⟩ := place b s
  rw [Cert.Reference2Ideal.Post.result_apply]
  refine (array10 m c t r d b s hb hs).trans ?_
  rw [block10_apply, normed_eq m c t r b s hb hs]

/-- What a grid point leaves in its block of combine weights, from the row's scores. -/
theorem block11_apply (x0 : Vec Ideal S1x512x512 .bf16) (x1 : Vec Ideal S1x512x512 .bf16) (x2 : Vec Ideal S1x512x1024 .f32) (x3 : Vec Ideal S1x6x1024 .f32)
    (x4 : Vec Ideal S1x1024 .f32) (x5 : Vec Ideal S512x1024 .bf16) (x6 : Vec Ideal S512x1024 .bf16) (x7 : Vec Ideal S1024x128 .bf16) (x8 : Vec Ideal S1x128 .f32)
    (r : Fin 512) (d : Fin 128) (l : Fin 128 → ℝ) (G A B : Fin 128)
    (hl : ∀ x, (∑ k, normed (resid x0 x1 x2 x3 x5 x6 r) (fun d => x4 (ix2 0 d)) (fun d => x3 (ix3 0 4 d)) (fun d => x3 (ix3 0 3 d)) k * x7 (ix2 k x)) + x8 (ix2 0 x) = (l x : EReal))
    (hG : First isGroup l G) (hA : First (inGroup G) l A) (hB : First (fun x => inGroup G x ∧ x ≠ A) l B) :
    (out0_11 (F := Ideal) x0 x1 x2 x3 x4 x5 x6 x7 x8) (ix3 0 r d) = ((combine l G A B d : ℝ) : EReal) := by
  have h7 : ∀ x, k0_pay7 (F := Ideal) (k0_pay18 x0 x1 x2 x3 x4 x5 x6 x7 x8) (View.ld x4 r0_4) (View.ld x3 r0_5) (View.ld x3 r0_6) (View.ld x7 r0_7) (View.ld x8 r0_8) (ix2 r x) = (l x : EReal) :=
    fun x => (pay7_apply x0 x1 x2 x3 x4 x5 x6 x7 x8 r x).trans (hl x)
  have h := lanes_apply (k0_pay18 x0 x1 x2 x3 x4 x5 x6 x7 x8) (View.ld x4 r0_4) (View.ld x3 r0_5) (View.ld x3 r0_6) (View.ld x7 r0_7) (View.ld x8 r0_8)
    (iota .tc S512x128 32 [1] iota_S512x128_d1_w32) r d l G A B (fun x => by pointwise) h7 hG hA hB
  unfold out0_11
  rw [View.canon_unit_zero zero3]
  unfold k0_pay22 k0_pay21 k0_pay20 k0_pay19 k0_pay1
  refine Eq.trans ?_ h
  generalize k0_pay17 (F := Ideal) _ _ _ _ _ _ = z
  pointwise

/-- The combine weights, where the modulation, the norm's weights, and the routing weights and biases are real numbers. -/
theorem weights_eq (c : Dev nD)
    (f3 : ∀ b j k, ∃ x : ℝ, (m ((c : Thread nD τ).loc main_arg3) : Vec Ideal S8x6x1024 .f32) (ix3 b j k) = (x : EReal))
    (f4 : ∀ k, ∃ x : ℝ, (m ((c : Thread nD τ).loc main_arg4) : Vec Ideal S1024 .f32) (ix1 k) = (x : EReal))
    (f6 : ∀ k j, ∃ x : ℝ, (m ((c : Thread nD τ).loc main_arg6) : Vec Ideal S1024x4 .f32) (ix2 k j) = (x : EReal))
    (f7 : ∀ j, ∃ x : ℝ, (m ((c : Thread nD τ).loc main_arg7) : Vec Ideal S4 .f32) (ix1 j) = (x : EReal))
    (f8 : ∀ k j, ∃ x : ℝ, (m ((c : Thread nD τ).loc main_arg8) : Vec Ideal S1024x32 .f32) (ix2 k j) = (x : EReal))
    (f9 : ∀ j, ∃ x : ℝ, (m ((c : Thread nD τ).loc main_arg9) : Vec Ideal S32 .f32) (ix1 j) = (x : EReal)) :
    (dats m 0 c).arrAt 11 cfg0.N = Cert.Reference2Ideal.Read.val_main_v84 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) := by
  classical
  funext i
  obtain ⟨b, s, d, rfl⟩ := split3 i
  obtain ⟨t, r, hb, hs⟩ := place b s
  have fa : ∀ k, ∃ x : ℝ, act (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b s k = (x : EReal) :=
    fun k => normed_real _ _ _ _ f4 (f3 b 4) (f3 b 3) k
  have fl : ∀ x : Fin 128, ∃ z : ℝ, (∑ k, act (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b s k * (iblk m c 7 t : Vec Ideal S1024x128 .bf16) (ix2 k x)) + (iblk m c 8 t : Vec Ideal S1x128 .f32) (ix2 0 x) = (z : EReal) := fun x => by
    refine dot_real _ _ _ fa (fun k => ?_) ?_
    · rw [blk7]
      by_cases h1 : x.val < 32
      · rw [dif_pos h1]; exact f8 _ _
      · rw [dif_neg h1]
        by_cases h2 : x.val < 36
        · rw [dif_pos h2]; exact f6 _ _
        · rw [dif_neg h2]; exact ⟨0, rfl⟩
    · rw [blk8]
      by_cases h1 : x.val < 32
      · rw [dif_pos h1]; exact f9 _
      · rw [dif_neg h1]
        by_cases h2 : x.val < 36
        · rw [dif_pos h2]; exact f7 _
        · rw [dif_neg h2]; exact ⟨0, rfl⟩
  choose l hl using fl
  obtain ⟨G, hG⟩ := exists_first isGroup l ⟨32, by decide⟩
  have hG1 : 32 ≤ G.val ∧ G.val < 36 := hG.1
  obtain ⟨A, hA⟩ := exists_first (inGroup G) l ⟨⟨(G.val - 32) * 8, by omega⟩, by simp only [inGroup]; omega⟩
  have hA1 : A.val < 32 ∧ A.val / 8 + 32 = G.val := hA.1
  obtain ⟨B, hB⟩ := exists_first (fun x => inGroup G x ∧ x ≠ A) l ⟨⟨(G.val - 32) * 8 + (A.val % 8 + 1) % 8, by omega⟩, by
    constructor
    · simp only [inGroup]; omega
    · intro e
      have := congrArg Fin.val e
      simp only at this
      omega⟩
  have hB1 : B.val < 32 ∧ B.val / 8 + 32 = G.val := hB.1.1
  have hg : G.val = 32 + (⟨G.val - 32, by omega⟩ : Fin 4).val := by show G.val = 32 + (G.val - 32); omega
  have ha : A.val = (⟨G.val - 32, by omega⟩ : Fin 4).val * 8 + (⟨A.val % 8, by omega⟩ : Fin 8).val := by show A.val = (G.val - 32) * 8 + A.val % 8; omega
  have hc : B.val = (⟨G.val - 32, by omega⟩ : Fin 4).val * 8 + (⟨B.val % 8, by omega⟩ : Fin 8).val := by show B.val = (G.val - 32) * 8 + B.val % 8; omega
  refine (array11 m c t r d b s hb hs).trans ?_
  refine (block11_apply _ _ _ _ _ _ _ _ _ r d l G A B (fun x => ?_) hG hA hB).trans ?_
  · rw [← hl x]
    exact congrArg (· + _) (Finset.sum_congr rfl fun k _ => by rw [normed_eq m c t r b s hb hs])
  refine Eq.trans ?_ (Cert.Reference2Ideal.Post.combine_apply _ _ _ _ _ _ _ _ _ _ b s d ⟨b.val * 4096 + s.val, by omega⟩ rfl
    (fun i => l ⟨32 + i.val, by omega⟩) (fun j => l ⟨j.val, by omega⟩) ⟨G.val - 32, by omega⟩ ⟨A.val % 8, by omega⟩ ⟨B.val % 8, by omega⟩ (fun i => ?_) (fun j => ?_)
    (first_group l G hG _ hg) (first_expert l G A hA _ hg _ ha) (first_other l G A B hB _ hg _ _ ha hc)).symm
  · exact congrArg _ (combine_eq l G A B d _ _ _ hg ha hc _ _ (fun _ => rfl) (fun _ => rfl))
  · rw [Cert.Reference2Ideal.Post.group_score _ _ _ _ _ _ _ _ b s _ rfl, ← hl ⟨32 + i.val, by omega⟩, blk8, dif_neg (by simp), dif_pos (by show 32 + i.val < 36; omega)]
    refine congrArg₂ (· + ·) (Finset.sum_congr rfl fun k _ => ?_) ?_
    · rw [blk7, dif_neg (by simp), dif_pos (by show 32 + i.val < 36; omega)]
      congr 3
      apply Fin.ext
      show i.val = 32 + i.val - 32
      omega
    · congr 2
      apply Fin.ext
      show i.val = 32 + i.val - 32
      omega
  · rw [Cert.Reference2Ideal.Post.expert_score _ _ _ _ _ _ _ _ b s _ rfl, ← hl ⟨j.val, by omega⟩, blk8, dif_pos (show j.val < 32 from j.isLt)]
    refine congrArg₂ (· + ·) (Finset.sum_congr rfl fun k _ => ?_) rfl
    rw [blk7, dif_pos (show j.val < 32 from j.isLt)]

end Cert.Kernel2Ideal.Post
end
-- ==== Proof.ModEq.lean ====
/-
  The modulation kernel's result array is the reference's result, on the same arguments: both are, at a batch row and a feature,
  the sum over the condition's features of its silu times the weight, plus the bias.
-/
module

public import proofs.«01_k».proof.Proof.Gen.Kernel4Ideal.Value
public import proofs.«01_k».proof.Proof.Gen.Reference4Ideal.Read
public import Idealize.ShloMosaic.Lib.Pointwise
public import Idealize.ShloMosaic.Lib.StableHlo.Run

@[expose] public section

set_option maxRecDepth 16384

noncomputable section

namespace Cert.Kernel4Ideal.Mod

open Cert.Kernel4Ideal Cert.Kernel4Ideal.Gen Cert.Kernel4Ideal.Value Idealize.ShloMosaic Idealize.ShloMosaic.TcCoe Idealize.SL.Sem
open scoped BigOperators

variable (m : (ℓ : Loc nD τ sig) → Buf (Elt Ideal) ℓ)

theorem zero2 : (![0, 0] : Fin 2 → Nat) = fun _ => 0 := by decide

theorem index0 : ∀ t : Fin grid0.N, win0_0.index t 0 = 0 ∧ win0_0.index t 1 = 0 := by decide +kernel
theorem index1 : ∀ t : Fin grid0.N, win0_1.index t 0 = 0 ∧ win0_1.index t 1 = t.val := by decide +kernel
theorem index2 : ∀ t : Fin grid0.N, win0_2.index t 0 = 0 ∧ win0_2.index t 1 = t.val := by decide +kernel
theorem index3 : ∀ t : Fin grid0.N, win0_3.index t 0 = 0 ∧ win0_3.index t 1 = t.val := by decide +kernel
theorem flush3 : ∀ t : Fin grid0.N, (cfg0.win 3).flush t = true := by decide +kernel

/-- What a grid point leaves in its block, at a batch row and one of the block's features. -/
theorem block_apply (x0 : Vec Ideal S8x1024 .f32) (x1 : Vec Ideal S1024x1536 .f32) (x2 : Vec Ideal S1x1536 .f32) (b : Fin 8) (n : Fin 1536) :
    (out0_3 (F := Ideal) x0 x1 x2 : Vec Ideal S8x1536 .f32) (ix2 b n)
      = ∑ k : Fin 1024, x0 (ix2 b k) * Ideal.logistic (x0 (ix2 b k)) * x1 (ix2 k n) + x2 (ix2 0 n) := by
  unfold out0_3
  rw [View.canon_unit_zero zero2]
  unfold k0_pay1
  simp only [View.ld_unit_zero (S := S8x1024) zero2, View.ld_unit_zero (S := S1024x1536) zero2, View.ld_unit_zero (S := S1x1536) zero2]
  pointwise

/-- The reference's result at a batch row and a feature. -/
theorem reference_apply (x0 : Vec Ideal S8x1024 .f32) (x1 : Vec Ideal S1024x6144 .f32) (x2 : Vec Ideal S6144 .f32) (b : Fin 8) (n : Fin 6144) :
    (Cert.Reference4Ideal.Read.val_main_v4 (F := Ideal) x0 x1 x2) (ix2 b n)
      = ∑ k : Fin 1024, x0 (ix2 b k) * Ideal.logistic (x0 (ix2 b k)) * x1 (ix2 k n) + x2 (ix1 n) := by
  pointwise [Cert.Reference4Ideal.Read.val_main_v4, Cert.Reference4Ideal.Read.val_main_v3, Cert.Reference4Ideal.Read.val_main_v2, Cert.Reference4Ideal.Read.val_main_v1, Cert.Reference4Ideal.Read.val_main_v0, Cert.Reference4Ideal.Read.val_main_call0_v0, Cert.Reference4Ideal.Read.val_main_call0_v1, Cert.Reference4Ideal.Read.val_main_call0_v2, Cert.Reference4Ideal.Read.val_main_call0_v3, Cert.Reference4Ideal.Read.val_main_call0_v4, Cert.Reference4Ideal.Read.val_main_call0_v5, Cert.Reference4Ideal.Read.val_main_call0_cst, Cert.Reference4Ideal.Read.val_main_call0_cst_0]
  rfl

/-- The result array at a feature of a grid point's block is what that point left there. -/
theorem array_apply (c : Dev nD) (t : Fin cfg0.N) (b : Fin 8) (n : Fin 1536) (n' : Fin 6144) (hn : n'.val = 1536 * t.val + n.val) :
    ((dats m 0 c).arrAt 3 cfg0.N : Vec Ideal S8x6144 .f32) (ix2 b n') = (out0_3 (iblk m c 0 t) (iblk m c 1 t) (iblk m c 2 t) : Vec Ideal S8x1536 .f32) (ix2 b n) := by
  have h := (blocks3 m c t (flush3 t)).trans (flushed3 m c t)
  have h2 := congrFun h (ix2 b n)
  rw [View.read_apply] at h2
  refine Eq.trans ?_ (h2.trans rfl)
  obtain ⟨e0, e1⟩ := index3 t
  congr 1
  funext a
  apply Fin.ext
  match a with
  | ⟨0, _⟩ => show b.val = win0_3.index t 0 * 8 + 1 * b.val; rw [e0]; omega
  | ⟨1, _⟩ => show n'.val = win0_3.index t 1 * 1536 + 1 * n.val; rw [e1]; omega

theorem blk0 (c : Dev nD) (t : Fin cfg0.N) (b : Fin 8) (k : Fin 1024) : (iblk m c 0 t : Vec Ideal S8x1024 .f32) (ix2 b k)
    = (m ((c : Thread nD τ).loc main_arg0) : Vec Ideal S8x1024 .f32) (ix2 b k) := by
  obtain ⟨e0, e1⟩ := index0 t
  unfold iblk
  rw [View.read_apply]
  show V m c main_arg0 _ = _
  rw [V_main_arg0]
  congr 1
  funext a
  apply Fin.ext
  match a with
  | ⟨0, _⟩ => show win0_0.index t 0 * 8 + 1 * b.val = b.val; rw [e0]; omega
  | ⟨1, _⟩ => show win0_0.index t 1 * 1024 + 1 * k.val = k.val; rw [e1]; omega

theorem blk1 (c : Dev nD) (t : Fin cfg0.N) (k : Fin 1024) (n : Fin 1536) (n' : Fin 6144) (hn : n'.val = 1536 * t.val + n.val) :
    (iblk m c 1 t : Vec Ideal S1024x1536 .f32) (ix2 k n) = (m ((c : Thread nD τ).loc main_arg1) : Vec Ideal S1024x6144 .f32) (ix2 k n') := by
  obtain ⟨e0, e1⟩ := index1 t
  unfold iblk
  rw [View.read_apply]
  show V m c main_arg1 _ = _
  rw [V_main_arg1]
  congr 1
  funext a
  apply Fin.ext
  match a with
  | ⟨0, _⟩ => show win0_1.index t 0 * 1024 + 1 * k.val = k.val; rw [e0]; omega
  | ⟨1, _⟩ => show win0_1.index t 1 * 1536 + 1 * n.val = n'.val; rw [e1]; omega

theorem V_bias (c : Dev nD) (n : Fin 6144) : (V m c main_v0 : Vec Ideal S1x6144 .f32) (ix2 0 n)
    = (m ((c : Thread nD τ).loc main_arg2) : Vec Ideal S6144 .f32) (ix1 n) := by
  have h : V m c main_v0 = broadcastInDim S1x6144 ![1] bcast_S6144_S1x6144_1 (m ((c : Thread nD τ).loc main_arg2) : Vec Ideal S6144 .f32) := by
    unfold V
    after_results
  rw [h]
  pointwise

theorem blk2 (c : Dev nD) (t : Fin cfg0.N) (n : Fin 1536) (n' : Fin 6144) (hn : n'.val = 1536 * t.val + n.val) :
    (iblk m c 2 t : Vec Ideal S1x1536 .f32) (ix2 0 n) = (m ((c : Thread nD τ).loc main_arg2) : Vec Ideal S6144 .f32) (ix1 n') := by
  obtain ⟨e0, e1⟩ := index2 t
  rw [← V_bias m c]
  unfold iblk
  rw [View.read_apply]
  show V m c main_v0 _ = _
  congr 1
  funext a
  apply Fin.ext
  match a with
  | ⟨0, _⟩ => show win0_2.index t 0 * 1 + 1 * 0 = 0; rw [e0]
  | ⟨1, _⟩ => show win0_2.index t 1 * 1536 + 1 * n.val = n'.val; rw [e1]; omega

/-- The kernel's result array is the reference's result on the same arguments. -/
theorem result_eq (c : Dev nD) : (dats m 0 c).arrAt 3 cfg0.N = Cert.Reference4Ideal.Read.val_main_v4 (F := Ideal)
    (m ((c : Thread nD τ).loc main_arg0)) (m ((c : Thread nD τ).loc main_arg1)) (m ((c : Thread nD τ).loc main_arg2)) := by
  funext i
  obtain ⟨b, n, rfl⟩ : ∃ (b : Fin 8) (n : Fin 6144), i = ix2 b n := ⟨i 0, i 1, by funext a; match a with | ⟨0, _⟩ => rfl | ⟨1, _⟩ => rfl⟩
  have hN : cfg0.N = 4 := N_0
  have hn : n.val = 1536 * (n.val / 1536) + n.val % 1536 := by omega
  rw [reference_apply]
  refine (array_apply m c ⟨n.val / 1536, by rw [hN]; omega⟩ b ⟨n.val % 1536, by omega⟩ n hn).trans ?_
  rw [block_apply, blk2 m c _ _ n hn]
  refine congrArg (· + _) (Finset.sum_congr rfl fun k _ => ?_)
  rw [blk0, blk1 m c _ k _ n hn]

end Cert.Kernel4Ideal.Mod

end
-- ==== Proof.PreRun.lean ====
/-
  What one grid point of the input-projection kernel computes. A point is a batch row and a block of 512 tokens. Its body
  normalises and modulates the tokens, projects them, and stores queries, keys, values (transposed, in two tiles), index
  queries, index keys, index weights and the convolution branch. The last eight rows of the convolution's input are kept in a
  scratch for the next block of the same batch row; the first block of a row starts from zeros.
-/
module

public import proofs.«01_k».proof.Proof.Gen.Kernel3Ideal.Value
public import Idealize.ShloMosaic.Lib.Pointwise

@[expose] public section

set_option maxRecDepth 16384

noncomputable section

namespace Cert.Kernel3Ideal.Pre

open Cert.Kernel3Ideal Cert.Kernel3Ideal.Gen Idealize.ShloMosaic Idealize.ShloMosaic.TcCoe Idealize.SL.Sem
open scoped BigOperators

/-- The zero offsets of two axes. -/
theorem zero2 : (![0, 0] : Fin 2 → Nat) = fun _ => 0 := by decide
/-- The zero offsets of three axes. -/
theorem zero3 : (![0, 0, 0] : Fin 3 → Nat) = fun _ => 0 := by decide

section Blocks
variable {F : FTy → Type} [FloatOps F]

/-- One of the six modulation rows. -/
def modRow (k : Fin 6) (x1 : Vec F S1x6x1024 .f32) : Vec F S1x1x1024 .f32 := fun j => x1 (ix3 0 k (j 2))

/-- The 512 columns of the joined weights from column `lo` on. -/
def colsFrom (lo : ℕ) (h : lo + 512 ≤ 3072) (x3 : Vec F S1024x3072 .bf16) : Vec F S1024x512 .bf16 :=
  fun j => x3 (ix2 (j 0) ⟨lo + (j 1).val, by have h1 : (j 1).val < 512 := (j 1).isLt; omega⟩)

/-- One of the three rows of convolution weights. -/
def tapRow (k : Fin 3) (x9 : Vec F S3x512 .f32) : Vec F S1x512 .f32 := fun j => x9 (ix2 k (j 1))

/-- The read of the shift's row. -/
theorem ld_mod0 (x1 : Vec F S1x6x1024 .f32) :
    View.ld x1 (Rect.unit (s := S1x6x1024) ![0, 0, 0] ![1, 1, 1024] inb_S1x6x1024_S1x1x1024_0_0_0) = modRow 0 x1 := by
  funext j
  unfold modRow
  pointwise

/-- The read of the scale's row. -/
theorem ld_mod1 (x1 : Vec F S1x6x1024 .f32) :
    View.ld x1 (Rect.unit (s := S1x6x1024) ![0, 1, 0] ![1, 1, 1024] inb_S1x6x1024_S1x1x1024_0_1_0) = modRow 1 x1 := by
  funext j
  unfold modRow
  pointwise

/-- The read of 512 weight columns from 0 on. -/
theorem ld_cols0 (x3 : Vec F S1024x3072 .bf16) :
    View.ld x3 (Rect.unit (s := S1024x3072) ![0, 0] ![1024, 512] inb_S1024x3072_S1024x512_0_0) = colsFrom 0 (by omega) x3 := by
  funext j
  unfold colsFrom
  pointwise

/-- The read of 512 weight columns from 512 on. -/
theorem ld_cols512 (x3 : Vec F S1024x3072 .bf16) :
    View.ld x3 (Rect.unit (s := S1024x3072) ![0, 512] ![1024, 512] inb_S1024x3072_S1024x512_0_512) = colsFrom 512 (by omega) x3 := by
  funext j
  unfold colsFrom
  pointwise

/-- The read of 512 weight columns from 1024 on. -/
theorem ld_cols1024 (x3 : Vec F S1024x3072 .bf16) :
    View.ld x3 (Rect.unit (s := S1024x3072) ![0, 1024] ![1024, 512] inb_S1024x3072_S1024x512_0_1024) = colsFrom 1024 (by omega) x3 := by
  funext j
  unfold colsFrom
  pointwise

/-- The read of 512 weight columns from 1536 on. -/
theorem ld_cols1536 (x3 : Vec F S1024x3072 .bf16) :
    View.ld x3 (Rect.unit (s := S1024x3072) ![0, 1536] ![1024, 512] inb_S1024x3072_S1024x512_0_1536) = colsFrom 1536 (by omega) x3 := by
  funext j
  unfold colsFrom
  pointwise

/-- The read of 512 weight columns from 2048 on. -/
theorem ld_cols2048 (x3 : Vec F S1024x3072 .bf16) :
    View.ld x3 (Rect.unit (s := S1024x3072) ![0, 2048] ![1024, 512] inb_S1024x3072_S1024x512_0_2048) = colsFrom 2048 (by omega) x3 := by
  funext j
  unfold colsFrom
  pointwise

/-- The read of 512 weight columns from 2560 on. -/
theorem ld_cols2560 (x3 : Vec F S1024x3072 .bf16) :
    View.ld x3 (Rect.unit (s := S1024x3072) ![0, 2560] ![1024, 512] inb_S1024x3072_S1024x512_0_2560) = colsFrom 2560 (by omega) x3 := by
  funext j
  unfold colsFrom
  pointwise

/-- The read of tap 0. -/
theorem ld_tap0 (x9 : Vec F S3x512 .f32) :
    View.ld x9 (Rect.unit (s := S3x512) ![0, 0] ![1, 512] inb_S3x512_S1x512_0_0) = tapRow 0 x9 := by
  funext j
  unfold tapRow
  pointwise

/-- The read of tap 1. -/
theorem ld_tap1 (x9 : Vec F S3x512 .f32) :
    View.ld x9 (Rect.unit (s := S3x512) ![1, 0] ![1, 512] inb_S3x512_S1x512_1_0) = tapRow 1 x9 := by
  funext j
  unfold tapRow
  pointwise

/-- The read of tap 2. -/
theorem ld_tap2 (x9 : Vec F S3x512 .f32) :
    View.ld x9 (Rect.unit (s := S3x512) ![2, 0] ![1, 512] inb_S3x512_S1x512_2_0) = tapRow 2 x9 := by
  funext j
  unfold tapRow
  pointwise

/-- The normalised and modulated tokens of a block. -/
def hidden (x0 : Vec F S1x512x1024 .f32) (x1 : Vec F S1x6x1024 .f32) (x2 : Vec F S1x1024 .f32) : FVec F S512x1024 .bf16 :=
  k0_pay2 x0 x2 (modRow 1 x1) (modRow 0 x1)

/-- The block's convolution input. -/
def convIn (hb : FVec F S512x1024 .bf16) (x3 : Vec F S1024x3072 .bf16) : FVec F S512x512 .f32 :=
  k0_pay16 hb (colsFrom 2048 (by omega) x3) (colsFrom 2560 (by omega) x3)

/-- The block's transposed values, split into two tiles of 256 tokens. -/
def valueTiles (hb : FVec F S512x1024 .bf16) (x4 : Vec F S512x1024 .bf16) : Vec F S1x2x512x256 .bf16 :=
  fun y => k0_pay8 hb x4 (ix2 (y 2) ⟨256 * (y 1).val + (y 3).val, by
    have h1 : (y 1).val < 2 := (y 1).isLt
    have h3 : (y 3).val < 256 := (y 3).isLt
    omega⟩)

/-- The convolution branch's block, given the rows kept from the block before. -/
def branch (hb : FVec F S512x1024 .bf16) (x3 : Vec F S1024x3072 .bf16) (x9 : Vec F S3x512 .f32) (x10 : Vec F S1x512 .f32)
    (x11 : Vec F S512x512 .bf16) (kept : Vec F S8x512 .f32) : FVec F S1x512x512 .bf16 :=
  k0_pay1 (k0_pay15 hb (colsFrom 1536 (by omega) x3)) (convIn hb x3)
    (k0_pay18 hb (colsFrom 2048 (by omega) x3) (colsFrom 2560 (by omega) x3) kept)
    (k0_pay19 hb (colsFrom 2048 (by omega) x3) (colsFrom 2560 (by omega) x3) kept)
    (tapRow 2 x9) (tapRow 1 x9) (tapRow 0 x9) x11 x10

/-- The second stored tile of the values holds the last 256 columns. -/
theorem second_tile (z : FVec F S512x512 .bf16) (j : S1x1x512x256.Idx) :
    k0_pay11 z j = z (ix2 (j 2) ⟨256 + (j 3).val, by have h3 : (j 3).val < 256 := (j 3).isLt; omega⟩) := by
  pointwise [k0_pay11]

/-- The first stored tile of the values holds the first 256 columns. -/
theorem first_tile (hb : FVec F S512x1024 .bf16) (x4 : Vec F S512x1024 .bf16) (j : S1x1x512x256.Idx) :
    k0_pay10 (k0_pay9 hb x4) j = k0_pay8 hb x4 (ix2 (j 2) ⟨(j 3).val, by have h3 : (j 3).val < 256 := (j 3).isLt; omega⟩) := by
  unfold k0_pay9
  generalize k0_pay8 hb x4 = z
  pointwise [k0_pay10]

end Blocks

section Points
variable {F : FTy → Type} [FloatOps F] (c : Dev nD) (i : grid0.Coords)
  (a2 : Memref sig .tc .vmem S1x512x1024 .f32) (h2 : a2.IsWhole)
  (a3 : Memref sig .tc .vmem S1x6x1024 .f32) (h3 : a3.IsWhole)
  (a4 : Memref sig .tc .vmem S1x1024 .f32) (h4 : a4.IsWhole)
  (a5 : Memref sig .tc .vmem S1024x3072 .bf16) (h5 : a5.IsWhole)
  (a6 : Memref sig .tc .vmem S512x1024 .bf16) (h6 : a6.IsWhole)
  (a7 : Memref sig .tc .vmem S1024x128 .bf16) (h7 : a7.IsWhole)
  (a8 : Memref sig .tc .vmem S8x1024 .bf16) (h8 : a8.IsWhole)
  (a9 : Memref sig .tc .vmem S1x512 .f32) (h9 : a9.IsWhole)
  (a10 : Memref sig .tc .vmem S1x512 .f32) (h10 : a10.IsWhole)
  (a11 : Memref sig .tc .vmem S3x512 .f32) (h11 : a11.IsWhole)
  (a12 : Memref sig .tc .vmem S1x512 .f32) (h12 : a12.IsWhole)
  (a13 : Memref sig .tc .vmem S512x512 .bf16) (h13 : a13.IsWhole)
  (a14 : Memref sig .tc .vmem S1x512x512 .bf16) (h14 : a14.IsWhole)
  (a15 : Memref sig .tc .vmem S1x512x512 .bf16) (h15 : a15.IsWhole)
  (a16 : Memref sig .tc .vmem S1x2x512x256 .bf16) (h16 : a16.IsWhole)
  (a17 : Memref sig .tc .vmem S1x512x512 .bf16) (h17 : a17.IsWhole)
  (a18 : Memref sig .tc .vmem S1x512x128 .bf16) (h18 : a18.IsWhole)
  (a19 : Memref sig .tc .vmem S1x8x512 .f32) (h19 : a19.IsWhole)
  (a20 : Memref sig .tc .vmem S1x512x512 .bf16) (h20 : a20.IsWhole)
  (a21 : Memref sig .tc .vmem S8x512 .f32) (h21 : a21.IsWhole)
  (x0 : Vec F S1x512x1024 .f32) (x1 : Vec F S1x6x1024 .f32) (x2 : Vec F S1x1024 .f32) (x3 : Vec F S1024x3072 .bf16) (x4 : Vec F S512x1024 .bf16) (x5 : Vec F S1024x128 .bf16) (x6 : Vec F S8x1024 .bf16) (x7 : Vec F S1x512 .f32) (x8 : Vec F S1x512 .f32) (x9 : Vec F S3x512 .f32) (x10 : Vec F S1x512 .f32) (x11 : Vec F S512x512 .bf16) (xs : Vec F S8x512 .f32)

/-- The queries at the first block of a batch row. -/
theorem queries_first (hc : cond0_0 i) :
    out0_A_12 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11
      = k0_pay6 (k0_pay3 x0 x2 (modRow 1 x1) (modRow 0 x1) (colsFrom 0 (by omega) x3))
        (k0_pay4 x0 x2 (modRow 1 x1) (modRow 0 x1) (colsFrom 0 (by omega) x3) x11) k0_pay5 x7 := by
  unfold out0_A_12
  rw [View.read_writes_eq_canon _ _ _ (cover0_A_12 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11)]
  unfold kernelRun0_A
  dsimp only
  sl_unfold_words
  rw [View.canon_unit_zero zero3]
  unfold k0_pay6
  simp only [View.readAt_eq_ld, h2.read_unread, h3.read_unread, h4.read_unread, h5.read_unread, h6.read_unread, h7.read_unread, h8.read_unread, h9.read_unread, h10.read_unread, h11.read_unread, h12.read_unread, h13.read_unread, h21.read_unread, View.ld_unit_zero (S := S1x512x1024) zero3, View.ld_unit_zero (S := S1x1024) zero2, View.ld_unit_zero (S := S512x1024) zero2, View.ld_unit_zero (S := S1024x128) zero2, View.ld_unit_zero (S := S8x1024) zero2, View.ld_unit_zero (S := S1x512) zero2, View.ld_unit_zero (S := S512x512) zero2, View.ld_unit_zero (S := S8x512) zero2, ld_mod0, ld_mod1, ld_cols0, ld_cols512, ld_cols1024, ld_cols1536, ld_cols2048, ld_cols2560, ld_tap0, ld_tap1, ld_tap2, shapeCast_self]

/-- The keys at the first block of a batch row. -/
theorem keys_first (hc : cond0_0 i) :
    out0_A_13 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11
      = k0_pay7 (hidden x0 x1 x2) (colsFrom 512 (by omega) x3) x11 x8 := by
  unfold out0_A_13
  rw [View.read_writes_eq_canon _ _ _ (cover0_A_13 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11)]
  unfold kernelRun0_A
  dsimp only
  sl_unfold_words
  rw [View.canon_unit_zero zero3]
  unfold hidden
  simp only [View.readAt_eq_ld, h2.read_unread, h3.read_unread, h4.read_unread, h5.read_unread, h6.read_unread, h7.read_unread, h8.read_unread, h9.read_unread, h10.read_unread, h11.read_unread, h12.read_unread, h13.read_unread, h21.read_unread, View.ld_unit_zero (S := S1x512x1024) zero3, View.ld_unit_zero (S := S1x1024) zero2, View.ld_unit_zero (S := S512x1024) zero2, View.ld_unit_zero (S := S1024x128) zero2, View.ld_unit_zero (S := S8x1024) zero2, View.ld_unit_zero (S := S1x512) zero2, View.ld_unit_zero (S := S512x512) zero2, View.ld_unit_zero (S := S8x512) zero2, ld_mod0, ld_mod1, ld_cols0, ld_cols512, ld_cols1024, ld_cols1536, ld_cols2048, ld_cols2560, ld_tap0, ld_tap1, ld_tap2, shapeCast_self]

/-- The values at the first block of a batch row. -/
theorem values_first (hc : cond0_0 i) :
    out0_A_14 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11
      = valueTiles (hidden x0 x1 x2) x4 := by
  unfold out0_A_14
  rw [View.read_writes_eq_canon _ _ _ (cover0_A_14 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11)]
  funext y
  refine View.canon_apply_of_pieces _ _ ?_ y (cover0_A_14 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 y)
  unfold kernelRun0_A
  dsimp only
  sl_unfold_words
  intro p hp
  simp only [List.mem_cons, List.not_mem_nil, or_false] at hp
  simp only [View.readAt_eq_ld, h2.read_unread, h3.read_unread, h4.read_unread, h5.read_unread, h6.read_unread, h7.read_unread, h8.read_unread, h9.read_unread, h10.read_unread, h11.read_unread, h12.read_unread, h13.read_unread, h21.read_unread, View.ld_unit_zero (S := S1x512x1024) zero3, View.ld_unit_zero (S := S1x1024) zero2, View.ld_unit_zero (S := S512x1024) zero2, View.ld_unit_zero (S := S1024x128) zero2, View.ld_unit_zero (S := S8x1024) zero2, View.ld_unit_zero (S := S1x512) zero2, View.ld_unit_zero (S := S512x512) zero2, View.ld_unit_zero (S := S8x512) zero2, ld_mod0, ld_mod1, ld_cols0, ld_cols512, ld_cols1024, ld_cols1536, ld_cols2048, ld_cols2560, ld_tap0, ld_tap1, ld_tap2, shapeCast_self] at hp
  rcases hp with rfl | rfl
  · intro x
    refine (second_tile (F := F) (k0_pay8 (k0_pay2 x0 x2 (modRow 1 x1) (modRow 0 x1)) x4) x).trans ?_
    unfold valueTiles hidden
    congr 1
    funext a
    apply Fin.ext
    match a with
    | ⟨0, _⟩ => show (x 2).val = 0 + 1 * (x 2).val; omega
    | ⟨1, _⟩ =>
      show 256 + (x 3).val = 256 * (1 + 1 * (x 1).val) + (0 + 1 * (x 3).val)
      have h1 : (x 1).val < 1 := (x 1).isLt
      omega
  · intro x
    refine (first_tile (F := F) (k0_pay2 x0 x2 (modRow 1 x1) (modRow 0 x1)) x4 x).trans ?_
    unfold valueTiles hidden
    congr 1
    funext a
    apply Fin.ext
    match a with
    | ⟨0, _⟩ => show (x 2).val = 0 + 1 * (x 2).val; omega
    | ⟨1, _⟩ =>
      show (x 3).val = 256 * (0 + 1 * (x 1).val) + (0 + 1 * (x 3).val)
      have h1 : (x 1).val < 1 := (x 1).isLt
      omega

/-- The index queries at the first block of a batch row. -/
theorem index_queries_first (hc : cond0_0 i) :
    out0_A_15 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11
      = k0_pay12 (hidden x0 x1 x2) (colsFrom 1024 (by omega) x3) := by
  unfold out0_A_15
  rw [View.read_writes_eq_canon _ _ _ (cover0_A_15 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11)]
  unfold kernelRun0_A
  dsimp only
  sl_unfold_words
  rw [View.canon_unit_zero zero3]
  unfold hidden
  simp only [View.readAt_eq_ld, h2.read_unread, h3.read_unread, h4.read_unread, h5.read_unread, h6.read_unread, h7.read_unread, h8.read_unread, h9.read_unread, h10.read_unread, h11.read_unread, h12.read_unread, h13.read_unread, h21.read_unread, View.ld_unit_zero (S := S1x512x1024) zero3, View.ld_unit_zero (S := S1x1024) zero2, View.ld_unit_zero (S := S512x1024) zero2, View.ld_unit_zero (S := S1024x128) zero2, View.ld_unit_zero (S := S8x1024) zero2, View.ld_unit_zero (S := S1x512) zero2, View.ld_unit_zero (S := S512x512) zero2, View.ld_unit_zero (S := S8x512) zero2, ld_mod0, ld_mod1, ld_cols0, ld_cols512, ld_cols1024, ld_cols1536, ld_cols2048, ld_cols2560, ld_tap0, ld_tap1, ld_tap2, shapeCast_self]

/-- The index keys at the first block of a batch row. -/
theorem index_keys_first (hc : cond0_0 i) :
    out0_A_16 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11
      = k0_pay13 (hidden x0 x1 x2) x5 := by
  unfold out0_A_16
  rw [View.read_writes_eq_canon _ _ _ (cover0_A_16 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11)]
  unfold kernelRun0_A
  dsimp only
  sl_unfold_words
  rw [View.canon_unit_zero zero3]
  unfold hidden
  simp only [View.readAt_eq_ld, h2.read_unread, h3.read_unread, h4.read_unread, h5.read_unread, h6.read_unread, h7.read_unread, h8.read_unread, h9.read_unread, h10.read_unread, h11.read_unread, h12.read_unread, h13.read_unread, h21.read_unread, View.ld_unit_zero (S := S1x512x1024) zero3, View.ld_unit_zero (S := S1x1024) zero2, View.ld_unit_zero (S := S512x1024) zero2, View.ld_unit_zero (S := S1024x128) zero2, View.ld_unit_zero (S := S8x1024) zero2, View.ld_unit_zero (S := S1x512) zero2, View.ld_unit_zero (S := S512x512) zero2, View.ld_unit_zero (S := S8x512) zero2, ld_mod0, ld_mod1, ld_cols0, ld_cols512, ld_cols1024, ld_cols1536, ld_cols2048, ld_cols2560, ld_tap0, ld_tap1, ld_tap2, shapeCast_self]

/-- The index weights at the first block of a batch row. -/
theorem index_weights_first (hc : cond0_0 i) :
    out0_A_17 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11
      = k0_pay14 (hidden x0 x1 x2) x6 := by
  unfold out0_A_17
  rw [View.read_writes_eq_canon _ _ _ (cover0_A_17 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11)]
  unfold kernelRun0_A
  dsimp only
  sl_unfold_words
  rw [View.canon_unit_zero zero3]
  unfold hidden
  simp only [View.readAt_eq_ld, h2.read_unread, h3.read_unread, h4.read_unread, h5.read_unread, h6.read_unread, h7.read_unread, h8.read_unread, h9.read_unread, h10.read_unread, h11.read_unread, h12.read_unread, h13.read_unread, h21.read_unread, View.ld_unit_zero (S := S1x512x1024) zero3, View.ld_unit_zero (S := S1x1024) zero2, View.ld_unit_zero (S := S512x1024) zero2, View.ld_unit_zero (S := S1024x128) zero2, View.ld_unit_zero (S := S8x1024) zero2, View.ld_unit_zero (S := S1x512) zero2, View.ld_unit_zero (S := S512x512) zero2, View.ld_unit_zero (S := S8x512) zero2, ld_mod0, ld_mod1, ld_cols0, ld_cols512, ld_cols1024, ld_cols1536, ld_cols2048, ld_cols2560, ld_tap0, ld_tap1, ld_tap2, shapeCast_self]

/-- The convolution branch at the first block of a batch row. -/
theorem branch_first (hc : cond0_0 i) :
    out0_A_18 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11
      = branch (hidden x0 x1 x2) x3 x9 x10 x11 k0_pay17 := by
  unfold out0_A_18
  rw [View.read_writes_eq_canon _ _ _ (cover0_A_18 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11)]
  unfold kernelRun0_A
  dsimp only
  sl_unfold_words
  rw [View.canon_unit_zero zero3, View.readCov_unit_zero (S := S8x512) _ zero2]
  unfold branch convIn hidden
  simp only [View.readAt_eq_ld, h2.read_unread, h3.read_unread, h4.read_unread, h5.read_unread, h6.read_unread, h7.read_unread, h8.read_unread, h9.read_unread, h10.read_unread, h11.read_unread, h12.read_unread, h13.read_unread, h21.read_unread, View.ld_unit_zero (S := S1x512x1024) zero3, View.ld_unit_zero (S := S1x1024) zero2, View.ld_unit_zero (S := S512x1024) zero2, View.ld_unit_zero (S := S1024x128) zero2, View.ld_unit_zero (S := S8x1024) zero2, View.ld_unit_zero (S := S1x512) zero2, View.ld_unit_zero (S := S512x512) zero2, View.ld_unit_zero (S := S8x512) zero2, ld_mod0, ld_mod1, ld_cols0, ld_cols512, ld_cols1024, ld_cols1536, ld_cols2048, ld_cols2560, ld_tap0, ld_tap1, ld_tap2, shapeCast_self]

/-- The rows kept for the next block at the first block of a batch row. -/
theorem kept_first (hc : cond0_0 i) :
    sout0_A_0 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11
      = k0_pay20 (hidden x0 x1 x2) (colsFrom 2048 (by omega) x3) (colsFrom 2560 (by omega) x3) := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11)]
  unfold kernelRun0_A
  dsimp only
  sl_unfold_words
  rw [View.canon_cons_unit_zero zero2]
  unfold hidden
  simp only [View.readAt_eq_ld, h2.read_unread, h3.read_unread, h4.read_unread, h5.read_unread, h6.read_unread, h7.read_unread, h8.read_unread, h9.read_unread, h10.read_unread, h11.read_unread, h12.read_unread, h13.read_unread, h21.read_unread, View.ld_unit_zero (S := S1x512x1024) zero3, View.ld_unit_zero (S := S1x1024) zero2, View.ld_unit_zero (S := S512x1024) zero2, View.ld_unit_zero (S := S1024x128) zero2, View.ld_unit_zero (S := S8x1024) zero2, View.ld_unit_zero (S := S1x512) zero2, View.ld_unit_zero (S := S512x512) zero2, View.ld_unit_zero (S := S8x512) zero2, ld_mod0, ld_mod1, ld_cols0, ld_cols512, ld_cols1024, ld_cols1536, ld_cols2048, ld_cols2560, ld_tap0, ld_tap1, ld_tap2, shapeCast_self]

/-- The queries at a later block of a batch row. -/
theorem queries_later (hc : ¬cond0_0 i) :
    out0_B_12 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 xs
      = k0_pay6 (k0_pay3 x0 x2 (modRow 1 x1) (modRow 0 x1) (colsFrom 0 (by omega) x3))
        (k0_pay4 x0 x2 (modRow 1 x1) (modRow 0 x1) (colsFrom 0 (by omega) x3) x11) k0_pay5 x7 := by
  unfold out0_B_12
  rw [View.read_writes_eq_canon _ _ _ (cover0_B_12 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 xs)]
  unfold kernelRun0_B
  dsimp only
  sl_unfold_words
  rw [View.canon_unit_zero zero3]
  unfold k0_pay6
  simp only [View.readAt_eq_ld, h2.read_unread, h3.read_unread, h4.read_unread, h5.read_unread, h6.read_unread, h7.read_unread, h8.read_unread, h9.read_unread, h10.read_unread, h11.read_unread, h12.read_unread, h13.read_unread, h21.read_unread, View.ld_unit_zero (S := S1x512x1024) zero3, View.ld_unit_zero (S := S1x1024) zero2, View.ld_unit_zero (S := S512x1024) zero2, View.ld_unit_zero (S := S1024x128) zero2, View.ld_unit_zero (S := S8x1024) zero2, View.ld_unit_zero (S := S1x512) zero2, View.ld_unit_zero (S := S512x512) zero2, View.ld_unit_zero (S := S8x512) zero2, ld_mod0, ld_mod1, ld_cols0, ld_cols512, ld_cols1024, ld_cols1536, ld_cols2048, ld_cols2560, ld_tap0, ld_tap1, ld_tap2, shapeCast_self]

/-- The keys at a later block of a batch row. -/
theorem keys_later (hc : ¬cond0_0 i) :
    out0_B_13 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 xs
      = k0_pay7 (hidden x0 x1 x2) (colsFrom 512 (by omega) x3) x11 x8 := by
  unfold out0_B_13
  rw [View.read_writes_eq_canon _ _ _ (cover0_B_13 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 xs)]
  unfold kernelRun0_B
  dsimp only
  sl_unfold_words
  rw [View.canon_unit_zero zero3]
  unfold hidden
  simp only [View.readAt_eq_ld, h2.read_unread, h3.read_unread, h4.read_unread, h5.read_unread, h6.read_unread, h7.read_unread, h8.read_unread, h9.read_unread, h10.read_unread, h11.read_unread, h12.read_unread, h13.read_unread, h21.read_unread, View.ld_unit_zero (S := S1x512x1024) zero3, View.ld_unit_zero (S := S1x1024) zero2, View.ld_unit_zero (S := S512x1024) zero2, View.ld_unit_zero (S := S1024x128) zero2, View.ld_unit_zero (S := S8x1024) zero2, View.ld_unit_zero (S := S1x512) zero2, View.ld_unit_zero (S := S512x512) zero2, View.ld_unit_zero (S := S8x512) zero2, ld_mod0, ld_mod1, ld_cols0, ld_cols512, ld_cols1024, ld_cols1536, ld_cols2048, ld_cols2560, ld_tap0, ld_tap1, ld_tap2, shapeCast_self]

/-- The values at a later block of a batch row. -/
theorem values_later (hc : ¬cond0_0 i) :
    out0_B_14 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 xs
      = valueTiles (hidden x0 x1 x2) x4 := by
  unfold out0_B_14
  rw [View.read_writes_eq_canon _ _ _ (cover0_B_14 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 xs)]
  funext y
  refine View.canon_apply_of_pieces _ _ ?_ y (cover0_B_14 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 xs y)
  unfold kernelRun0_B
  dsimp only
  sl_unfold_words
  intro p hp
  simp only [List.mem_cons, List.not_mem_nil, or_false] at hp
  simp only [View.readAt_eq_ld, h2.read_unread, h3.read_unread, h4.read_unread, h5.read_unread, h6.read_unread, h7.read_unread, h8.read_unread, h9.read_unread, h10.read_unread, h11.read_unread, h12.read_unread, h13.read_unread, h21.read_unread, View.ld_unit_zero (S := S1x512x1024) zero3, View.ld_unit_zero (S := S1x1024) zero2, View.ld_unit_zero (S := S512x1024) zero2, View.ld_unit_zero (S := S1024x128) zero2, View.ld_unit_zero (S := S8x1024) zero2, View.ld_unit_zero (S := S1x512) zero2, View.ld_unit_zero (S := S512x512) zero2, View.ld_unit_zero (S := S8x512) zero2, ld_mod0, ld_mod1, ld_cols0, ld_cols512, ld_cols1024, ld_cols1536, ld_cols2048, ld_cols2560, ld_tap0, ld_tap1, ld_tap2, shapeCast_self] at hp
  rcases hp with rfl | rfl
  · intro x
    refine (second_tile (F := F) (k0_pay8 (k0_pay2 x0 x2 (modRow 1 x1) (modRow 0 x1)) x4) x).trans ?_
    unfold valueTiles hidden
    congr 1
    funext a
    apply Fin.ext
    match a with
    | ⟨0, _⟩ => show (x 2).val = 0 + 1 * (x 2).val; omega
    | ⟨1, _⟩ =>
      show 256 + (x 3).val = 256 * (1 + 1 * (x 1).val) + (0 + 1 * (x 3).val)
      have h1 : (x 1).val < 1 := (x 1).isLt
      omega
  · intro x
    refine (first_tile (F := F) (k0_pay2 x0 x2 (modRow 1 x1) (modRow 0 x1)) x4 x).trans ?_
    unfold valueTiles hidden
    congr 1
    funext a
    apply Fin.ext
    match a with
    | ⟨0, _⟩ => show (x 2).val = 0 + 1 * (x 2).val; omega
    | ⟨1, _⟩ =>
      show (x 3).val = 256 * (0 + 1 * (x 1).val) + (0 + 1 * (x 3).val)
      have h1 : (x 1).val < 1 := (x 1).isLt
      omega

/-- The index queries at a later block of a batch row. -/
theorem index_queries_later (hc : ¬cond0_0 i) :
    out0_B_15 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 xs
      = k0_pay12 (hidden x0 x1 x2) (colsFrom 1024 (by omega) x3) := by
  unfold out0_B_15
  rw [View.read_writes_eq_canon _ _ _ (cover0_B_15 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 xs)]
  unfold kernelRun0_B
  dsimp only
  sl_unfold_words
  rw [View.canon_unit_zero zero3]
  unfold hidden
  simp only [View.readAt_eq_ld, h2.read_unread, h3.read_unread, h4.read_unread, h5.read_unread, h6.read_unread, h7.read_unread, h8.read_unread, h9.read_unread, h10.read_unread, h11.read_unread, h12.read_unread, h13.read_unread, h21.read_unread, View.ld_unit_zero (S := S1x512x1024) zero3, View.ld_unit_zero (S := S1x1024) zero2, View.ld_unit_zero (S := S512x1024) zero2, View.ld_unit_zero (S := S1024x128) zero2, View.ld_unit_zero (S := S8x1024) zero2, View.ld_unit_zero (S := S1x512) zero2, View.ld_unit_zero (S := S512x512) zero2, View.ld_unit_zero (S := S8x512) zero2, ld_mod0, ld_mod1, ld_cols0, ld_cols512, ld_cols1024, ld_cols1536, ld_cols2048, ld_cols2560, ld_tap0, ld_tap1, ld_tap2, shapeCast_self]

/-- The index keys at a later block of a batch row. -/
theorem index_keys_later (hc : ¬cond0_0 i) :
    out0_B_16 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 xs
      = k0_pay13 (hidden x0 x1 x2) x5 := by
  unfold out0_B_16
  rw [View.read_writes_eq_canon _ _ _ (cover0_B_16 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 xs)]
  unfold kernelRun0_B
  dsimp only
  sl_unfold_words
  rw [View.canon_unit_zero zero3]
  unfold hidden
  simp only [View.readAt_eq_ld, h2.read_unread, h3.read_unread, h4.read_unread, h5.read_unread, h6.read_unread, h7.read_unread, h8.read_unread, h9.read_unread, h10.read_unread, h11.read_unread, h12.read_unread, h13.read_unread, h21.read_unread, View.ld_unit_zero (S := S1x512x1024) zero3, View.ld_unit_zero (S := S1x1024) zero2, View.ld_unit_zero (S := S512x1024) zero2, View.ld_unit_zero (S := S1024x128) zero2, View.ld_unit_zero (S := S8x1024) zero2, View.ld_unit_zero (S := S1x512) zero2, View.ld_unit_zero (S := S512x512) zero2, View.ld_unit_zero (S := S8x512) zero2, ld_mod0, ld_mod1, ld_cols0, ld_cols512, ld_cols1024, ld_cols1536, ld_cols2048, ld_cols2560, ld_tap0, ld_tap1, ld_tap2, shapeCast_self]

/-- The index weights at a later block of a batch row. -/
theorem index_weights_later (hc : ¬cond0_0 i) :
    out0_B_17 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 xs
      = k0_pay14 (hidden x0 x1 x2) x6 := by
  unfold out0_B_17
  rw [View.read_writes_eq_canon _ _ _ (cover0_B_17 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 xs)]
  unfold kernelRun0_B
  dsimp only
  sl_unfold_words
  rw [View.canon_unit_zero zero3]
  unfold hidden
  simp only [View.readAt_eq_ld, h2.read_unread, h3.read_unread, h4.read_unread, h5.read_unread, h6.read_unread, h7.read_unread, h8.read_unread, h9.read_unread, h10.read_unread, h11.read_unread, h12.read_unread, h13.read_unread, h21.read_unread, View.ld_unit_zero (S := S1x512x1024) zero3, View.ld_unit_zero (S := S1x1024) zero2, View.ld_unit_zero (S := S512x1024) zero2, View.ld_unit_zero (S := S1024x128) zero2, View.ld_unit_zero (S := S8x1024) zero2, View.ld_unit_zero (S := S1x512) zero2, View.ld_unit_zero (S := S512x512) zero2, View.ld_unit_zero (S := S8x512) zero2, ld_mod0, ld_mod1, ld_cols0, ld_cols512, ld_cols1024, ld_cols1536, ld_cols2048, ld_cols2560, ld_tap0, ld_tap1, ld_tap2, shapeCast_self]

/-- The convolution branch at a later block of a batch row. -/
theorem branch_later (hc : ¬cond0_0 i) :
    out0_B_18 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 xs
      = branch (hidden x0 x1 x2) x3 x9 x10 x11 xs := by
  unfold out0_B_18
  rw [View.read_writes_eq_canon _ _ _ (cover0_B_18 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 xs)]
  unfold kernelRun0_B
  dsimp only
  sl_unfold_words
  rw [View.canon_unit_zero zero3]
  unfold branch convIn hidden
  simp only [View.readAt_eq_ld, h2.read_unread, h3.read_unread, h4.read_unread, h5.read_unread, h6.read_unread, h7.read_unread, h8.read_unread, h9.read_unread, h10.read_unread, h11.read_unread, h12.read_unread, h13.read_unread, h21.read_unread, View.ld_unit_zero (S := S1x512x1024) zero3, View.ld_unit_zero (S := S1x1024) zero2, View.ld_unit_zero (S := S512x1024) zero2, View.ld_unit_zero (S := S1024x128) zero2, View.ld_unit_zero (S := S8x1024) zero2, View.ld_unit_zero (S := S1x512) zero2, View.ld_unit_zero (S := S512x512) zero2, View.ld_unit_zero (S := S8x512) zero2, ld_mod0, ld_mod1, ld_cols0, ld_cols512, ld_cols1024, ld_cols1536, ld_cols2048, ld_cols2560, ld_tap0, ld_tap1, ld_tap2, shapeCast_self]

/-- The rows kept for the next block at a later block of a batch row. -/
theorem kept_later (hc : ¬cond0_0 i) :
    sout0_B_0 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 xs
      = k0_pay20 (hidden x0 x1 x2) (colsFrom 2048 (by omega) x3) (colsFrom 2560 (by omega) x3) := by
  unfold sout0_B_0
  rw [View.read_writes_eq_canon _ _ _ (scover0_B_0 c i a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 xs)]
  unfold kernelRun0_B
  dsimp only
  sl_unfold_words
  rw [View.canon_unit_zero zero2]
  unfold hidden
  simp only [View.readAt_eq_ld, h2.read_unread, h3.read_unread, h4.read_unread, h5.read_unread, h6.read_unread, h7.read_unread, h8.read_unread, h9.read_unread, h10.read_unread, h11.read_unread, h12.read_unread, h13.read_unread, h21.read_unread, View.ld_unit_zero (S := S1x512x1024) zero3, View.ld_unit_zero (S := S1x1024) zero2, View.ld_unit_zero (S := S512x1024) zero2, View.ld_unit_zero (S := S1024x128) zero2, View.ld_unit_zero (S := S8x1024) zero2, View.ld_unit_zero (S := S1x512) zero2, View.ld_unit_zero (S := S512x512) zero2, View.ld_unit_zero (S := S8x512) zero2, ld_mod0, ld_mod1, ld_cols0, ld_cols512, ld_cols1024, ld_cols1536, ld_cols2048, ld_cols2560, ld_tap0, ld_tap1, ld_tap2, shapeCast_self]

end Points

end Cert.Kernel3Ideal.Pre

end
-- ==== Proof.PreHost.lean ====
/-
  The input-projection kernel's blocks: what each window's block holds of its array, the arrays the host prepares, and where
  each result array's entries come from.
-/
module

public import proofs.«01_k».proof.Proof.PreRun
public import Idealize.ShloMosaic.Lib.StableHlo.Run

@[expose] public section

set_option maxRecDepth 16384

noncomputable section

namespace Cert.Kernel3Ideal.Pre

open Cert.Kernel3Ideal Cert.Kernel3Ideal.Gen Cert.Kernel3Ideal.Value Idealize.ShloMosaic Idealize.ShloMosaic.TcCoe Idealize.SL.Sem
open scoped BigOperators

/-- The block of window 0 at a grid point. -/
theorem index0 : ∀ t : Fin grid0.N, win0_0.index t 0 = t.val / 8 ∧ win0_0.index t 1 = t.val % 8 ∧ win0_0.index t 2 = 0 := by decide +kernel
/-- The block of window 1 at a grid point. -/
theorem index1 : ∀ t : Fin grid0.N, win0_1.index t 0 = t.val / 8 ∧ win0_1.index t 1 = 0 ∧ win0_1.index t 2 = 0 := by decide +kernel
/-- The block of window 2 at a grid point. -/
theorem index2 : ∀ t : Fin grid0.N, win0_2.index t 0 = 0 ∧ win0_2.index t 1 = 0 := by decide +kernel
/-- The block of window 3 at a grid point. -/
theorem index3 : ∀ t : Fin grid0.N, win0_3.index t 0 = 0 ∧ win0_3.index t 1 = 0 := by decide +kernel
/-- The block of window 4 at a grid point. -/
theorem index4 : ∀ t : Fin grid0.N, win0_4.index t 0 = 0 ∧ win0_4.index t 1 = 0 := by decide +kernel
/-- The block of window 5 at a grid point. -/
theorem index5 : ∀ t : Fin grid0.N, win0_5.index t 0 = 0 ∧ win0_5.index t 1 = 0 := by decide +kernel
/-- The block of window 6 at a grid point. -/
theorem index6 : ∀ t : Fin grid0.N, win0_6.index t 0 = 0 ∧ win0_6.index t 1 = 0 := by decide +kernel
/-- The block of window 7 at a grid point. -/
theorem index7 : ∀ t : Fin grid0.N, win0_7.index t 0 = 0 ∧ win0_7.index t 1 = 0 := by decide +kernel
/-- The block of window 8 at a grid point. -/
theorem index8 : ∀ t : Fin grid0.N, win0_8.index t 0 = 0 ∧ win0_8.index t 1 = 0 := by decide +kernel
/-- The block of window 9 at a grid point. -/
theorem index9 : ∀ t : Fin grid0.N, win0_9.index t 0 = 0 ∧ win0_9.index t 1 = 0 := by decide +kernel
/-- The block of window 10 at a grid point. -/
theorem index10 : ∀ t : Fin grid0.N, win0_10.index t 0 = 0 ∧ win0_10.index t 1 = 0 := by decide +kernel
/-- The block of window 11 at a grid point. -/
theorem index11 : ∀ t : Fin grid0.N, win0_11.index t 0 = 0 ∧ win0_11.index t 1 = 0 := by decide +kernel
/-- The block of window 12 at a grid point. -/
theorem index12 : ∀ t : Fin grid0.N, win0_12.index t 0 = t.val / 8 ∧ win0_12.index t 1 = t.val % 8 ∧ win0_12.index t 2 = 0 := by decide +kernel
/-- The block of window 13 at a grid point. -/
theorem index13 : ∀ t : Fin grid0.N, win0_13.index t 0 = t.val / 8 ∧ win0_13.index t 1 = t.val % 8 ∧ win0_13.index t 2 = 0 := by decide +kernel
/-- The block of window 14 at a grid point. -/
theorem index14 : ∀ t : Fin grid0.N, win0_14.index t 0 = t.val / 8 ∧ win0_14.index t 1 = t.val % 8 ∧ win0_14.index t 2 = 0 ∧ win0_14.index t 3 = 0 := by decide +kernel
/-- The block of window 15 at a grid point. -/
theorem index15 : ∀ t : Fin grid0.N, win0_15.index t 0 = t.val / 8 ∧ win0_15.index t 1 = t.val % 8 ∧ win0_15.index t 2 = 0 := by decide +kernel
/-- The block of window 16 at a grid point. -/
theorem index16 : ∀ t : Fin grid0.N, win0_16.index t 0 = t.val / 8 ∧ win0_16.index t 1 = t.val % 8 ∧ win0_16.index t 2 = 0 := by decide +kernel
/-- The block of window 17 at a grid point. -/
theorem index17 : ∀ t : Fin grid0.N, win0_17.index t 0 = t.val / 8 ∧ win0_17.index t 1 = 0 ∧ win0_17.index t 2 = t.val % 8 := by decide +kernel
/-- The block of window 18 at a grid point. -/
theorem index18 : ∀ t : Fin grid0.N, win0_18.index t 0 = t.val / 8 ∧ win0_18.index t 1 = t.val % 8 ∧ win0_18.index t 2 = 0 := by decide +kernel
/-- Window 12 is written back at every grid point. -/
theorem flush12 : ∀ t : Fin grid0.N, (cfg0.win 12).flush t = true := by decide +kernel
/-- Window 13 is written back at every grid point. -/
theorem flush13 : ∀ t : Fin grid0.N, (cfg0.win 13).flush t = true := by decide +kernel
/-- Window 14 is written back at every grid point. -/
theorem flush14 : ∀ t : Fin grid0.N, (cfg0.win 14).flush t = true := by decide +kernel
/-- Window 15 is written back at every grid point. -/
theorem flush15 : ∀ t : Fin grid0.N, (cfg0.win 15).flush t = true := by decide +kernel
/-- Window 16 is written back at every grid point. -/
theorem flush16 : ∀ t : Fin grid0.N, (cfg0.win 16).flush t = true := by decide +kernel
/-- Window 17 is written back at every grid point. -/
theorem flush17 : ∀ t : Fin grid0.N, (cfg0.win 17).flush t = true := by decide +kernel
/-- Window 18 is written back at every grid point. -/
theorem flush18 : ∀ t : Fin grid0.N, (cfg0.win 18).flush t = true := by decide +kernel

variable (m : (ℓ : Loc nD τ sig) → Buf (Elt Ideal) ℓ)

/-! ## The token and modulation blocks -/

/-- The token block of a point holds the batch row's tokens of that block. -/
theorem blk0 (c : Dev nD) (t : Fin cfg0.N) (r : Fin 512) (k : Fin 1024) (b : Fin 8) (s : Fin 4096) (hb : b.val = t.val / 8) (hs : s.val = t.val % 8 * 512 + r.val) :
    (iblk m c 0 t : Vec Ideal S1x512x1024 .f32) (ix3 0 r k) = (m ((c : Thread nD τ).loc main_arg0) : Vec Ideal S8x4096x1024 .f32) (ix3 b s k) := by
  obtain ⟨e0, e1, e2⟩ := index0 t
  unfold iblk
  rw [View.read_apply]
  show V m c main_arg0 _ = _
  rw [V_main_arg0]
  congr 1
  funext a
  apply Fin.ext
  match a with
  | ⟨0, _⟩ => show win0_0.index t 0 * 1 + 1 * 0 = b.val; rw [e0]; omega
  | ⟨1, _⟩ => show win0_0.index t 1 * 512 + 1 * r.val = s.val; rw [e1]; omega
  | ⟨2, _⟩ => show win0_0.index t 2 * 1024 + 1 * k.val = k.val; rw [e2]; omega

/-- The modulation block of a point holds the batch row's six rows. -/
theorem blk1 (c : Dev nD) (t : Fin cfg0.N) (j : Fin 6) (k : Fin 1024) (b : Fin 8) (hb : b.val = t.val / 8) :
    (iblk m c 1 t : Vec Ideal S1x6x1024 .f32) (ix3 0 j k) = (m ((c : Thread nD τ).loc main_arg1) : Vec Ideal S8x6x1024 .f32) (ix3 b j k) := by
  obtain ⟨e0, e1, e2⟩ := index1 t
  unfold iblk
  rw [View.read_apply]
  show V m c main_arg1 _ = _
  rw [V_main_arg1]
  congr 1
  funext a
  apply Fin.ext
  match a with
  | ⟨0, _⟩ => show win0_1.index t 0 * 1 + 1 * 0 = b.val; rw [e0]; omega
  | ⟨1, _⟩ => show win0_1.index t 1 * 6 + 1 * j.val = j.val; rw [e1]; omega
  | ⟨2, _⟩ => show win0_1.index t 2 * 1024 + 1 * k.val = k.val; rw [e2]; omega

/-! ## The whole arrays: each is its window's only block -/

/-- Window 2 is its whole array at every grid point. -/
theorem whole2 (c : Dev nD) (t : Fin cfg0.N) (k : Fin 1) (d : Fin 1024) :
    (iblk m c 2 t : Vec Ideal S1x1024 .f32) (ix2 k d) = (V m c main_v39 : Vec Ideal S1x1024 .f32) (ix2 k d) := by
  obtain ⟨e0, e1⟩ := index2 t
  unfold iblk
  rw [View.read_apply]
  show V m c main_v39 _ = _
  congr 1
  funext a
  apply Fin.ext
  match a with
  | ⟨0, _⟩ => show win0_2.index t 0 * 1 + 1 * k.val = k.val; rw [e0]; omega
  | ⟨1, _⟩ => show win0_2.index t 1 * 1024 + 1 * d.val = d.val; rw [e1]; omega

/-- Window 3 is its whole array at every grid point. -/
theorem whole3 (c : Dev nD) (t : Fin cfg0.N) (k : Fin 1024) (d : Fin 3072) :
    (iblk m c 3 t : Vec Ideal S1024x3072 .bf16) (ix2 k d) = (V m c main_v7 : Vec Ideal S1024x3072 .bf16) (ix2 k d) := by
  obtain ⟨e0, e1⟩ := index3 t
  unfold iblk
  rw [View.read_apply]
  show V m c main_v7 _ = _
  congr 1
  funext a
  apply Fin.ext
  match a with
  | ⟨0, _⟩ => show win0_3.index t 0 * 1024 + 1 * k.val = k.val; rw [e0]; omega
  | ⟨1, _⟩ => show win0_3.index t 1 * 3072 + 1 * d.val = d.val; rw [e1]; omega

/-- Window 4 is its whole array at every grid point. -/
theorem whole4 (c : Dev nD) (t : Fin cfg0.N) (k : Fin 512) (d : Fin 1024) :
    (iblk m c 4 t : Vec Ideal S512x1024 .bf16) (ix2 k d) = (V m c main_v10 : Vec Ideal S512x1024 .bf16) (ix2 k d) := by
  obtain ⟨e0, e1⟩ := index4 t
  unfold iblk
  rw [View.read_apply]
  show V m c main_v10 _ = _
  congr 1
  funext a
  apply Fin.ext
  match a with
  | ⟨0, _⟩ => show win0_4.index t 0 * 512 + 1 * k.val = k.val; rw [e0]; omega
  | ⟨1, _⟩ => show win0_4.index t 1 * 1024 + 1 * d.val = d.val; rw [e1]; omega

/-- Window 5 is its whole array at every grid point. -/
theorem whole5 (c : Dev nD) (t : Fin cfg0.N) (k : Fin 1024) (d : Fin 128) :
    (iblk m c 5 t : Vec Ideal S1024x128 .bf16) (ix2 k d) = (V m c main_v14 : Vec Ideal S1024x128 .bf16) (ix2 k d) := by
  obtain ⟨e0, e1⟩ := index5 t
  unfold iblk
  rw [View.read_apply]
  show V m c main_v14 _ = _
  congr 1
  funext a
  apply Fin.ext
  match a with
  | ⟨0, _⟩ => show win0_5.index t 0 * 1024 + 1 * k.val = k.val; rw [e0]; omega
  | ⟨1, _⟩ => show win0_5.index t 1 * 128 + 1 * d.val = d.val; rw [e1]; omega

/-- Window 6 is its whole array at every grid point. -/
theorem whole6 (c : Dev nD) (t : Fin cfg0.N) (k : Fin 8) (d : Fin 1024) :
    (iblk m c 6 t : Vec Ideal S8x1024 .bf16) (ix2 k d) = (V m c main_v17 : Vec Ideal S8x1024 .bf16) (ix2 k d) := by
  obtain ⟨e0, e1⟩ := index6 t
  unfold iblk
  rw [View.read_apply]
  show V m c main_v17 _ = _
  congr 1
  funext a
  apply Fin.ext
  match a with
  | ⟨0, _⟩ => show win0_6.index t 0 * 8 + 1 * k.val = k.val; rw [e0]; omega
  | ⟨1, _⟩ => show win0_6.index t 1 * 1024 + 1 * d.val = d.val; rw [e1]; omega

/-- Window 7 is its whole array at every grid point. -/
theorem whole7 (c : Dev nD) (t : Fin cfg0.N) (k : Fin 1) (d : Fin 512) :
    (iblk m c 7 t : Vec Ideal S1x512 .f32) (ix2 k d) = (V m c main_v23 : Vec Ideal S1x512 .f32) (ix2 k d) := by
  obtain ⟨e0, e1⟩ := index7 t
  unfold iblk
  rw [View.read_apply]
  show V m c main_v23 _ = _
  congr 1
  funext a
  apply Fin.ext
  match a with
  | ⟨0, _⟩ => show win0_7.index t 0 * 1 + 1 * k.val = k.val; rw [e0]; omega
  | ⟨1, _⟩ => show win0_7.index t 1 * 512 + 1 * d.val = d.val; rw [e1]; omega

/-- Window 8 is its whole array at every grid point. -/
theorem whole8 (c : Dev nD) (t : Fin cfg0.N) (k : Fin 1) (d : Fin 512) :
    (iblk m c 8 t : Vec Ideal S1x512 .f32) (ix2 k d) = (V m c main_v27 : Vec Ideal S1x512 .f32) (ix2 k d) := by
  obtain ⟨e0, e1⟩ := index8 t
  unfold iblk
  rw [View.read_apply]
  show V m c main_v27 _ = _
  congr 1
  funext a
  apply Fin.ext
  match a with
  | ⟨0, _⟩ => show win0_8.index t 0 * 1 + 1 * k.val = k.val; rw [e0]; omega
  | ⟨1, _⟩ => show win0_8.index t 1 * 512 + 1 * d.val = d.val; rw [e1]; omega

/-- Window 9 is its whole array at every grid point. -/
theorem whole9 (c : Dev nD) (t : Fin cfg0.N) (k : Fin 3) (d : Fin 512) :
    (iblk m c 9 t : Vec Ideal S3x512 .f32) (ix2 k d) = (V m c main_arg6 : Vec Ideal S3x512 .f32) (ix2 k d) := by
  obtain ⟨e0, e1⟩ := index9 t
  unfold iblk
  rw [View.read_apply]
  show V m c main_arg6 _ = _
  congr 1
  funext a
  apply Fin.ext
  match a with
  | ⟨0, _⟩ => show win0_9.index t 0 * 3 + 1 * k.val = k.val; rw [e0]; omega
  | ⟨1, _⟩ => show win0_9.index t 1 * 512 + 1 * d.val = d.val; rw [e1]; omega

/-- Window 10 is its whole array at every grid point. -/
theorem whole10 (c : Dev nD) (t : Fin cfg0.N) (k : Fin 1) (d : Fin 512) :
    (iblk m c 10 t : Vec Ideal S1x512 .f32) (ix2 k d) = (V m c main_v40 : Vec Ideal S1x512 .f32) (ix2 k d) := by
  obtain ⟨e0, e1⟩ := index10 t
  unfold iblk
  rw [View.read_apply]
  show V m c main_v40 _ = _
  congr 1
  funext a
  apply Fin.ext
  match a with
  | ⟨0, _⟩ => show win0_10.index t 0 * 1 + 1 * k.val = k.val; rw [e0]; omega
  | ⟨1, _⟩ => show win0_10.index t 1 * 512 + 1 * d.val = d.val; rw [e1]; omega

/-- Window 11 is its whole array at every grid point. -/
theorem whole11 (c : Dev nD) (t : Fin cfg0.N) (k : Fin 512) (d : Fin 512) :
    (iblk m c 11 t : Vec Ideal S512x512 .bf16) (ix2 k d) = (V m c main_v38 : Vec Ideal S512x512 .bf16) (ix2 k d) := by
  obtain ⟨e0, e1⟩ := index11 t
  unfold iblk
  rw [View.read_apply]
  show V m c main_v38 _ = _
  congr 1
  funext a
  apply Fin.ext
  match a with
  | ⟨0, _⟩ => show win0_11.index t 0 * 512 + 1 * k.val = k.val; rw [e0]; omega
  | ⟨1, _⟩ => show win0_11.index t 1 * 512 + 1 * d.val = d.val; rw [e1]; omega

/-- Eight rows of sixty-four read as one row. -/
theorem eight_rows (x : Vec Ideal S8x64 .f32) (d : Fin 512) :
    (shapeCast S1x512 x shapeCasts_S8x64_S1x512 : Vec Ideal S1x512 .f32) (ix2 0 d) = x (ix2 ⟨d.val / 64, by omega⟩ ⟨d.val % 64, by omega⟩) := by
  refine shapeCast_apply _ _ _ _ ?_
  rw [Shape.rowMajor_val_two, Shape.rowMajor_val_two]
  show d.val / 64 * 64 + d.val % 64 = 0 * 512 + d.val
  omega

/-! ## The arrays the host prepares -/

/-- The norm's weights at a grid point. -/
theorem blk2 (c : Dev nD) (t : Fin cfg0.N) (k : Fin 1024) :
    (iblk m c 2 t : Vec Ideal S1x1024 .f32) (ix2 0 k) = (m ((c : Thread nD τ).loc main_arg2) : Vec Ideal S1024 .f32) (ix1 k) := by
  rw [whole2]
  have h : V m c main_v39 = broadcastInDim S1x1024 ![1] bcast_S1024_S1x1024_1 (m ((c : Thread nD τ).loc main_arg2) : Vec Ideal S1024 .f32) := by
    unfold V
    simp only [hostOps0, hostOps0_1, hostOps0_2, List.flatten_cons, List.flatten_nil, List.append_nil, List.cons_append, List.nil_append]
    after_results
  rw [h]
  pointwise

/-- The host's joined weight columns. -/
theorem joined (c : Dev nD) :
    V m c main_v7 = (truncf .bf16 (concatenate S1024x3072 1 [⟨S1024x512, (extractStridedSlice S1024x512 ![0, 0] (m ((c : Thread nD τ).loc main_arg3) : Vec Ideal S1024x3656 .f32) slices_S1024x3656_S1024x512_0_0 : Vec Ideal S1024x512 .f32)⟩, ⟨S1024x512, (extractStridedSlice S1024x512 ![0, 512] (m ((c : Thread nD τ).loc main_arg3) : Vec Ideal S1024x3656 .f32) slices_S1024x3656_S1024x512_0_512 : Vec Ideal S1024x512 .f32)⟩, ⟨S1024x512, (extractStridedSlice S1024x512 ![0, 1536] (m ((c : Thread nD τ).loc main_arg3) : Vec Ideal S1024x3656 .f32) slices_S1024x3656_S1024x512_0_1536 : Vec Ideal S1024x512 .f32)⟩, ⟨S1024x512, (extractStridedSlice S1024x512 ![0, 2120] (m ((c : Thread nD τ).loc main_arg3) : Vec Ideal S1024x3656 .f32) slices_S1024x3656_S1024x512_0_2120 : Vec Ideal S1024x512 .f32)⟩, ⟨S1024x512, (extractStridedSlice S1024x512 ![0, 2632] (m ((c : Thread nD τ).loc main_arg3) : Vec Ideal S1024x3656 .f32) slices_S1024x3656_S1024x512_0_2632 : Vec Ideal S1024x512 .f32)⟩, ⟨S1024x512, (extractStridedSlice S1024x512 ![0, 3144] (m ((c : Thread nD τ).loc main_arg3) : Vec Ideal S1024x3656 .f32) slices_S1024x3656_S1024x512_0_3144 : Vec Ideal S1024x512 .f32)⟩] concatenates_S1024x512_S1024x512_S1024x512_S1024x512_S1024x512_S1024x512_S1024x3072_d1 : FVec Ideal S1024x3072 .f32) bitsLt_bf16_f32 : FVec Ideal S1024x3072 .bf16) := by
  unfold V
  simp only [hostOps0, hostOps0_1, hostOps0_2, List.flatten_cons, List.flatten_nil, List.append_nil, List.cons_append, List.nil_append]
  after_results
  rfl

/-- The joined weight columns from 0 on are columns of the projection weights. -/
theorem cols0 (c : Dev nD) (t : Fin cfg0.N) (k : Fin 1024) (d : Fin 512) :
    (colsFrom 0 (by omega) (iblk m c 3 t : Vec Ideal S1024x3072 .bf16) : Vec Ideal S1024x512 .bf16) (ix2 k d)
      = (m ((c : Thread nD τ).loc main_arg3) : Vec Ideal S1024x3656 .f32) (ix2 k ⟨0 + d.val, by omega⟩) := by
  show (iblk m c 3 t : Vec Ideal S1024x3072 .bf16) (ix2 k ⟨0 + d.val, by omega⟩) = _
  rw [whole3, joined]
  pointwise
  repeat (first | rw [dif_pos (by omega)] | rw [dif_neg (by omega)])

/-- The joined weight columns from 512 on are columns of the projection weights. -/
theorem cols512 (c : Dev nD) (t : Fin cfg0.N) (k : Fin 1024) (d : Fin 512) :
    (colsFrom 512 (by omega) (iblk m c 3 t : Vec Ideal S1024x3072 .bf16) : Vec Ideal S1024x512 .bf16) (ix2 k d)
      = (m ((c : Thread nD τ).loc main_arg3) : Vec Ideal S1024x3656 .f32) (ix2 k ⟨512 + d.val, by omega⟩) := by
  show (iblk m c 3 t : Vec Ideal S1024x3072 .bf16) (ix2 k ⟨512 + d.val, by omega⟩) = _
  rw [whole3, joined]
  pointwise
  repeat (first | rw [dif_pos (by omega)] | rw [dif_neg (by omega)])

/-- The joined weight columns from 1024 on are columns of the projection weights. -/
theorem cols1024 (c : Dev nD) (t : Fin cfg0.N) (k : Fin 1024) (d : Fin 512) :
    (colsFrom 1024 (by omega) (iblk m c 3 t : Vec Ideal S1024x3072 .bf16) : Vec Ideal S1024x512 .bf16) (ix2 k d)
      = (m ((c : Thread nD τ).loc main_arg3) : Vec Ideal S1024x3656 .f32) (ix2 k ⟨1536 + d.val, by omega⟩) := by
  show (iblk m c 3 t : Vec Ideal S1024x3072 .bf16) (ix2 k ⟨1024 + d.val, by omega⟩) = _
  rw [whole3, joined]
  pointwise
  repeat (first | rw [dif_pos (by omega)] | rw [dif_neg (by omega)])
  congr 2 <;> (apply Fin.ext; dsimp only; omega)

/-- The joined weight columns from 1536 on are columns of the projection weights. -/
theorem cols1536 (c : Dev nD) (t : Fin cfg0.N) (k : Fin 1024) (d : Fin 512) :
    (colsFrom 1536 (by omega) (iblk m c 3 t : Vec Ideal S1024x3072 .bf16) : Vec Ideal S1024x512 .bf16) (ix2 k d)
      = (m ((c : Thread nD τ).loc main_arg3) : Vec Ideal S1024x3656 .f32) (ix2 k ⟨2120 + d.val, by omega⟩) := by
  show (iblk m c 3 t : Vec Ideal S1024x3072 .bf16) (ix2 k ⟨1536 + d.val, by omega⟩) = _
  rw [whole3, joined]
  pointwise
  repeat (first | rw [dif_pos (by omega)] | rw [dif_neg (by omega)])
  congr 2 <;> (apply Fin.ext; dsimp only; omega)

/-- The joined weight columns from 2048 on are columns of the projection weights. -/
theorem cols2048 (c : Dev nD) (t : Fin cfg0.N) (k : Fin 1024) (d : Fin 512) :
    (colsFrom 2048 (by omega) (iblk m c 3 t : Vec Ideal S1024x3072 .bf16) : Vec Ideal S1024x512 .bf16) (ix2 k d)
      = (m ((c : Thread nD τ).loc main_arg3) : Vec Ideal S1024x3656 .f32) (ix2 k ⟨2632 + d.val, by omega⟩) := by
  show (iblk m c 3 t : Vec Ideal S1024x3072 .bf16) (ix2 k ⟨2048 + d.val, by omega⟩) = _
  rw [whole3, joined]
  pointwise
  repeat (first | rw [dif_pos (by omega)] | rw [dif_neg (by omega)])
  congr 2 <;> (apply Fin.ext; dsimp only; omega)

/-- The joined weight columns from 2560 on are columns of the projection weights. -/
theorem cols2560 (c : Dev nD) (t : Fin cfg0.N) (k : Fin 1024) (d : Fin 512) :
    (colsFrom 2560 (by omega) (iblk m c 3 t : Vec Ideal S1024x3072 .bf16) : Vec Ideal S1024x512 .bf16) (ix2 k d)
      = (m ((c : Thread nD τ).loc main_arg3) : Vec Ideal S1024x3656 .f32) (ix2 k ⟨3144 + d.val, by omega⟩) := by
  show (iblk m c 3 t : Vec Ideal S1024x3072 .bf16) (ix2 k ⟨2560 + d.val, by omega⟩) = _
  rw [whole3, joined]
  pointwise
  repeat (first | rw [dif_pos (by omega)] | rw [dif_neg (by omega)])
  congr 2 <;> (apply Fin.ext; dsimp only; omega)

/-- The values' weights, transposed. -/
theorem blk4 (c : Dev nD) (t : Fin cfg0.N) (k : Fin 512) (d : Fin 1024) :
    (iblk m c 4 t : Vec Ideal S512x1024 .bf16) (ix2 k d) = (m ((c : Thread nD τ).loc main_arg3) : Vec Ideal S1024x3656 .f32) (ix2 d ⟨1024 + k.val, by omega⟩) := by
  rw [whole4]
  have h : V m c main_v10 = (truncf .bf16 (transpose S512x1024 [1, 0] (extractStridedSlice S1024x512 ![0, 1024] (m ((c : Thread nD τ).loc main_arg3) : Vec Ideal S1024x3656 .f32) slices_S1024x3656_S1024x512_0_1024 : Vec Ideal S1024x512 .f32) transposes_S1024x512_S512x1024_1_0 : FVec Ideal S512x1024 .f32) bitsLt_bf16_f32 : FVec Ideal S512x1024 .bf16) := by
    unfold V
    simp only [hostOps0, hostOps0_1, hostOps0_2, List.flatten_cons, List.flatten_nil, List.append_nil, List.cons_append, List.nil_append]
    after_results
  rw [h]
  pointwise

/-- The indexer's key weights, twice. -/
theorem blk5 (c : Dev nD) (t : Fin cfg0.N) (k : Fin 1024) (d : Fin 128) :
    (iblk m c 5 t : Vec Ideal S1024x128 .bf16) (ix2 k d) = (m ((c : Thread nD τ).loc main_arg3) : Vec Ideal S1024x3656 .f32) (ix2 k ⟨2048 + d.val % 64, by omega⟩) := by
  rw [whole5]
  have h : V m c main_v14 = (truncf .bf16 (concatenate S1024x128 1 [⟨S1024x64, (extractStridedSlice S1024x64 ![0, 2048] (m ((c : Thread nD τ).loc main_arg3) : Vec Ideal S1024x3656 .f32) slices_S1024x3656_S1024x64_0_2048 : Vec Ideal S1024x64 .f32)⟩, ⟨S1024x64, (extractStridedSlice S1024x64 ![0, 2048] (m ((c : Thread nD τ).loc main_arg3) : Vec Ideal S1024x3656 .f32) slices_S1024x3656_S1024x64_0_2048 : Vec Ideal S1024x64 .f32)⟩] concatenates_S1024x64_S1024x64_S1024x128_d1 : FVec Ideal S1024x128 .f32) bitsLt_bf16_f32 : FVec Ideal S1024x128 .bf16) := by
    unfold V
    simp only [hostOps0, hostOps0_1, hostOps0_2, List.flatten_cons, List.flatten_nil, List.append_nil, List.cons_append, List.nil_append]
    after_results
  rw [h]
  pointwise
  by_cases hd : d.val < 64
  · rw [dif_pos hd]
    congr 2
    apply Fin.ext
    dsimp only
    omega
  · rw [dif_neg hd]
    congr 2
    apply Fin.ext
    dsimp only
    omega

/-- The indexer's head weights' columns, transposed. -/
theorem blk6 (c : Dev nD) (t : Fin cfg0.N) (k : Fin 8) (d : Fin 1024) :
    (iblk m c 6 t : Vec Ideal S8x1024 .bf16) (ix2 k d) = (m ((c : Thread nD τ).loc main_arg3) : Vec Ideal S1024x3656 .f32) (ix2 d ⟨2112 + k.val, by omega⟩) := by
  rw [whole6]
  have h : V m c main_v17 = (truncf .bf16 (transpose S8x1024 [1, 0] (extractStridedSlice S1024x8 ![0, 2112] (m ((c : Thread nD τ).loc main_arg3) : Vec Ideal S1024x3656 .f32) slices_S1024x3656_S1024x8_0_2112 : Vec Ideal S1024x8 .f32) transposes_S1024x8_S8x1024_1_0 : FVec Ideal S8x1024 .f32) bitsLt_bf16_f32 : FVec Ideal S8x1024 .bf16) := by
    unfold V
    simp only [hostOps0, hostOps0_1, hostOps0_2, List.flatten_cons, List.flatten_nil, List.append_nil, List.cons_append, List.nil_append]
    after_results
  rw [h]
  pointwise

/-- The queries' norm weights, repeated per head and scaled. -/
theorem blk7 (c : Dev nD) (t : Fin cfg0.N) (d : Fin 512) :
    (iblk m c 7 t : Vec Ideal S1x512 .f32) (ix2 0 d) = HMul.hMul (α := EReal) (β := EReal) (γ := EReal) ((m ((c : Thread nD τ).loc main_arg4) : Vec Ideal S64 .f32) (ix1 ⟨d.val % 64, by omega⟩)) (Ideal.ofBits .f32 0x3E38AA3B#32) := by
  rw [whole7]
  have h : V m c main_v23 = broadcastInDim S1x512 ![1] bcast_S512_S1x512_1 (mulf (shapeCast S512 (broadcastInDim S8x64 ![0, 1] bcast_S1x64_S8x64_0_1 (shapeCast S1x64 (m ((c : Thread nD τ).loc main_arg4) : Vec Ideal S64 .f32) shapeCasts_S64_S1x64 : Vec Ideal S1x64 .f32) : Vec Ideal S8x64 .f32) shapeCasts_S8x64_S512 : Vec Ideal S512 .f32) (broadcastInDim S512 ![] bcast_S_S512 (constant S_ .f32 0x3E38AA3B#32 : FVec Ideal S_ .f32) : FVec Ideal S512 .f32) : FVec Ideal S512 .f32) := by
    unfold V
    simp only [hostOps0, hostOps0_1, hostOps0_2, List.flatten_cons, List.flatten_nil, List.append_nil, List.cons_append, List.nil_append]
    after_results
    rfl
  rw [h]
  pointwise

/-- The keys' norm weights, repeated per head. -/
theorem blk8 (c : Dev nD) (t : Fin cfg0.N) (d : Fin 512) :
    (iblk m c 8 t : Vec Ideal S1x512 .f32) (ix2 0 d) = (m ((c : Thread nD τ).loc main_arg5) : Vec Ideal S64 .f32) (ix1 ⟨d.val % 64, by omega⟩) := by
  rw [whole8]
  have h : V m c main_v27 = broadcastInDim S1x512 ![1] bcast_S512_S1x512_1 (shapeCast S512 (broadcastInDim S8x64 ![0, 1] bcast_S1x64_S8x64_0_1 (shapeCast S1x64 (m ((c : Thread nD τ).loc main_arg5) : Vec Ideal S64 .f32) shapeCasts_S64_S1x64 : Vec Ideal S1x64 .f32) : Vec Ideal S8x64 .f32) shapeCasts_S8x64_S512 : Vec Ideal S512 .f32) := by
    unfold V
    simp only [hostOps0, hostOps0_1, hostOps0_2, List.flatten_cons, List.flatten_nil, List.append_nil, List.cons_append, List.nil_append]
    after_results
    rfl
  rw [h]
  pointwise

/-- The convolution's taps. -/
theorem blk9 (c : Dev nD) (t : Fin cfg0.N) (k : Fin 3) (d : Fin 512) :
    (iblk m c 9 t : Vec Ideal S3x512 .f32) (ix2 k d) = (m ((c : Thread nD τ).loc main_arg6) : Vec Ideal S3x512 .f32) (ix2 k d) := by
  rw [whole9, V_main_arg6]

/-- The convolution half's norm weights. -/
theorem blk10 (c : Dev nD) (t : Fin cfg0.N) (d : Fin 512) :
    (iblk m c 10 t : Vec Ideal S1x512 .f32) (ix2 0 d) = (m ((c : Thread nD τ).loc main_arg7) : Vec Ideal S8x64 .f32) (ix2 ⟨d.val / 64, by omega⟩ ⟨d.val % 64, by omega⟩) := by
  rw [whole10]
  have h : V m c main_v40 = (shapeCast S1x512 (m ((c : Thread nD τ).loc main_arg7) : Vec Ideal S8x64 .f32) shapeCasts_S8x64_S1x512 : Vec Ideal S1x512 .f32) := by
    unfold V
    simp only [hostOps0, hostOps0_1, hostOps0_2, List.flatten_cons, List.flatten_nil, List.append_nil, List.cons_append, List.nil_append]
    after_results
    rfl
  rw [h]
  exact eight_rows _ d

/-- Floor division of a vector of integers by one integer, as the host's helper function computes it. -/
def quotient (x : IVec S512 32) (d : IVec S_ 32) : IVec S512 32 :=
  select (andi (cmpi .ne (signi x) (broadcastInDim S512 ![] bcast_S_S512 (signi d)))
      (cmpi .ne (Host.remsi x (broadcastInDim S512 ![] bcast_S_S512 d)) (broadcastInDim S512 ![] bcast_S_S512 (constantI S_ 32 0#32))))
    (subi (Host.divsi x (broadcastInDim S512 ![] bcast_S_S512 d)) (broadcastInDim S512 ![] bcast_S_S512 (constantI S_ 32 1#32)))
    (Host.divsi x (broadcastInDim S512 ![] bcast_S_S512 d))

/-- The head of a lane. -/
def headOf : IVec S512 32 := quotient (iotaInDim S512 32 0) (constantI S_ 32 64#32)

/-- The group of a column. -/
theorem headOf_apply (i : Fin 512) : headOf (ix1 i) = BitVec.ofNat 32 (i.val / 64) := by
  revert i
  decide +kernel

/-- The test that two columns are of one group. -/
theorem same_head (k j : Fin 512) : IntOp.cmpi .eq (BitVec.ofNat 32 (k.val / 64)) (BitVec.ofNat 32 (j.val / 64)) = BitVec.ofBool (decide (k.val / 64 = j.val / 64)) := by
  have key : ∀ a b : Fin 8, IntOp.cmpi .eq (BitVec.ofNat 32 a.val) (BitVec.ofNat 32 b.val) = BitVec.ofBool (decide (a.val = b.val)) := by decide +kernel
  exact key ⟨k.val / 64, by omega⟩ ⟨j.val / 64, by omega⟩

/-- The averaging table as the host computes it. -/
theorem averages (c : Dev nD) : V m c main_v38 =
    (truncf .bf16 (Host.divf (uitofp .f32 (cmpi .eq
        (broadcastInDim S512x512 ![0, 1] bcast_S512x1_S512x512_0_1 (broadcastInDim S512x1 ![0] bcast_S512_S512x1_0 headOf))
        (broadcastInDim S512x512 ![0, 1] bcast_S1x512_S512x512_0_1 (broadcastInDim S1x512 ![1] bcast_S512_S1x512_1 headOf))) : FVec Ideal S512x512 .f32)
      (broadcastInDim S512x512 ![] bcast_S_S512x512 (constant S_ .f32 0x42800000#32 : FVec Ideal S_ .f32)) : FVec Ideal S512x512 .f32) bitsLt_bf16_f32 : FVec Ideal S512x512 .bf16) := by
  unfold V
  simp only [hostOps0, hostOps0_1, hostOps0_2, List.flatten_cons, List.flatten_nil, List.append_nil, List.cons_append, List.nil_append]
  after_results
  rfl

/-- The averaging table at a grid point: the inverse of sixty-four within a group, else zero. -/
theorem blk11 (c : Dev nD) (t : Fin cfg0.N) (k j : Fin 512) :
    (iblk m c 11 t : Vec Ideal S512x512 .bf16) (ix2 k j) = Ideal.div (if k.val / 64 = j.val / 64 then (1 : EReal) else 0) (Ideal.ofBits .f32 0x42800000#32) := by
  rw [whole11, averages]
  pointwise
  rw [headOf_apply, headOf_apply, same_head k j]
  by_cases h : k.val / 64 = j.val / 64
  · rw [if_pos h, decide_eq_true h]
    congr 1
    show (((1 : ℕ) : ℝ) : EReal) = 1
    norm_num
  · rw [if_neg h, decide_eq_false h]
    congr 1
    show (((0 : ℕ) : ℝ) : EReal) = 0
    norm_num

end Cert.Kernel3Ideal.Pre
end
-- ==== Proof.PreArrays.lean ====
/-
  The input-projection kernel's results: each array's entry is an entry of the block its grid point computes, and the rows a
  point keeps for the next one.
-/
module

public import proofs.«01_k».proof.Proof.PreHost

@[expose] public section

set_option maxRecDepth 16384

noncomputable section

namespace Cert.Kernel3Ideal.Pre

open Cert.Kernel3Ideal Cert.Kernel3Ideal.Gen Cert.Kernel3Ideal.Value Idealize.ShloMosaic Idealize.ShloMosaic.TcCoe Idealize.SL.Sem
open scoped BigOperators

variable (m : (ℓ : Loc nD τ sig) → Buf (Elt Ideal) ℓ)

/-- The modulated norms of a point's tokens. -/
def hid (c : Dev nD) (t : Fin cfg0.N) : FVec Ideal S512x1024 .bf16 := hidden (F := Ideal) (iblk m c 0 t) (iblk m c 1 t) (iblk m c 2 t)

/-- The projection's weights at a point. -/
def wts (c : Dev nD) (t : Fin cfg0.N) : Vec Ideal S1024x3072 .bf16 := iblk m c 3 t

/-- The rows a point keeps for the next one. -/
def keptRows (c : Dev nD) (t : Fin cfg0.N) : FVec Ideal S8x512 .f32 :=
  k0_pay20 (F := Ideal) (hid m c t) (colsFrom 2048 (by omega) (wts m c t)) (colsFrom 2560 (by omega) (wts m c t))

/-- What a grid point leaves in the kept rows: the last eight rows of its convolution input. -/
theorem kept_after (c : Dev nD) (t : Fin cfg0.N) : (outsAt0 m c t.val t.isLt).2.2.2.2.2.2.2 = keptRows m c t := by
  by_cases h0 : t.val % 8 = 0
  · rw [outsAt0_A m c t h0]
    dsimp only
    rw [kept_first]
    rfl
  · rw [outsAt0_B m c t h0]
    dsimp only
    rw [kept_later]
    rfl

/-- An entry of the queries after the run: the entry of the block written at its own grid point. -/
theorem array12 (c : Dev nD) (t : Fin cfg0.N) (r : Fin 512) (d : Fin 512) (b : Fin 8) (s : Fin 4096) (hb : b.val = t.val / 8) (hs : s.val = t.val % 8 * 512 + r.val) :
    ((dats m 0 c).arrAt 12 cfg0.N : Vec Ideal S8x4096x512 .bf16) (ix3 b s d)
      = (k0_pay6 (F := Ideal) (k0_pay3 (iblk m c 0 t) (iblk m c 2 t) (modRow 1 (iblk m c 1 t)) (modRow 0 (iblk m c 1 t)) (colsFrom 0 (by omega) (wts m c t))) (k0_pay4 (iblk m c 0 t) (iblk m c 2 t) (modRow 1 (iblk m c 1 t)) (modRow 0 (iblk m c 1 t)) (colsFrom 0 (by omega) (wts m c t)) (iblk m c 11 t)) k0_pay5 (iblk m c 7 t) : Vec Ideal S1x512x512 .bf16) (ix3 0 r d) := by
  have e : (dats m 0 c).flushed 12 t = (cfg0.win 12).cut (grid0.coords t) (k0_pay6 (F := Ideal) (k0_pay3 (iblk m c 0 t) (iblk m c 2 t) (modRow 1 (iblk m c 1 t)) (modRow 0 (iblk m c 1 t)) (colsFrom 0 (by omega) (wts m c t))) (k0_pay4 (iblk m c 0 t) (iblk m c 2 t) (modRow 1 (iblk m c 1 t)) (modRow 0 (iblk m c 1 t)) (colsFrom 0 (by omega) (wts m c t)) (iblk m c 11 t)) k0_pay5 (iblk m c 7 t) : Vec Ideal S1x512x512 .bf16) := by
    by_cases h0 : t.val % 8 = 0
    · rw [flushed12_A m c t h0, queries_first]
      rfl
    · rw [flushed12_B m c t h0, queries_later]
      rfl
  have h2 := congrFun ((blocks12 m c t (flush12 t)).trans e) (ix3 0 r d)
  rw [View.read_apply] at h2
  refine Eq.trans ?_ (h2.trans rfl)
  obtain ⟨e0, e1, e2⟩ := index12 t
  congr 1
  funext a
  apply Fin.ext
  match a with
  | ⟨0, _⟩ => show b.val = win0_12.index t 0 * 1 + 1 * 0; rw [e0]; omega
  | ⟨1, _⟩ => show s.val = win0_12.index t 1 * 512 + 1 * r.val; rw [e1]; omega
  | ⟨2, _⟩ => show d.val = win0_12.index t 2 * 512 + 1 * d.val; rw [e2]; omega

/-- An entry of the keys after the run: the entry of the block written at its own grid point. -/
theorem array13 (c : Dev nD) (t : Fin cfg0.N) (r : Fin 512) (d : Fin 512) (b : Fin 8) (s : Fin 4096) (hb : b.val = t.val / 8) (hs : s.val = t.val % 8 * 512 + r.val) :
    ((dats m 0 c).arrAt 13 cfg0.N : Vec Ideal S8x4096x512 .bf16) (ix3 b s d)
      = (k0_pay7 (F := Ideal) (hid m c t) (colsFrom 512 (by omega) (wts m c t)) (iblk m c 11 t) (iblk m c 8 t) : Vec Ideal S1x512x512 .bf16) (ix3 0 r d) := by
  have e : (dats m 0 c).flushed 13 t = (cfg0.win 13).cut (grid0.coords t) (k0_pay7 (F := Ideal) (hid m c t) (colsFrom 512 (by omega) (wts m c t)) (iblk m c 11 t) (iblk m c 8 t) : Vec Ideal S1x512x512 .bf16) := by
    by_cases h0 : t.val % 8 = 0
    · rw [flushed13_A m c t h0, keys_first]
      rfl
    · rw [flushed13_B m c t h0, keys_later]
      rfl
  have h2 := congrFun ((blocks13 m c t (flush13 t)).trans e) (ix3 0 r d)
  rw [View.read_apply] at h2
  refine Eq.trans ?_ (h2.trans rfl)
  obtain ⟨e0, e1, e2⟩ := index13 t
  congr 1
  funext a
  apply Fin.ext
  match a with
  | ⟨0, _⟩ => show b.val = win0_13.index t 0 * 1 + 1 * 0; rw [e0]; omega
  | ⟨1, _⟩ => show s.val = win0_13.index t 1 * 512 + 1 * r.val; rw [e1]; omega
  | ⟨2, _⟩ => show d.val = win0_13.index t 2 * 512 + 1 * d.val; rw [e2]; omega

/-- An entry of the values after the run: the entry of the block written at its own grid point. -/
theorem array14 (c : Dev nD) (t : Fin cfg0.N) (w : Fin 2) (d : Fin 512) (r : Fin 256) (b : Fin 8) (u : Fin 16) (hb : b.val = t.val / 8) (hu : u.val = t.val % 8 * 2 + w.val) :
    ((dats m 0 c).arrAt 14 cfg0.N : Vec Ideal S8x16x512x256 .bf16) (ix4 b u d r)
      = (valueTiles (F := Ideal) (hid m c t) (iblk m c 4 t) : Vec Ideal S1x2x512x256 .bf16) (ix4 0 w d r) := by
  have e : (dats m 0 c).flushed 14 t = (cfg0.win 14).cut (grid0.coords t) (valueTiles (F := Ideal) (hid m c t) (iblk m c 4 t) : Vec Ideal S1x2x512x256 .bf16) := by
    by_cases h0 : t.val % 8 = 0
    · rw [flushed14_A m c t h0, values_first]
      rfl
    · rw [flushed14_B m c t h0, values_later]
      rfl
  have h2 := congrFun ((blocks14 m c t (flush14 t)).trans e) (ix4 0 w d r)
  rw [View.read_apply] at h2
  refine Eq.trans ?_ (h2.trans rfl)
  obtain ⟨e0, e1, e2, e3⟩ := index14 t
  congr 1
  funext a
  apply Fin.ext
  match a with
  | ⟨0, _⟩ => show b.val = win0_14.index t 0 * 1 + 1 * 0; rw [e0]; omega
  | ⟨1, _⟩ => show u.val = win0_14.index t 1 * 2 + 1 * w.val; rw [e1]; omega
  | ⟨2, _⟩ => show d.val = win0_14.index t 2 * 512 + 1 * d.val; rw [e2]; omega
  | ⟨3, _⟩ => show r.val = win0_14.index t 3 * 256 + 1 * r.val; rw [e3]; omega

/-- An entry of the indexer's queries after the run: the entry of the block written at its own grid point. -/
theorem array15 (c : Dev nD) (t : Fin cfg0.N) (r : Fin 512) (d : Fin 512) (b : Fin 8) (s : Fin 4096) (hb : b.val = t.val / 8) (hs : s.val = t.val % 8 * 512 + r.val) :
    ((dats m 0 c).arrAt 15 cfg0.N : Vec Ideal S8x4096x512 .bf16) (ix3 b s d)
      = (k0_pay12 (F := Ideal) (hid m c t) (colsFrom 1024 (by omega) (wts m c t)) : Vec Ideal S1x512x512 .bf16) (ix3 0 r d) := by
  have e : (dats m 0 c).flushed 15 t = (cfg0.win 15).cut (grid0.coords t) (k0_pay12 (F := Ideal) (hid m c t) (colsFrom 1024 (by omega) (wts m c t)) : Vec Ideal S1x512x512 .bf16) := by
    by_cases h0 : t.val % 8 = 0
    · rw [flushed15_A m c t h0, index_queries_first]
      rfl
    · rw [flushed15_B m c t h0, index_queries_later]
      rfl
  have h2 := congrFun ((blocks15 m c t (flush15 t)).trans e) (ix3 0 r d)
  rw [View.read_apply] at h2
  refine Eq.trans ?_ (h2.trans rfl)
  obtain ⟨e0, e1, e2⟩ := index15 t
  congr 1
  funext a
  apply Fin.ext
  match a with
  | ⟨0, _⟩ => show b.val = win0_15.index t 0 * 1 + 1 * 0; rw [e0]; omega
  | ⟨1, _⟩ => show s.val = win0_15.index t 1 * 512 + 1 * r.val; rw [e1]; omega
  | ⟨2, _⟩ => show d.val = win0_15.index t 2 * 512 + 1 * d.val; rw [e2]; omega

/-- An entry of the indexer's keys after the run: the entry of the block written at its own grid point. -/
theorem array16 (c : Dev nD) (t : Fin cfg0.N) (r : Fin 512) (d : Fin 128) (b : Fin 8) (s : Fin 4096) (hb : b.val = t.val / 8) (hs : s.val = t.val % 8 * 512 + r.val) :
    ((dats m 0 c).arrAt 16 cfg0.N : Vec Ideal S8x4096x128 .bf16) (ix3 b s d)
      = (k0_pay13 (F := Ideal) (hid m c t) (iblk m c 5 t) : Vec Ideal S1x512x128 .bf16) (ix3 0 r d) := by
  have e : (dats m 0 c).flushed 16 t = (cfg0.win 16).cut (grid0.coords t) (k0_pay13 (F := Ideal) (hid m c t) (iblk m c 5 t) : Vec Ideal S1x512x128 .bf16) := by
    by_cases h0 : t.val % 8 = 0
    · rw [flushed16_A m c t h0, index_keys_first]
      rfl
    · rw [flushed16_B m c t h0, index_keys_later]
      rfl
  have h2 := congrFun ((blocks16 m c t (flush16 t)).trans e) (ix3 0 r d)
  rw [View.read_apply] at h2
  refine Eq.trans ?_ (h2.trans rfl)
  obtain ⟨e0, e1, e2⟩ := index16 t
  congr 1
  funext a
  apply Fin.ext
  match a with
  | ⟨0, _⟩ => show b.val = win0_16.index t 0 * 1 + 1 * 0; rw [e0]; omega
  | ⟨1, _⟩ => show s.val = win0_16.index t 1 * 512 + 1 * r.val; rw [e1]; omega
  | ⟨2, _⟩ => show d.val = win0_16.index t 2 * 128 + 1 * d.val; rw [e2]; omega

/-- An entry of the indexer's head weights after the run: the entry of the block written at its own grid point. -/
theorem array17 (c : Dev nD) (t : Fin cfg0.N) (r : Fin 512) (g : Fin 8) (b : Fin 8) (s : Fin 4096) (hb : b.val = t.val / 8) (hs : s.val = t.val % 8 * 512 + r.val) :
    ((dats m 0 c).arrAt 17 cfg0.N : Vec Ideal S8x8x4096 .f32) (ix3 b g s)
      = (k0_pay14 (F := Ideal) (hid m c t) (iblk m c 6 t) : Vec Ideal S1x8x512 .f32) (ix3 0 g r) := by
  have e : (dats m 0 c).flushed 17 t = (cfg0.win 17).cut (grid0.coords t) (k0_pay14 (F := Ideal) (hid m c t) (iblk m c 6 t) : Vec Ideal S1x8x512 .f32) := by
    by_cases h0 : t.val % 8 = 0
    · rw [flushed17_A m c t h0, index_weights_first]
      rfl
    · rw [flushed17_B m c t h0, index_weights_later]
      rfl
  have h2 := congrFun ((blocks17 m c t (flush17 t)).trans e) (ix3 0 g r)
  rw [View.read_apply] at h2
  refine Eq.trans ?_ (h2.trans rfl)
  obtain ⟨e0, e1, e2⟩ := index17 t
  congr 1
  funext a
  apply Fin.ext
  match a with
  | ⟨0, _⟩ => show b.val = win0_17.index t 0 * 1 + 1 * 0; rw [e0]; omega
  | ⟨1, _⟩ => show g.val = win0_17.index t 1 * 8 + 1 * g.val; rw [e1]; omega
  | ⟨2, _⟩ => show s.val = win0_17.index t 2 * 512 + 1 * r.val; rw [e2]; omega

/-- An entry of the convolution half at a batch row's first block, where no rows are kept yet. -/
theorem array18_first (c : Dev nD) (t : Fin cfg0.N) (r : Fin 512) (d : Fin 512) (b : Fin 8) (s : Fin 4096) (hb : b.val = t.val / 8) (hs : s.val = t.val % 8 * 512 + r.val) (h0 : t.val % 8 = 0) :
    ((dats m 0 c).arrAt 18 cfg0.N : Vec Ideal S8x4096x512 .bf16) (ix3 b s d)
      = (branch (F := Ideal) (hid m c t) (wts m c t) (iblk m c 9 t) (iblk m c 10 t) (iblk m c 11 t) (k0_pay17 (F := Ideal)) : Vec Ideal S1x512x512 .bf16) (ix3 0 r d) := by
  have e : (dats m 0 c).flushed 18 t = (cfg0.win 18).cut (grid0.coords t) (branch (F := Ideal) (hid m c t) (wts m c t) (iblk m c 9 t) (iblk m c 10 t) (iblk m c 11 t) (k0_pay17 (F := Ideal)) : Vec Ideal S1x512x512 .bf16) := by
    rw [flushed18_A m c t h0, branch_first]
    rfl
  have h2 := congrFun ((blocks18 m c t (flush18 t)).trans e) (ix3 0 r d)
  rw [View.read_apply] at h2
  refine Eq.trans ?_ (h2.trans rfl)
  obtain ⟨e0, e1, e2⟩ := index18 t
  congr 1
  funext a
  apply Fin.ext
  match a with
  | ⟨0, _⟩ => show b.val = win0_18.index t 0 * 1 + 1 * 0; rw [e0]; omega
  | ⟨1, _⟩ => show s.val = win0_18.index t 1 * 512 + 1 * r.val; rw [e1]; omega
  | ⟨2, _⟩ => show d.val = win0_18.index t 2 * 512 + 1 * d.val; rw [e2]; omega

/-- An entry of the convolution half at a later block, with the rows the block before kept. -/
theorem array18_later (c : Dev nD) (t : Fin cfg0.N) (r : Fin 512) (d : Fin 512) (b : Fin 8) (s : Fin 4096) (hb : b.val = t.val / 8) (hs : s.val = t.val % 8 * 512 + r.val) (h0 : ¬t.val % 8 = 0) (p : Fin cfg0.N) (hp : p.val = t.val - 1) :
    ((dats m 0 c).arrAt 18 cfg0.N : Vec Ideal S8x4096x512 .bf16) (ix3 b s d)
      = (branch (F := Ideal) (hid m c t) (wts m c t) (iblk m c 9 t) (iblk m c 10 t) (iblk m c 11 t) (keptRows m c p) : Vec Ideal S1x512x512 .bf16) (ix3 0 r d) := by
  have e : (dats m 0 c).flushed 18 t = (cfg0.win 18).cut (grid0.coords t) (branch (F := Ideal) (hid m c t) (wts m c t) (iblk m c 9 t) (iblk m c 10 t) (iblk m c 11 t) (keptRows m c p) : Vec Ideal S1x512x512 .bf16) := by
    have hk : (outsAt0 m c (t.val - 1) (by have := t.isLt; omega)).2.2.2.2.2.2.2 = keptRows m c p := by
      obtain ⟨p, hlt⟩ := p
      dsimp only at hp
      subst hp
      exact kept_after m c ⟨t.val - 1, hlt⟩
    rw [flushed18_B m c t h0, branch_later, hk]
    rfl
  have h2 := congrFun ((blocks18 m c t (flush18 t)).trans e) (ix3 0 r d)
  rw [View.read_apply] at h2
  refine Eq.trans ?_ (h2.trans rfl)
  obtain ⟨e0, e1, e2⟩ := index18 t
  congr 1
  funext a
  apply Fin.ext
  match a with
  | ⟨0, _⟩ => show b.val = win0_18.index t 0 * 1 + 1 * 0; rw [e0]; omega
  | ⟨1, _⟩ => show s.val = win0_18.index t 1 * 512 + 1 * r.val; rw [e1]; omega
  | ⟨2, _⟩ => show d.val = win0_18.index t 2 * 512 + 1 * d.val; rw [e2]; omega

end Cert.Kernel3Ideal.Pre
end
-- ==== Proof.PreStages.lean ====
/-
  The input projection's reference read at an index.
-/
module

public import proofs.«01_k».proof.Proof.PreRun
public import proofs.«01_k».proof.Proof.Gen.Reference3Ideal.Read

@[expose] public section

set_option maxRecDepth 16384

noncomputable section

namespace Cert.Reference3Ideal.Pre

open Cert.Reference3Ideal Cert.Reference3Ideal.Read Idealize.ShloMosaic Idealize.ShloMosaic.TcCoe Idealize.SL.Sem
open scoped BigOperators

variable (x0 : Vec Ideal S8x4096x1024 .f32) (x1 : Vec Ideal S8x6x1024 .f32) (x2 : Vec Ideal S1024 .f32) (x3 : Vec Ideal S1024x3656 .f32)
  (x4 : Vec Ideal S64 .f32) (x5 : Vec Ideal S64 .f32) (x6 : Vec Ideal S3x512 .f32) (x7 : Vec Ideal S8x64 .f32)

/-- The modulated norm of a token: its root-mean-square norm with the layer's gain, scaled and shifted by two modulation rows. -/
def act (b : Fin 8) (t : Fin 4096) (d : Fin 1024) : EReal :=
  x0 (ix3 b t d) * Ideal.rsqrt (Ideal.div (∑ x : Fin 1024, x0 (ix3 b t x) * x0 (ix3 b t x)) (Ideal.ofBits .f32 0x44800000#32) + Ideal.ofBits .f32 0x358637BD#32)
      * x2 (ix1 d) * (1 + x1 (ix3 b 1 d)) + x1 (ix3 b 0 d)

/-- A column of the input projection of a token. -/
def proj (b : Fin 8) (t : Fin 4096) (n : Fin 3656) : EReal := ∑ k : Fin 1024, act x0 x1 x2 b t k * x3 (ix2 k n)

/-- The convolution's input at a token: the product of two columns of the projection. -/
def convInput (b : Fin 8) (t : Fin 4096) (d : Fin 512) : EReal :=
  proj x0 x1 x2 x3 b t ⟨2632 + d.val, by omega⟩ * proj x0 x1 x2 x3 b t ⟨3144 + d.val, by omega⟩

/-- The convolution's input some tokens earlier, zero before the first token. -/
def earlier (n : ℕ) (b : Fin 8) (t : Fin 4096) (d : Fin 512) : EReal :=
  if h : n ≤ t.val then convInput x0 x1 x2 x3 b ⟨t.val - n, by omega⟩ d else 0

/-- The gated causal convolution with three taps. -/
def gatedConv (b : Fin 8) (t : Fin 4096) (d : Fin 512) : EReal :=
  proj x0 x1 x2 x3 b t ⟨2120 + d.val, by omega⟩
    * (x6 (ix2 0 d) * earlier x0 x1 x2 x3 2 b t d + x6 (ix2 1 d) * earlier x0 x1 x2 x3 1 b t d + x6 (ix2 2 d) * convInput x0 x1 x2 x3 b t d)

/-- Lanes normed by the root mean square of their head's 64 lanes. -/
def headNorm (y : Fin 512 → EReal) (d : Fin 512) : EReal :=
  y d * Ideal.rsqrt (Ideal.div (∑ x : Fin 64, y ⟨d.val / 64 * 64 + x.val, by omega⟩ * y ⟨d.val / 64 * 64 + x.val, by omega⟩) (Ideal.ofBits .f32 0x42800000#32)
    + Ideal.ofBits .f32 0x358637BD#32)

/-- An entry of the modulated norm. -/
theorem act_apply (b : Fin 8) (t : Fin 4096) (d : Fin 1024) :
    val_main_v20 (F := Ideal) x0 x1 x2 (ix3 b t d) = act x0 x1 x2 b t d := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_cst, val_main_cst_0, val_main_cst_1, val_main_cst_2]
  rfl

/-- An entry of the projection. -/
theorem proj_apply (b : Fin 8) (t : Fin 4096) (n : Fin 3656) :
    val_main_v21 (F := Ideal) x0 x1 x2 x3 (ix3 b t n) = proj x0 x1 x2 x3 b t n := by
  have h := act_apply x0 x1 x2 b t
  unfold val_main_v21
  generalize val_main_v20 (F := Ideal) x0 x1 x2 = y at h ⊢
  pointwise
  simp only [h]
  rfl

/-- An entry of the queries. -/
theorem queries_apply (b : Fin 8) (t : Fin 4096) (d : Fin 512) :
    val_main_v107 (F := Ideal) x0 x1 x2 x3 x4 (ix3 b t d) = headNorm (fun d => proj x0 x1 x2 x3 b t ⟨d.val, by omega⟩) d * x4 (ix1 ⟨d.val % 64, by omega⟩) * Ideal.ofBits .f32 0x3E38AA3B#32 := by
  have h := proj_apply x0 x1 x2 x3 b
  unfold val_main_v107 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v22 val_main_cst_3 val_main_cst_4 val_main_cst_5 val_main_cst_6
  generalize val_main_v21 (F := Ideal) x0 x1 x2 x3 = y at h ⊢
  pointwise
  simp only [h]
  rfl

/-- An entry of the keys. -/
theorem keys_apply (b : Fin 8) (t : Fin 4096) (d : Fin 512) :
    val_main_v108 (F := Ideal) x0 x1 x2 x3 x5 (ix3 b t d) = headNorm (fun d => proj x0 x1 x2 x3 b t ⟨512 + d.val, by omega⟩) d * x5 (ix1 ⟨d.val % 64, by omega⟩) := by
  have h := proj_apply x0 x1 x2 x3 b
  unfold val_main_v108 val_main_v62 val_main_v61 val_main_v60 val_main_v59 val_main_v58 val_main_v57 val_main_v56 val_main_v55 val_main_v54 val_main_v53 val_main_v52 val_main_v51 val_main_v50 val_main_v49 val_main_v48 val_main_v23 val_main_cst_7 val_main_cst_8 val_main_cst_9
  generalize val_main_v21 (F := Ideal) x0 x1 x2 x3 = y at h ⊢
  pointwise
  simp only [h]
  rfl

/-- An entry of the values. -/
theorem values_apply (b : Fin 8) (w : Fin 16) (d : Fin 512) (r : Fin 256) :
    val_main_v109 (F := Ideal) x0 x1 x2 x3 (ix4 b w d r) = proj x0 x1 x2 x3 b ⟨w.val * 256 + r.val, by omega⟩ ⟨1024 + d.val, by omega⟩ := by
  have h := proj_apply x0 x1 x2 x3 b
  unfold val_main_v109 val_main_v106 val_main_v105 val_main_v24
  generalize val_main_v21 (F := Ideal) x0 x1 x2 x3 = y at h ⊢
  pointwise
  exact h _ _

/-- An entry of the indexer's queries. -/
theorem index_queries_apply (b : Fin 8) (t : Fin 4096) (d : Fin 512) :
    val_main_v110 (F := Ideal) x0 x1 x2 x3 (ix3 b t d) = proj x0 x1 x2 x3 b t ⟨1536 + d.val, by omega⟩ := by
  have h := proj_apply x0 x1 x2 x3 b
  unfold val_main_v110 val_main_v25
  generalize val_main_v21 (F := Ideal) x0 x1 x2 x3 = y at h ⊢
  pointwise
  exact h _ _

/-- An entry of the indexer's keys. -/
theorem index_keys_apply (b : Fin 8) (t : Fin 4096) (d : Fin 128) :
    val_main_v112 (F := Ideal) x0 x1 x2 x3 (ix3 b t d) = proj x0 x1 x2 x3 b t ⟨2048 + d.val % 64, by omega⟩ := by
  have h := proj_apply x0 x1 x2 x3 b
  unfold val_main_v112 val_main_v111 val_main_v26
  generalize val_main_v21 (F := Ideal) x0 x1 x2 x3 = y at h ⊢
  pointwise
  by_cases hd : d.val < 64
  · rw [dif_pos hd, h]
    congr 1
    apply Fin.ext
    dsimp only
    omega
  · rw [dif_neg hd, h]
    congr 1
    apply Fin.ext
    dsimp only
    omega

/-- An entry of the indexer's head weights. -/
theorem index_weights_apply (b : Fin 8) (g : Fin 8) (t : Fin 4096) :
    val_main_v113 (F := Ideal) x0 x1 x2 x3 (ix3 b g t) = proj x0 x1 x2 x3 b t ⟨2112 + g.val, by omega⟩ * Ideal.ofBits .f32 0x3D3504F3#32 := by
  have h := proj_apply x0 x1 x2 x3 b
  unfold val_main_v113 val_main_v64 val_main_v63 val_main_cst_10 val_main_v27
  generalize val_main_v21 (F := Ideal) x0 x1 x2 x3 = y at h ⊢
  pointwise
  exact congrArg (· * _) (h _ _)

/-- An entry of the convolution's input. -/
theorem convInput_apply (b : Fin 8) (t : Fin 4096) (d : Fin 512) :
    val_main_v65 (F := Ideal) x0 x1 x2 x3 (ix3 b t d) = convInput x0 x1 x2 x3 b t d := by
  have h := proj_apply x0 x1 x2 x3 b
  unfold val_main_v65 val_main_v29 val_main_v30
  generalize val_main_v21 (F := Ideal) x0 x1 x2 x3 = y at h ⊢
  pointwise
  simp only [h]
  rfl

/-- An entry of the input padded by two zero rows. -/
theorem padded_apply (b : Fin 8) (t : Fin 4096) (n : ℕ) (hn : n ≤ 2) (s : Fin 4098) (hs : s.val = 2 - n + t.val) (d : Fin 512) :
    val_main_v66 (F := Ideal) x0 x1 x2 x3 (ix3 b s d) = earlier x0 x1 x2 x3 n b t d := by
  have h := convInput_apply x0 x1 x2 x3 b
  unfold val_main_v66 val_main_call0_v0 val_main_c
  generalize val_main_v65 (F := Ideal) x0 x1 x2 x3 = y at h ⊢
  pointwise
  unfold earlier
  by_cases hd : n ≤ t.val
  · rw [dif_pos hd, dif_pos ⟨by omega, by omega⟩, h]
    congr 1
    apply Fin.ext
    dsimp only
    omega
  · rw [dif_neg hd, dif_neg (by omega)]
    show (((0#32 : BitVec 32).toInt : ℝ) : EReal) = 0
    norm_num

/-- No rows back is the row itself. -/
theorem earlier_zero (b : Fin 8) (t : Fin 4096) (d : Fin 512) : earlier x0 x1 x2 x3 0 b t d = convInput x0 x1 x2 x3 b t d := dif_pos (Nat.zero_le _)

/-- An entry of the gated convolution. -/
theorem gatedConv_apply (b : Fin 8) (t : Fin 4096) (d : Fin 512) :
    val_main_v89 (F := Ideal) x0 x1 x2 x3 x6 (ix3 b t d) = gatedConv x0 x1 x2 x3 x6 b t d := by
  have h := proj_apply x0 x1 x2 x3 b t
  have h0 := padded_apply x0 x1 x2 x3 b t 2 (by omega) ⟨t.val, by omega⟩ (by simp) d
  have h1 := padded_apply x0 x1 x2 x3 b t 1 (by omega) ⟨1 + t.val, by omega⟩ (by simp) d
  have h2 := padded_apply x0 x1 x2 x3 b t 0 (by omega) ⟨2 + t.val, by omega⟩ (by simp) d
  rw [earlier_zero] at h2
  unfold val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v28 val_main_cst_11
  generalize val_main_v66 (F := Ideal) x0 x1 x2 x3 = z at h0 h1 h2 ⊢
  generalize val_main_v21 (F := Ideal) x0 x1 x2 x3 = y at h ⊢
  pointwise
  simp only [h, h0, h1, h2]
  rfl

/-- An entry of the convolution half. -/
theorem branch_apply (b : Fin 8) (t : Fin 4096) (d : Fin 512) :
    val_main_v114 (F := Ideal) x0 x1 x2 x3 x6 x7 (ix3 b t d) = headNorm (gatedConv x0 x1 x2 x3 x6 b t) d * x7 (ix2 ⟨d.val / 64, by omega⟩ ⟨d.val % 64, by omega⟩) := by
  have h := gatedConv_apply x0 x1 x2 x3 x6 b
  unfold val_main_v114 val_main_v104 val_main_v103 val_main_v102 val_main_v101 val_main_v100 val_main_v99 val_main_v98 val_main_v97 val_main_v96 val_main_v95 val_main_v94 val_main_v93 val_main_v92 val_main_v91 val_main_v90 val_main_cst_12 val_main_cst_13 val_main_cst_14
  generalize val_main_v89 (F := Ideal) x0 x1 x2 x3 x6 = y at h ⊢
  pointwise
  simp only [h]
  rfl

end Cert.Reference3Ideal.Pre
end
-- ==== Proof.PreEq.lean ====
/-
  The input-projection kernel's seven results are the reference's.
-/
module

public import proofs.«01_k».proof.Proof.PreArrays
public import proofs.«01_k».proof.Proof.PreStages

@[expose] public section

set_option maxRecDepth 16384

noncomputable section

namespace Cert.Kernel3Ideal.Pre

open Cert.Kernel3Ideal Cert.Kernel3Ideal.Gen Cert.Kernel3Ideal.Value Idealize.ShloMosaic Idealize.ShloMosaic.TcCoe Idealize.SL.Sem
open Cert.Reference3Ideal.Pre (act proj convInput earlier gatedConv headNorm)
open scoped BigOperators

/-! ## Payloads at an index -/

/-- An entry of a block's modulated norm. -/
theorem hidden_apply (x0 : Vec Ideal S1x512x1024 .f32) (x1 : Vec Ideal S1x6x1024 .f32) (x2 : Vec Ideal S1x1024 .f32) (r : Fin 512) (k : Fin 1024) :
    hidden x0 x1 x2 (ix2 r k) = (x0 (ix3 0 r k) * Ideal.rsqrt (Ideal.div (∑ x : Fin 1024, x0 (ix3 0 r x) * x0 (ix3 0 r x)) (Ideal.ofBits .f32 0x44800000#32) + Ideal.ofBits .f32 0x358637BD#32)
      * x2 (ix2 0 k) * (1 + x1 (ix3 0 1 k)) + x1 (ix3 0 0 k) : EReal) := by
  unfold hidden
  pointwise [k0_pay2]
  rfl

/-- A product of the norms with a block of columns. -/
def prod (hb : FVec Ideal S512x1024 .bf16) (w : Vec Ideal S1024x512 .bf16) (r d : Fin 512) : EReal := ∑ x : Fin 1024, hb (ix2 r x) * w (ix2 x d)

/-- Lanes normed by products with a matrix of averages. -/
def averaged (g : Vec Ideal S512x512 .bf16) (y : Fin 512 → EReal) (d : Fin 512) : EReal :=
  y d * Ideal.rsqrt ((∑ x : Fin 512, y x * y x * g (ix2 x d)) + Ideal.ofBits .f32 0x358637BD#32)

/-- An entry of the queries' product. -/
theorem projected_apply (x0 : Vec Ideal S1x512x1024 .f32) (x1 : Vec Ideal S1x6x1024 .f32) (x2 : Vec Ideal S1x1024 .f32) (w : Vec Ideal S1024x512 .bf16) (r d : Fin 512) :
    k0_pay3 x0 x2 (modRow 1 x1) (modRow 0 x1) w (ix2 r d) = prod (hidden x0 x1 x2) w r d := by
  unfold k0_pay3
  show matmul dot_S512x1024_S1024x512_S512x512_1_0_0_1_n_n none (hidden x0 x1 x2) _ _ _ = _
  generalize hidden x0 x1 x2 = hb
  pointwise
  rfl

/-- An entry of a block of queries: the product over the root of its averaged square plus the small constant, times the scale. -/
theorem queries_block (x0 : Vec Ideal S1x512x1024 .f32) (x1 : Vec Ideal S1x6x1024 .f32) (x2 : Vec Ideal S1x1024 .f32) (w : Vec Ideal S1024x512 .bf16)
    (g : Vec Ideal S512x512 .bf16) (s : Vec Ideal S1x512 .f32) (r d : Fin 512) :
    k0_pay6 (k0_pay3 x0 x2 (modRow 1 x1) (modRow 0 x1) w) (k0_pay4 x0 x2 (modRow 1 x1) (modRow 0 x1) w g) k0_pay5 s (ix3 0 r d)
      = averaged g (prod (hidden x0 x1 x2) w r) d * s (ix2 0 d) := by
  have h := projected_apply x0 x1 x2 w r
  unfold k0_pay4
  generalize k0_pay3 x0 x2 (modRow 1 x1) (modRow 0 x1) w = y at h ⊢
  pointwise [k0_pay6, k0_pay5]
  simp only [h]
  rfl

/-- The same for the keys. -/
theorem keys_block (hb : FVec Ideal S512x1024 .bf16) (w : Vec Ideal S1024x512 .bf16) (g : Vec Ideal S512x512 .bf16) (s : Vec Ideal S1x512 .f32) (r d : Fin 512) :
    k0_pay7 hb w g s (ix3 0 r d) = averaged g (prod hb w r) d * s (ix2 0 d) := by
  pointwise [k0_pay7]
  rfl

/-- An entry of a block of values. -/
theorem values_block (hb : FVec Ideal S512x1024 .bf16) (w : Vec Ideal S512x1024 .bf16) (q : Fin 2) (d : Fin 512) (r : Fin 256) :
    valueTiles hb w (ix4 0 q d r) = ∑ x : Fin 1024, (w (ix2 d x) * hb (ix2 ⟨256 * q.val + r.val, by omega⟩ x) : EReal) := by
  show k0_pay8 hb w (ix2 d ⟨256 * q.val + r.val, _⟩) = _
  pointwise [k0_pay8]

/-- An entry of a block of the indexer's queries. -/
theorem index_queries_block (hb : FVec Ideal S512x1024 .bf16) (w : Vec Ideal S1024x512 .bf16) (r d : Fin 512) :
    k0_pay12 hb w (ix3 0 r d) = prod hb w r d := by
  pointwise [k0_pay12]
  rfl

/-- An entry of a block of the indexer's keys. -/
theorem index_keys_block (hb : FVec Ideal S512x1024 .bf16) (w : Vec Ideal S1024x128 .bf16) (r : Fin 512) (d : Fin 128) :
    k0_pay13 hb w (ix3 0 r d) = ∑ x : Fin 1024, (hb (ix2 r x) * w (ix2 x d) : EReal) := by
  pointwise [k0_pay13]

/-- An entry of a block of the indexer's head weights. -/
theorem index_weights_block (hb : FVec Ideal S512x1024 .bf16) (w : Vec Ideal S8x1024 .bf16) (r : Fin 512) (g : Fin 8) :
    k0_pay14 hb w (ix3 0 g r) = (∑ x : Fin 1024, (w (ix2 g x) * hb (ix2 r x) : EReal)) * Ideal.ofBits .f32 0x3D3504F3#32 := by
  pointwise [k0_pay14]

/-- An entry of the convolution's gate. -/
theorem gate_block (hb : FVec Ideal S512x1024 .bf16) (w : Vec Ideal S1024x512 .bf16) (r d : Fin 512) :
    k0_pay15 hb w (ix2 r d) = prod hb w r d := by
  pointwise [k0_pay15]
  rfl

/-- An entry of the convolution's input: a product of two projections. -/
theorem input_block (hb : FVec Ideal S512x1024 .bf16) (w w' : Vec Ideal S1024x512 .bf16) (r d : Fin 512) :
    k0_pay16 hb w w' (ix2 r d) = prod hb w r d * prod hb w' r d := by
  pointwise [k0_pay16]
  rfl

/-- The kept rows are the input's last eight. -/
theorem kept_block (hb : FVec Ideal S512x1024 .bf16) (w w' : Vec Ideal S1024x512 .bf16) (r : Fin 8) (d : Fin 512) :
    k0_pay20 hb w w' (ix2 r d) = k0_pay16 hb w w' (ix2 ⟨504 + r.val, by omega⟩ d) := by
  unfold k0_pay20
  generalize k0_pay16 hb w w' = z
  pointwise

/-- The rows kept before the first block are zero. -/
theorem zero_rows (r : Fin 8) (d : Fin 512) : (k0_pay17 (F := Ideal)) (ix2 r d) = (0 : EReal) := by
  pointwise [k0_pay17]

/-- The test for the first row. -/
theorem row_zero : ∀ r : Fin 512, IntOp.cmpi .eq (BitVec.ofNat 32 r.val) 0#32 = BitVec.ofBool (decide (r.val = 0)) := by decide +kernel
/-- The test for the second row. -/
theorem row_one : ∀ r : Fin 512, IntOp.cmpi .eq (BitVec.ofNat 32 r.val) 1#32 = BitVec.ofBool (decide (r.val = 1)) := by decide +kernel

/-- A selection by a decided test is a conditional. -/
theorem select_if (p : Prop) [Decidable p] (a b : EReal) : Scalar.select (BitVec.ofBool (decide p)) a b = if p then a else b := by
  by_cases h : p
  · rw [if_pos h, decide_eq_true h]; rfl
  · rw [if_neg h, decide_eq_false h]; rfl

/-- The convolution's input one row back: at the first row the last kept row. -/
theorem one_back (hb : FVec Ideal S512x1024 .bf16) (w w' : Vec Ideal S1024x512 .bf16) (kept : Vec Ideal S8x512 .f32) (r d : Fin 512) :
    k0_pay18 hb w w' kept (ix2 r d) = if r.val = 0 then kept (ix2 7 d) else k0_pay16 hb w w' (ix2 ⟨(r.val + 512 - 1) % 512, by omega⟩ d) := by
  unfold k0_pay18
  generalize k0_pay16 hb w w' = z
  pointwise
  rw [row_zero, select_if]

/-- The convolution's input two rows back: at the first two rows the last two kept rows. -/
theorem two_back (hb : FVec Ideal S512x1024 .bf16) (w w' : Vec Ideal S1024x512 .bf16) (kept : Vec Ideal S8x512 .f32) (r d : Fin 512) :
    k0_pay19 hb w w' kept (ix2 r d) = if r.val = 1 then kept (ix2 7 d) else if r.val = 0 then kept (ix2 6 d) else k0_pay16 hb w w' (ix2 ⟨(r.val + 512 - 2) % 512, by omega⟩ d) := by
  unfold k0_pay19
  generalize k0_pay16 hb w w' = z
  pointwise
  rw [row_zero, row_one, select_if, select_if]

/-- The gated convolution of a block's row. -/
def gatedRow (a b c d : FVec Ideal S512x512 .f32) (t2 t1 t0 : Vec Ideal S1x512 .f32) (r x : Fin 512) : EReal :=
  a (ix2 r x) * (t2 (ix2 0 x) * b (ix2 r x) + t1 (ix2 0 x) * c (ix2 r x) + t0 (ix2 0 x) * d (ix2 r x))

/-- An entry of the convolution half of a block. -/
theorem branch_block (a b c d : FVec Ideal S512x512 .f32) (t2 t1 t0 : Vec Ideal S1x512 .f32) (g : Vec Ideal S512x512 .bf16) (s : Vec Ideal S1x512 .f32) (r k : Fin 512) :
    k0_pay1 a b c d t2 t1 t0 g s (ix3 0 r k) = averaged g (gatedRow a b c d t2 t1 t0 r) k * s (ix2 0 k) := by
  pointwise [k0_pay1]
  rfl

/-! ## The head averages -/

/-- Dividing by sixty-four is multiplying by its inverse. -/
theorem div_count (a : EReal) : Ideal.div a (Ideal.ofBits .f32 0x42800000#32) = a * ((1 / 64 : ℝ) : EReal) := by
  have h : Ideal.ofBits .f32 0x42800000#32 = ((64 : ℝ) : EReal) := by
    simp [Ideal.ofBits, Ideal.ieee, ← EReal.coe_mul]; norm_num
  rw [h, Ideal.div_coe (by norm_num)]

/-- A nonnegative real factor passes into a sum of extended reals. -/
theorem sum_mul_count {ι : Type} (s : Finset ι) (f : ι → EReal) : (∑ i ∈ s, f i) * ((1 / 64 : ℝ) : EReal) = ∑ i ∈ s, f i * ((1 / 64 : ℝ) : EReal) := by
  classical
  refine Finset.induction_on s ?_ ?_
  · simp
  · intro a s ha ih
    rw [Finset.sum_insert ha, Finset.sum_insert ha, ← ih]
    exact EReal.right_distrib_of_nonneg_of_ne_top (by exact_mod_cast (by norm_num : (0 : ℝ) ≤ 1 / 64)) (EReal.coe_ne_top _) _ _

/-- The product with the averaging table is the mean over the entry's own group of sixty-four. -/
theorem averaged_eq (g : Vec Ideal S512x512 .bf16)
    (hg : ∀ k j : Fin 512, g (ix2 k j) = Ideal.div (if k.val / 64 = j.val / 64 then (1 : EReal) else 0) (Ideal.ofBits .f32 0x42800000#32))
    (y : Fin 512 → EReal) (d : Fin 512) : averaged g y d = headNorm y d := by
  unfold averaged headNorm
  congr 3
  rw [div_count, sum_mul_count]
  refine (Finset.sum_congr rfl fun x _ => ?_ : _ = ∑ x : Fin 512, if x.val / 64 = d.val / 64 then y x * y x * ((1 / 64 : ℝ) : EReal) else 0).trans ?_
  · rw [hg, div_count]
    by_cases h : x.val / 64 = d.val / 64
    · rw [if_pos h, if_pos h, one_mul]
    · rw [if_neg h, if_neg h, zero_mul, mul_zero]
  · rw [← Finset.sum_filter]
    symm
    refine Finset.sum_bij (fun (x : Fin 64) _ => (⟨d.val / 64 * 64 + x.val, by omega⟩ : Fin 512)) ?_ ?_ ?_ ?_
    · intro x _
      exact Finset.mem_filter.mpr ⟨Finset.mem_univ _, show (d.val / 64 * 64 + x.val) / 64 = d.val / 64 by omega⟩
    · intro x _ x' _ e
      have e' := congrArg Fin.val e
      apply Fin.ext
      dsimp only at e'
      omega
    · intro x hx
      have h := (Finset.mem_filter.mp hx).2
      refine ⟨⟨x.val % 64, by omega⟩, Finset.mem_univ _, ?_⟩
      apply Fin.ext
      dsimp only
      omega
    · intro x _
      rfl

/-! ## The seven results -/

variable (m : (ℓ : Loc nD τ sig) → Buf (Elt Ideal) ℓ)

/-- A row of a point's modulated norm is the reference's row at its place. -/
theorem hid_apply (c : Dev nD) (t : Fin cfg0.N) (r : Fin 512) (b : Fin 8) (s : Fin 4096) (hb : b.val = t.val / 8) (hs : s.val = t.val % 8 * 512 + r.val) (k : Fin 1024) :
    hid m c t (ix2 r k) = act (m ((c : Thread nD τ).loc main_arg0)) (m ((c : Thread nD τ).loc main_arg1)) (m ((c : Thread nD τ).loc main_arg2)) b s k := by
  unfold hid act
  rw [hidden_apply, blk0 m c t r k b s hb hs, blk1 m c t 1 k b hb, blk1 m c t 0 k b hb, blk2]
  simp only [blk0 m c t r _ b s hb hs]

/-- A product of a point's norms with columns of the projection's weights is those columns of the projection. -/
theorem prod_apply (c : Dev nD) (t : Fin cfg0.N) (r : Fin 512) (b : Fin 8) (s : Fin 4096) (hb : b.val = t.val / 8) (hs : s.val = t.val % 8 * 512 + r.val)
    (w : Vec Ideal S1024x512 .bf16) (d : Fin 512) (n : Fin 3656) (hw : ∀ k : Fin 1024, w (ix2 k d) = (m ((c : Thread nD τ).loc main_arg3) : Vec Ideal S1024x3656 .f32) (ix2 k n)) :
    prod (hid m c t) w r d = proj (m ((c : Thread nD τ).loc main_arg0)) (m ((c : Thread nD τ).loc main_arg1)) (m ((c : Thread nD τ).loc main_arg2)) (m ((c : Thread nD τ).loc main_arg3)) b s n := by
  unfold prod proj
  refine Finset.sum_congr rfl fun k _ => ?_
  rw [hid_apply m c t r b s hb hs, hw]

/-- Every index of three axes is given by its three coordinates. -/
theorem split3 {p q n : ℕ} (i : (⟨3, ![p, q, n]⟩ : Shape).Idx) : ∃ (b : Fin p) (s : Fin q) (d : Fin n), i = ix3 b s d :=
  ⟨i 0, i 1, i 2, funext fun a => match a with | ⟨0, _⟩ => rfl | ⟨1, _⟩ => rfl | ⟨2, _⟩ => rfl⟩

/-- Every index of four axes is given by its four coordinates. -/
theorem split4 {p q n l : ℕ} (i : (⟨4, ![p, q, n, l]⟩ : Shape).Idx) : ∃ (b : Fin p) (w : Fin q) (d : Fin n) (r : Fin l), i = ix4 b w d r :=
  ⟨i 0, i 1, i 2, i 3, funext fun a => match a with | ⟨0, _⟩ => rfl | ⟨1, _⟩ => rfl | ⟨2, _⟩ => rfl | ⟨3, _⟩ => rfl⟩

/-- A token's grid point and its row of the point's block. -/
theorem place (b : Fin 8) (s : Fin 4096) : ∃ (t : Fin cfg0.N) (r : Fin 512), b.val = t.val / 8 ∧ s.val = t.val % 8 * 512 + r.val :=
  ⟨⟨b.val * 8 + s.val / 512, show b.val * 8 + s.val / 512 < 64 by omega⟩, ⟨s.val % 512, by omega⟩,
    show b.val = (b.val * 8 + s.val / 512) / 8 by omega, show s.val = (b.val * 8 + s.val / 512) % 8 * 512 + s.val % 512 by omega⟩

/-- An entry of a point's block of queries is the reference's. -/
theorem queries_entry (c : Dev nD) (t : Fin cfg0.N) (r : Fin 512) (b : Fin 8) (s : Fin 4096) (hb : b.val = t.val / 8) (hs : s.val = t.val % 8 * 512 + r.val) (d : Fin 512) :
    k0_pay6 (F := Ideal) (k0_pay3 (iblk m c 0 t) (iblk m c 2 t) (modRow 1 (iblk m c 1 t)) (modRow 0 (iblk m c 1 t)) (colsFrom 0 (by omega) (wts m c t)))
      (k0_pay4 (iblk m c 0 t) (iblk m c 2 t) (modRow 1 (iblk m c 1 t)) (modRow 0 (iblk m c 1 t)) (colsFrom 0 (by omega) (wts m c t)) (iblk m c 11 t)) k0_pay5 (iblk m c 7 t) (ix3 0 r d)
      = headNorm (fun d => proj (m ((c : Thread nD τ).loc main_arg0)) (m ((c : Thread nD τ).loc main_arg1)) (m ((c : Thread nD τ).loc main_arg2)) (m ((c : Thread nD τ).loc main_arg3)) b s ⟨d.val, by omega⟩) d * (m ((c : Thread nD τ).loc main_arg4) : Vec Ideal S64 .f32) (ix1 ⟨d.val % 64, by omega⟩) * Ideal.ofBits .f32 0x3E38AA3B#32 := by
  rw [queries_block, averaged_eq _ (blk11 m c t), blk7]
  have e : (prod (hidden (F := Ideal) (iblk m c 0 t) (iblk m c 1 t) (iblk m c 2 t)) (colsFrom 0 (by omega) (wts m c t)) r)
      = fun d => proj (m ((c : Thread nD τ).loc main_arg0)) (m ((c : Thread nD τ).loc main_arg1)) (m ((c : Thread nD τ).loc main_arg2)) (m ((c : Thread nD τ).loc main_arg3)) b s ⟨d.val, by omega⟩ :=
    funext fun d => prod_apply m c t r b s hb hs _ d _ fun k => (cols0 m c t k d).trans (by congr 2; apply Fin.ext; exact Nat.zero_add _)
  rw [e]
  exact (mul_assoc _ _ _).symm

/-- The queries. -/
theorem queries_eq (c : Dev nD) : (dats m 0 c).arrAt 12 cfg0.N = Cert.Reference3Ideal.Read.val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨b, s, d, rfl⟩ := split3 i
  obtain ⟨t, r, hb, hs⟩ := place b s
  rw [Cert.Reference3Ideal.Pre.queries_apply]
  exact (array12 m c t r d b s hb hs).trans (queries_entry m c t r b s hb hs d)

/-- An entry of a point's block of keys is the reference's. -/
theorem keys_entry (c : Dev nD) (t : Fin cfg0.N) (r : Fin 512) (b : Fin 8) (s : Fin 4096) (hb : b.val = t.val / 8) (hs : s.val = t.val % 8 * 512 + r.val) (d : Fin 512) :
    k0_pay7 (F := Ideal) (hid m c t) (colsFrom 512 (by omega) (wts m c t)) (iblk m c 11 t) (iblk m c 8 t) (ix3 0 r d)
      = headNorm (fun d => proj (m ((c : Thread nD τ).loc main_arg0)) (m ((c : Thread nD τ).loc main_arg1)) (m ((c : Thread nD τ).loc main_arg2)) (m ((c : Thread nD τ).loc main_arg3)) b s ⟨512 + d.val, by omega⟩) d * (m ((c : Thread nD τ).loc main_arg5) : Vec Ideal S64 .f32) (ix1 ⟨d.val % 64, by omega⟩) := by
  rw [keys_block, averaged_eq _ (blk11 m c t), blk8]
  have e : prod (hid m c t) (colsFrom 512 (by omega) (wts m c t)) r
      = fun d => proj (m ((c : Thread nD τ).loc main_arg0)) (m ((c : Thread nD τ).loc main_arg1)) (m ((c : Thread nD τ).loc main_arg2)) (m ((c : Thread nD τ).loc main_arg3)) b s ⟨512 + d.val, by omega⟩ :=
    funext fun d => prod_apply m c t r b s hb hs _ d _ fun k => cols512 m c t k d
  rw [e]

/-- The keys. -/
theorem keys_eq (c : Dev nD) : (dats m 0 c).arrAt 13 cfg0.N = Cert.Reference3Ideal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  funext i
  obtain ⟨b, s, d, rfl⟩ := split3 i
  obtain ⟨t, r, hb, hs⟩ := place b s
  rw [Cert.Reference3Ideal.Pre.keys_apply]
  exact (array13 m c t r d b s hb hs).trans (keys_entry m c t r b s hb hs d)

/-- An entry of a point's block of values is the reference's. -/
theorem values_entry (c : Dev nD) (t : Fin cfg0.N) (q : Fin 2) (d : Fin 512) (r : Fin 256) (b : Fin 8) (u : Fin 16) (hb : b.val = t.val / 8) (hu : u.val = t.val % 8 * 2 + q.val) :
    valueTiles (F := Ideal) (hid m c t) (iblk m c 4 t) (ix4 0 q d r) = proj (m ((c : Thread nD τ).loc main_arg0)) (m ((c : Thread nD τ).loc main_arg1)) (m ((c : Thread nD τ).loc main_arg2)) (m ((c : Thread nD τ).loc main_arg3)) b ⟨u.val * 256 + r.val, by omega⟩ ⟨1024 + d.val, by omega⟩ := by
  rw [values_block]
  unfold proj
  refine Finset.sum_congr rfl fun k _ => ?_
  rw [blk4, hid_apply m c t ⟨256 * q.val + r.val, by omega⟩ b ⟨u.val * 256 + r.val, by omega⟩ hb (by dsimp only; omega)]
  exact mul_comm _ _

/-- The values, transposed tile by tile. -/
theorem values_eq (c : Dev nD) : (dats m 0 c).arrAt 14 cfg0.N = Cert.Reference3Ideal.Read.val_main_v109 (F := Ideal) (m ((c : Thread nD τ).loc main_arg0)) (m ((c : Thread nD τ).loc main_arg1)) (m ((c : Thread nD τ).loc main_arg2)) (m ((c : Thread nD τ).loc main_arg3)) := by
  funext i
  obtain ⟨b, u, d, r, rfl⟩ := split4 i
  obtain ⟨t, q, hb, hu⟩ : ∃ (t : Fin cfg0.N) (q : Fin 2), b.val = t.val / 8 ∧ u.val = t.val % 8 * 2 + q.val :=
    ⟨⟨b.val * 8 + u.val / 2, show b.val * 8 + u.val / 2 < 64 by omega⟩, ⟨u.val % 2, by omega⟩,
      show b.val = (b.val * 8 + u.val / 2) / 8 by omega, show u.val = (b.val * 8 + u.val / 2) % 8 * 2 + u.val % 2 by omega⟩
  rw [Cert.Reference3Ideal.Pre.values_apply]
  exact (array14 m c t q d r b u hb hu).trans (values_entry m c t q d r b u hb hu)

/-- The indexer's queries. -/
theorem index_queries_eq (c : Dev nD) : (dats m 0 c).arrAt 15 cfg0.N = Cert.Reference3Ideal.Read.val_main_v110 (F := Ideal) (m ((c : Thread nD τ).loc main_arg0)) (m ((c : Thread nD τ).loc main_arg1)) (m ((c : Thread nD τ).loc main_arg2)) (m ((c : Thread nD τ).loc main_arg3)) := by
  funext i
  obtain ⟨b, s, d, rfl⟩ := split3 i
  obtain ⟨t, r, hb, hs⟩ := place b s
  rw [Cert.Reference3Ideal.Pre.index_queries_apply]
  exact (array15 m c t r d b s hb hs).trans ((index_queries_block _ _ r d).trans (prod_apply m c t r b s hb hs _ d _ fun k => cols1024 m c t k d))

/-- An entry of a point's block of the indexer's keys is the reference's. -/
theorem index_keys_entry (c : Dev nD) (t : Fin cfg0.N) (r : Fin 512) (b : Fin 8) (s : Fin 4096) (hb : b.val = t.val / 8) (hs : s.val = t.val % 8 * 512 + r.val) (d : Fin 128) :
    k0_pay13 (F := Ideal) (hid m c t) (iblk m c 5 t) (ix3 0 r d) = proj (m ((c : Thread nD τ).loc main_arg0)) (m ((c : Thread nD τ).loc main_arg1)) (m ((c : Thread nD τ).loc main_arg2)) (m ((c : Thread nD τ).loc main_arg3)) b s ⟨2048 + d.val % 64, by omega⟩ := by
  rw [index_keys_block]
  unfold proj
  refine Finset.sum_congr rfl fun k _ => ?_
  rw [blk5, hid_apply m c t r b s hb hs]

/-- The indexer's keys, twice side by side. -/
theorem index_keys_eq (c : Dev nD) : (dats m 0 c).arrAt 16 cfg0.N = Cert.Reference3Ideal.Read.val_main_v112 (F := Ideal) (m ((c : Thread nD τ).loc main_arg0)) (m ((c : Thread nD τ).loc main_arg1)) (m ((c : Thread nD τ).loc main_arg2)) (m ((c : Thread nD τ).loc main_arg3)) := by
  funext i
  obtain ⟨b, s, d, rfl⟩ := split3 i
  obtain ⟨t, r, hb, hs⟩ := place b s
  rw [Cert.Reference3Ideal.Pre.index_keys_apply]
  exact (array16 m c t r d b s hb hs).trans (index_keys_entry m c t r b s hb hs d)

/-- An entry of a point's block of the indexer's head weights is the reference's. -/
theorem index_weights_entry (c : Dev nD) (t : Fin cfg0.N) (r : Fin 512) (b : Fin 8) (s : Fin 4096) (hb : b.val = t.val / 8) (hs : s.val = t.val % 8 * 512 + r.val) (g : Fin 8) :
    k0_pay14 (F := Ideal) (hid m c t) (iblk m c 6 t) (ix3 0 g r) = proj (m ((c : Thread nD τ).loc main_arg0)) (m ((c : Thread nD τ).loc main_arg1)) (m ((c : Thread nD τ).loc main_arg2)) (m ((c : Thread nD τ).loc main_arg3)) b s ⟨2112 + g.val, by omega⟩ * Ideal.ofBits .f32 0x3D3504F3#32 := by
  rw [index_weights_block]
  unfold proj
  refine congrArg (· * _) (Finset.sum_congr rfl fun k _ => ?_)
  rw [blk6, hid_apply m c t r b s hb hs]
  exact mul_comm _ _

/-- The indexer's head weights, transposed. -/
theorem index_weights_eq (c : Dev nD) : (dats m 0 c).arrAt 17 cfg0.N = Cert.Reference3Ideal.Read.val_main_v113 (F := Ideal) (m ((c : Thread nD τ).loc main_arg0)) (m ((c : Thread nD τ).loc main_arg1)) (m ((c : Thread nD τ).loc main_arg2)) (m ((c : Thread nD τ).loc main_arg3)) := by
  funext i
  obtain ⟨b, g, s, rfl⟩ := split3 i
  obtain ⟨t, r, hb, hs⟩ := place b s
  rw [Cert.Reference3Ideal.Pre.index_weights_apply]
  exact (array17 m c t r g b s hb hs).trans (index_weights_entry m c t r b s hb hs g)

/-! ## The convolution half -/

/-- A row of a point's convolution input. -/
theorem input_apply (c : Dev nD) (t : Fin cfg0.N) (r : Fin 512) (b : Fin 8) (s : Fin 4096) (hb : b.val = t.val / 8) (hs : s.val = t.val % 8 * 512 + r.val) (d : Fin 512) :
    k0_pay16 (F := Ideal) (hid m c t) (colsFrom 2048 (by omega) (wts m c t)) (colsFrom 2560 (by omega) (wts m c t)) (ix2 r d) = convInput (m ((c : Thread nD τ).loc main_arg0)) (m ((c : Thread nD τ).loc main_arg1)) (m ((c : Thread nD τ).loc main_arg2)) (m ((c : Thread nD τ).loc main_arg3)) b s d := by
  have h1 : prod (hid m c t) (colsFrom 2048 (by omega) (wts m c t)) r d = proj (m ((c : Thread nD τ).loc main_arg0)) (m ((c : Thread nD τ).loc main_arg1)) (m ((c : Thread nD τ).loc main_arg2)) (m ((c : Thread nD τ).loc main_arg3)) b s ⟨2632 + d.val, by omega⟩ := prod_apply m c t r b s hb hs _ d _ fun k => cols2048 m c t k d
  have h2 : prod (hid m c t) (colsFrom 2560 (by omega) (wts m c t)) r d = proj (m ((c : Thread nD τ).loc main_arg0)) (m ((c : Thread nD τ).loc main_arg1)) (m ((c : Thread nD τ).loc main_arg2)) (m ((c : Thread nD τ).loc main_arg3)) b s ⟨3144 + d.val, by omega⟩ := prod_apply m c t r b s hb hs _ d _ fun k => cols2560 m c t k d
  rw [input_block, h1, h2]
  rfl

/-- What the rows kept before a point must hold: the convolution's input of the two tokens before the point's first. -/
def Holds (c : Dev nD) (t : Fin cfg0.N) (b : Fin 8) (kept : Vec Ideal S8x512 .f32) : Prop :=
  ∀ (n : ℕ) (s : Fin 4096) (q : Fin 8) (d : Fin 512), n + q.val = 8 + (s.val - t.val % 8 * 512) → s.val / 512 = t.val % 8 → s.val % 512 < n → n ≤ 2 →
    kept (ix2 q d) = earlier (m ((c : Thread nD τ).loc main_arg0)) (m ((c : Thread nD τ).loc main_arg1)) (m ((c : Thread nD τ).loc main_arg2)) (m ((c : Thread nD τ).loc main_arg3)) n b s d

/-- At a batch row's first block the zero rows hold what comes before. -/
theorem holds_first (c : Dev nD) (t : Fin cfg0.N) (b : Fin 8) (h0 : t.val % 8 = 0) : Holds m c t b (k0_pay17 (F := Ideal)) := by
  intro n s q d _ h1 h2 h3
  rw [zero_rows]
  unfold earlier
  rw [dif_neg (by omega)]

/-- At a later block the rows kept by the block before hold what comes before. -/
theorem holds_later (c : Dev nD) (t p : Fin cfg0.N) (b : Fin 8) (h0 : ¬t.val % 8 = 0) (hp : p.val = t.val - 1) (hb : b.val = t.val / 8) : Holds m c t b (keptRows m c p) := by
  intro n s q d hq h1 h2 h3
  unfold keptRows earlier
  rw [kept_block, dif_pos (by omega)]
  exact input_apply m c p ⟨504 + q.val, by omega⟩ b ⟨s.val - n, by omega⟩ (by omega) (by dsimp only; omega) d

/-- The gated convolution of a point's row. -/
theorem row_eq (c : Dev nD) (t : Fin cfg0.N) (r : Fin 512) (b : Fin 8) (s : Fin 4096) (hb : b.val = t.val / 8) (hs : s.val = t.val % 8 * 512 + r.val)
    (kept : Vec Ideal S8x512 .f32) (hk : Holds m c t b kept) (d : Fin 512) :
    gatedRow (k0_pay15 (F := Ideal) (hid m c t) (colsFrom 1536 (by omega) (wts m c t))) (convIn (F := Ideal) (hid m c t) (wts m c t))
      (k0_pay18 (F := Ideal) (hid m c t) (colsFrom 2048 (by omega) (wts m c t)) (colsFrom 2560 (by omega) (wts m c t)) kept)
      (k0_pay19 (F := Ideal) (hid m c t) (colsFrom 2048 (by omega) (wts m c t)) (colsFrom 2560 (by omega) (wts m c t)) kept)
      (tapRow 2 (iblk m c 9 t)) (tapRow 1 (iblk m c 9 t)) (tapRow 0 (iblk m c 9 t)) r d = gatedConv (m ((c : Thread nD τ).loc main_arg0)) (m ((c : Thread nD τ).loc main_arg1)) (m ((c : Thread nD τ).loc main_arg2)) (m ((c : Thread nD τ).loc main_arg3)) (m ((c : Thread nD τ).loc main_arg6)) b s d := by
  have e0 : (convIn (F := Ideal) (hid m c t) (wts m c t)) (ix2 r d) = convInput (m ((c : Thread nD τ).loc main_arg0)) (m ((c : Thread nD τ).loc main_arg1)) (m ((c : Thread nD τ).loc main_arg2)) (m ((c : Thread nD τ).loc main_arg3)) b s d := input_apply m c t r b s hb hs d
  have e1 : k0_pay18 (F := Ideal) (hid m c t) (colsFrom 2048 (by omega) (wts m c t)) (colsFrom 2560 (by omega) (wts m c t)) kept (ix2 r d) = earlier (m ((c : Thread nD τ).loc main_arg0)) (m ((c : Thread nD τ).loc main_arg1)) (m ((c : Thread nD τ).loc main_arg2)) (m ((c : Thread nD τ).loc main_arg3)) 1 b s d := by
    rw [one_back]
    by_cases h : r.val = 0
    · rw [if_pos h]
      exact hk 1 s 7 d (by show 1 + 7 = _; omega) (by omega) (by omega) (by omega)
    · rw [if_neg h]
      unfold earlier
      rw [dif_pos (by omega)]
      exact input_apply m c t _ b ⟨s.val - 1, by omega⟩ hb (by dsimp only; omega) d
  have e2 : k0_pay19 (F := Ideal) (hid m c t) (colsFrom 2048 (by omega) (wts m c t)) (colsFrom 2560 (by omega) (wts m c t)) kept (ix2 r d) = earlier (m ((c : Thread nD τ).loc main_arg0)) (m ((c : Thread nD τ).loc main_arg1)) (m ((c : Thread nD τ).loc main_arg2)) (m ((c : Thread nD τ).loc main_arg3)) 2 b s d := by
    rw [two_back]
    by_cases h : r.val = 1
    · rw [if_pos h]
      exact hk 2 s 7 d (by show 2 + 7 = _; omega) (by omega) (by omega) (by omega)
    · rw [if_neg h]
      by_cases h' : r.val = 0
      · rw [if_pos h']
        exact hk 2 s 6 d (by show 2 + 6 = _; omega) (by omega) (by omega) (by omega)
      · rw [if_neg h']
        unfold earlier
        rw [dif_pos (by omega)]
        exact input_apply m c t _ b ⟨s.val - 2, by omega⟩ hb (by dsimp only; omega) d
  have hg : prod (hid m c t) (colsFrom 1536 (by omega) (wts m c t)) r d = proj (m ((c : Thread nD τ).loc main_arg0)) (m ((c : Thread nD τ).loc main_arg1)) (m ((c : Thread nD τ).loc main_arg2)) (m ((c : Thread nD τ).loc main_arg3)) b s ⟨2120 + d.val, by omega⟩ := prod_apply m c t r b s hb hs _ d _ fun k => cols1536 m c t k d
  have w : ∀ k : Fin 3, tapRow k (iblk m c 9 t : Vec Ideal S3x512 .f32) (ix2 0 d) = (m ((c : Thread nD τ).loc main_arg6) : Vec Ideal S3x512 .f32) (ix2 k d) := fun k => blk9 m c t k d
  unfold gatedRow gatedConv
  rw [gate_block, hg, e0, e1, e2, w, w, w]
  refine congrArg (_ * ·) ?_
  rw [add_comm (_ * _ + _ * _) (_ * earlier _ _ _ _ 2 _ _ _), add_comm (_ * convInput _ _ _ _ _ _ _), add_assoc]

/-- An entry of a point's convolution half is the reference's, given that the kept rows hold what comes before. -/
theorem branch_entry (c : Dev nD) (t : Fin cfg0.N) (r : Fin 512) (b : Fin 8) (s : Fin 4096) (hb : b.val = t.val / 8) (hs : s.val = t.val % 8 * 512 + r.val)
    (kept : Vec Ideal S8x512 .f32) (hk : Holds m c t b kept) (d : Fin 512) :
    branch (F := Ideal) (hid m c t) (wts m c t) (iblk m c 9 t) (iblk m c 10 t) (iblk m c 11 t) kept (ix3 0 r d)
      = headNorm (gatedConv (m ((c : Thread nD τ).loc main_arg0)) (m ((c : Thread nD τ).loc main_arg1)) (m ((c : Thread nD τ).loc main_arg2)) (m ((c : Thread nD τ).loc main_arg3)) (m ((c : Thread nD τ).loc main_arg6)) b s) d * (m ((c : Thread nD τ).loc main_arg7) : Vec Ideal S8x64 .f32) (ix2 ⟨d.val / 64, by omega⟩ ⟨d.val % 64, by omega⟩) := by
  unfold branch
  rw [branch_block, averaged_eq _ (blk11 m c t), blk10, funext (row_eq m c t r b s hb hs kept hk)]

/-- The convolution half. -/
theorem branch_eq (c : Dev nD) : (dats m 0 c).arrAt 18 cfg0.N = Cert.Reference3Ideal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) := by
  funext i
  obtain ⟨b, s, d, rfl⟩ := split3 i
  obtain ⟨t, r, hb, hs⟩ := place b s
  rw [Cert.Reference3Ideal.Pre.branch_apply]
  by_cases h0 : t.val % 8 = 0
  · exact (array18_first m c t r d b s hb hs h0).trans (branch_entry m c t r b s hb hs _ (holds_first m c t b h0) d)
  · exact (array18_later m c t r d b s hb hs h0 ⟨t.val - 1, by have := t.isLt; omega⟩ rfl).trans (branch_entry m c t r b s hb hs _ (holds_later m c t _ b h0 rfl hb) d)

end Cert.Kernel3Ideal.Pre
end
-- ==== Proof.lean ====
/-
  The claims, assembled: the frames, the idealized references' quiescence, and the equations of the kernels' results with the
  references' over the extended reals, for the experts, the projection and routing, the input projection, and the modulation.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Adequacy
public import Idealize.ShloMosaic.Init
public import Idealize.ShloMosaic.Lib.Quiescent
public import proofs.«01_k».proof.Proof.MoeEq
public import proofs.«01_k».proof.Proof.PostEq
public import proofs.«01_k».proof.Proof.ModEq
public import proofs.«01_k».proof.Proof.PreEq

@[expose] public section

noncomputable section

namespace Cert.Proof

open Idealize.ShloMosaic Idealize.SL.Sem

/-- The idealized reference runs, ends with its counters at zero and leaves its arguments as they were. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So does the routing reference, -/
theorem quiescent_Reference2Ideal : quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- the input projection's reference, -/
theorem quiescent_Reference3Ideal : quiescent_Reference3Ideal := fun m ρ _ =>
  (θ_run Cert.Reference3Ideal.defs _ _).mono (fun r h => ⟨fun c => (h c).2.2.2.2.2.2.2, sem_eq_zero_of_no_sems (by decide) r.2⟩)
    (Cert.Reference3Ideal.Value.run (F := Ideal) m ρ)

/-- and the modulation's reference. -/
theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- On agreeing arguments the idealized kernel and the idealized reference end with the same result. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨a0, a1, a2, a3, a4, a5, a6⟩ := hagree c
  rw [Cert.ReferenceIdeal.Read.val_main_v80_eq, Cert.KernelIdeal.Moe.result_eq m c, a0, a1, a2, a3, a4, a5, a6]

/-- On agreeing arguments, the modulation, the norm's weights and the routing weights and biases finite, the projection-and-routing
    kernel and its reference end with the same residual tokens, modulated norms and combine weights. -/
theorem algebraic_Kernel2Ideal_Reference2Ideal_pre_finite [hPre_finite : Cert.Pre_finite.Facts] : algebraic_Kernel2Ideal_Reference2Ideal_pre_finite := by
  intro m ρ m' ρ' hpre hagree
  refine ⟨_, _, _, Cert.Kernel2Ideal.Value.run_blocks (F := Ideal) m ρ, ?_⟩
  refine (θ_run Cert.Reference2Ideal.defs _ _).mono (fun _ h c => ⟨(h c).1.trans ?_, (h c).2.1.trans ?_, (h c).2.2.1.trans ?_, (h c).2.2.2⟩) (Cert.Reference2Ideal.Value.run (F := Ideal) m' ρ')
  all_goals obtain ⟨a0, a1, a2, a3, a4, a5, a6, a7, a8, a9⟩ := hagree c
  · refine (Cert.Reference2Ideal.Read.val_main_v9_eq (StableHlo.launchContents m' c)).trans ?_
    refine Eq.trans ?_ (Cert.Kernel2Ideal.Post.tokens_eq m c).symm
    rw [← a0, ← a1, ← a2, ← a3, ← a5]
  · refine (Cert.Reference2Ideal.Read.val_main_v85_eq (StableHlo.launchContents m' c)).trans ?_
    refine Eq.trans ?_ (Cert.Kernel2Ideal.Post.norms_eq m c).symm
    rw [← a0, ← a1, ← a2, ← a3, ← a4, ← a5]
  · refine (Cert.Reference2Ideal.Read.val_main_v84_eq (StableHlo.launchContents m' c)).trans ?_
    obtain ⟨p3, p4, p6, p7, p8, p9⟩ := hpre c
    refine Eq.trans ?_ (Cert.Kernel2Ideal.Post.weights_eq m c
      (fun b j k => Cert.Kernel2Ideal.Post.real_of_test _ (congrFun p3 (ix3 b j k)))
      (fun k => Cert.Kernel2Ideal.Post.real_of_test _ (congrFun p4 (ix1 k)))
      (fun k j => Cert.Kernel2Ideal.Post.real_of_test _ (congrFun p6 (ix2 k j)))
      (fun j => Cert.Kernel2Ideal.Post.real_of_test _ (congrFun p7 (ix1 j)))
      (fun k j => Cert.Kernel2Ideal.Post.real_of_test _ (congrFun p8 (ix2 k j)))
      (fun j => Cert.Kernel2Ideal.Post.real_of_test _ (congrFun p9 (ix1 j)))).symm
    rw [← a0, ← a1, ← a2, ← a3, ← a4, ← a5, ← a6, ← a7, ← a8, ← a9]

/-- On agreeing arguments the input-projection kernel and its reference end with the same queries, keys, values, indexer queries,
    indexer keys, indexer weights and convolution half. -/
theorem algebraic_Kernel3Ideal_Reference3Ideal : algebraic_Kernel3Ideal_Reference3Ideal := by
  intro m ρ m' ρ' _ hagree
  refine ⟨_, _, _, _, _, _, _, Cert.Kernel3Ideal.Value.run_blocks (F := Ideal) m ρ, ?_⟩
  refine (θ_run Cert.Reference3Ideal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩) (Cert.Reference3Ideal.Value.run (F := Ideal) m' ρ')
  all_goals obtain ⟨a0, a1, a2, a3, a4, a5, a6, a7⟩ := hagree c
  · refine (Cert.Reference3Ideal.Read.val_main_v107_eq m' c).trans ?_
    refine Eq.trans ?_ (Cert.Kernel3Ideal.Pre.queries_eq m c).symm
    rw [← a0, ← a1, ← a2, ← a3, ← a4]
  · refine (Cert.Reference3Ideal.Read.val_main_v108_eq m' c).trans ?_
    refine Eq.trans ?_ (Cert.Kernel3Ideal.Pre.keys_eq m c).symm
    rw [← a0, ← a1, ← a2, ← a3, ← a5]
  · refine (Cert.Reference3Ideal.Read.val_main_v109_eq _ _ _ _).trans ?_
    refine Eq.trans ?_ (Cert.Kernel3Ideal.Pre.values_eq m c).symm
    rw [← a0, ← a1, ← a2, ← a3]
  · refine (Cert.Reference3Ideal.Read.val_main_v110_eq _ _ _ _).trans ?_
    refine Eq.trans ?_ (Cert.Kernel3Ideal.Pre.index_queries_eq m c).symm
    rw [← a0, ← a1, ← a2, ← a3]
  · refine (Cert.Reference3Ideal.Read.val_main_v112_eq _ _ _ _).trans ?_
    refine Eq.trans ?_ (Cert.Kernel3Ideal.Pre.index_keys_eq m c).symm
    rw [← a0, ← a1, ← a2, ← a3]
  · refine (Cert.Reference3Ideal.Read.val_main_v113_eq _ _ _ _).trans ?_
    refine Eq.trans ?_ (Cert.Kernel3Ideal.Pre.index_weights_eq m c).symm
    rw [← a0, ← a1, ← a2, ← a3]
  · refine (Cert.Reference3Ideal.Read.val_main_v114_eq m' c).trans ?_
    refine Eq.trans ?_ (Cert.Kernel3Ideal.Pre.branch_eq m c).symm
    rw [← a0, ← a1, ← a2, ← a3, ← a6, ← a7]

/-- On agreeing arguments the modulation kernel and its reference end with the same result. -/
theorem algebraic_Kernel4Ideal_Reference4Ideal : algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨(h c).1.trans ?_, (h c).2⟩) (Cert.Reference4Ideal.Value.run (F := Ideal) m' ρ')
  obtain ⟨a0, a1, a2⟩ := hagree c
  refine (Cert.Reference4Ideal.Read.val_main_v4_eq _ _ _).trans ?_
  rw [Cert.Kernel4Ideal.Mod.result_eq m c, a0, a1, a2]

/-- The side conditions of the finiteness test. -/
theorem facts_finite : Cert.Pre_finite.Facts := by constructor <;> decide

/-- Every stated claim. -/
theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts, facts_finite,
   fun m ρ _ => Cert.Kernel.Gen.frame m ρ, fun m ρ _ => Cert.KernelIdeal.Gen.frame m ρ, quiescent_ReferenceIdeal,
   fun m ρ _ => Cert.Kernel2.Gen.frame m ρ, fun m ρ _ => Cert.Kernel2Ideal.Gen.frame m ρ, fun m ρ _ => Cert.Kernel2Ideal.Gen.frame m ρ,
   quiescent_Reference2Ideal, fun m ρ _ => quiescent_Reference2Ideal m ρ trivial,
   fun m ρ _ => Cert.Kernel3.Gen.frame m ρ, fun m ρ _ => Cert.Kernel3Ideal.Gen.frame m ρ, quiescent_Reference3Ideal,
   fun m ρ _ => Cert.Kernel4.Gen.frame m ρ, fun m ρ _ => Cert.Kernel4Ideal.Gen.frame m ρ, quiescent_Reference4Ideal,
   (trivial : preserves_Kernel_KernelIdeal), algebraic_KernelIdeal_ReferenceIdeal,
   (trivial : preserves_Kernel2_Kernel2Ideal), algebraic_Kernel2Ideal_Reference2Ideal_pre_finite (hPre_finite := facts_finite),
   (trivial : preserves_Kernel3_Kernel3Ideal), algebraic_Kernel3Ideal_Reference3Ideal,
   (trivial : preserves_Kernel4_Kernel4Ideal), algebraic_Kernel4Ideal_Reference4Ideal⟩

end Cert.Proof

end
